-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_capped_KernelIdeal [hPre_capped_KernelIdeal : Cert.Pre_capped_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_capped_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_capped_ReferenceIdeal [hPre_capped_ReferenceIdeal : Cert.Pre_capped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_capped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_capped_KernelIdeal [hKernelIdeal : Cert.KernelIdeal.Facts] [hPre_capped_KernelIdeal : Cert.Pre_capped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_capped_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_capped_ReferenceIdeal [hReferenceIdeal : Cert.ReferenceIdeal.Facts] [hPre_capped_ReferenceIdeal : Cert.Pre_capped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_capped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_capped_KernelIdeal [hKernelIdeal : Cert.KernelIdeal.Facts] [hReferenceIdeal : Cert.ReferenceIdeal.Facts] [hPre_capped_KernelIdeal : Cert.Pre_capped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_capped_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![16384, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_capped_KernelIdeal : Cert.Pre_capped_KernelIdeal.Facts) (hPre_capped_ReferenceIdeal : Cert.Pre_capped_ReferenceIdeal.Facts),
    quiescent_Kernel (hKernel := hKernel)
    ∧ quiescent_KernelIdeal (hKernelIdeal := hKernelIdeal)
    ∧ quiescent_KernelIdeal_pre_capped_KernelIdeal (hKernelIdeal := hKernelIdeal) (hPre_capped_KernelIdeal := hPre_capped_KernelIdeal)
    ∧ quiescent_ReferenceIdeal (hReferenceIdeal := hReferenceIdeal)
    ∧ quiescent_ReferenceIdeal_pre_capped_ReferenceIdeal (hReferenceIdeal := hReferenceIdeal) (hPre_capped_ReferenceIdeal := hPre_capped_ReferenceIdeal)
    ∧ preserves_Kernel_KernelIdeal
    ∧ algebraic_KernelIdeal_ReferenceIdeal_pre_capped_KernelIdeal (hKernelIdeal := hKernelIdeal) (hReferenceIdeal := hReferenceIdeal) (hPre_capped_KernelIdeal := hPre_capped_KernelIdeal)
-- ==== Pre_capped_KernelIdeal.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S512 : Shape := ⟨1, ![512]⟩
abbrev S1x512 : Shape := ⟨2, ![1, 512]⟩
abbrev S512x512 : Shape := ⟨2, ![512, 512]⟩
abbrev S_ : Shape := ⟨0, ![]⟩

class Facts : Prop where
  shapeCasts_S512x1_S512 : S512x1.ShapeCasts S512
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  natLt_1_32 : 1 < 32
  reducesTo_S512x512_S512_d1 : S512x512.ReducesTo [1] S512
  h_S_ : 0 < S_.numel
  bcast_S_S512 : S_.BroadcastsInDim S512 (![] : Fin 0 → Fin S512.rank)

variable [Facts]

def fn_part1 {F : FTy → Type} [FloatOps F] (main_v14 : IVec S512 32) (main_v19 : IVec S512 1) (main_c_2 : IVec S_ 32) : IVec S512 1 :=
  let main_v20 : IVec S512 32 := broadcastInDim S512 ![] bcast_S_S512 main_c_2
  let main_v21 : IVec S512 1 := cmpi .slt main_v14 main_v20
  let main_v22 : IVec S512 1 := andi main_v19 main_v21
  main_v22

def fn {F : FTy → Type} [FloatOps F] (main_arg0 : FVec F S512x256 .bf16) (main_arg1 : FVec F S256x64 .bf16) (main_arg2 : IVec S512x1 32) (main_arg3 : FVec F S2x256x512 .bf16) : IVec S512 1 :=
  let main_v0 : IVec S512 32 := shapeCast S512 main_arg2 shapeCasts_S512x1_S512
  let main_v1 : IVec S512 32 := iotaInDim S512 32 0
  let main_v2 : IVec S512x1 32 := broadcastInDim S512x1 ![0] bcast_S512_S512x1_0 main_v0
  let main_v3 : IVec S1x512 32 := broadcastInDim S1x512 ![1] bcast_S512_S1x512_1 main_v0
  let main_v4 : IVec S512x512 32 := broadcastInDim S512x512 ![0, 1] bcast_S512x1_S512x512_0_1 main_v2
  let main_v5 : IVec S512x512 32 := broadcastInDim S512x512 ![0, 1] bcast_S1x512_S512x512_0_1 main_v3
  let main_v6 : IVec S512x512 1 := cmpi .eq main_v4 main_v5
  let main_v7 : IVec S1x512 32 := broadcastInDim S1x512 ![1] bcast_S512_S1x512_1 main_v1
  let main_v8 : IVec S512x1 32 := broadcastInDim S512x1 ![0] bcast_S512_S512x1_0 main_v1
  let main_v9 : IVec S512x512 32 := broadcastInDim S512x512 ![0, 1] bcast_S1x512_S512x512_0_1 main_v7
  let main_v10 : IVec S512x512 32 := broadcastInDim S512x512 ![0, 1] bcast_S512x1_S512x512_0_1 main_v8
  let main_v11 : IVec S512x512 1 := cmpi .slt main_v9 main_v10
  let main_v12 : IVec S512x512 1 := andi main_v6 main_v11
  let main_v13 : IVec S512x512 32 := (extui 32 · natLt_1_32) main_v12
  let main_c : IVec S_ 32 := constantI S_ 32 0#32
  let main_v14 : IVec S512 32 := (fun x v => Host.reduce IntOp.addi x v reducesTo_S512x512_S512_d1 h_S_) main_v13 main_c
  let main_c_0 : IVec S_ 32 := constantI S_ 32 0#32
  let main_v15 : IVec S512 32 := broadcastInDim S512 ![] bcast_S_S512 main_c_0
  let main_v16 : IVec S512 1 := cmpi .sge main_v0 main_v15
  let main_c_1 : IVec S_ 32 := constantI S_ 32 64#32
  let main_v17 : IVec S512 32 := broadcastInDim S512 ![] bcast_S_S512 main_c_1
  let main_v18 : IVec S512 1 := cmpi .slt main_v0 main_v17
  let main_v19 : IVec S512 1 := andi main_v16 main_v18
  let main_c_2 : IVec S_ 32 := constantI S_ 32 32#32
  fn_part1 (F := F) main_v14 main_v19 main_c_2
-- ==== Pre_capped_ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S16384 : Shape := ⟨1, ![16384]⟩
abbrev S1x16384 : Shape := ⟨2, ![1, 16384]⟩
abbrev S16384x16384 : Shape := ⟨2, ![16384, 16384]⟩
abbrev S_ : Shape := ⟨0, ![]⟩

class Facts : Prop where
  shapeCasts_S16384x1_S16384 : S16384x1.ShapeCasts S16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  natLt_1_32 : 1 < 32
  reducesTo_S16384x16384_S16384_d1 : S16384x16384.ReducesTo [1] S16384
  h_S_ : 0 < S_.numel
  bcast_S_S16384 : S_.BroadcastsInDim S16384 (![] : Fin 0 → Fin S16384.rank)

variable [Facts]

def fn_part1 {F : FTy → Type} [FloatOps F] (main_v14 : IVec S16384 32) (main_v19 : IVec S16384 1) (main_c_2 : IVec S_ 32) : IVec S16384 1 :=
  let main_v20 : IVec S16384 32 := broadcastInDim S16384 ![] bcast_S_S16384 main_c_2
  let main_v21 : IVec S16384 1 := cmpi .slt main_v14 main_v20
  let main_v22 : IVec S16384 1 := andi main_v19 main_v21
  main_v22

def fn {F : FTy → Type} [FloatOps F] (main_arg0 : FVec F S16384x256 .bf16) (main_arg1 : FVec F S256x64 .bf16) (main_arg2 : IVec S16384x1 32) (main_arg3 : FVec F S64x256x512 .bf16) : IVec S16384 1 :=
  let main_v0 : IVec S16384 32 := shapeCast S16384 main_arg2 shapeCasts_S16384x1_S16384
  let main_v1 : IVec S16384 32 := iotaInDim S16384 32 0
  let main_v2 : IVec S16384x1 32 := broadcastInDim S16384x1 ![0] bcast_S16384_S16384x1_0 main_v0
  let main_v3 : IVec S1x16384 32 := broadcastInDim S1x16384 ![1] bcast_S16384_S1x16384_1 main_v0
  let main_v4 : IVec S16384x16384 32 := broadcastInDim S16384x16384 ![0, 1] bcast_S16384x1_S16384x16384_0_1 main_v2
  let main_v5 : IVec S16384x16384 32 := broadcastInDim S16384x16384 ![0, 1] bcast_S1x16384_S16384x16384_0_1 main_v3
  let main_v6 : IVec S16384x16384 1 := cmpi .eq main_v4 main_v5
  let main_v7 : IVec S1x16384 32 := broadcastInDim S1x16384 ![1] bcast_S16384_S1x16384_1 main_v1
  let main_v8 : IVec S16384x1 32 := broadcastInDim S16384x1 ![0] bcast_S16384_S16384x1_0 main_v1
  let main_v9 : IVec S16384x16384 32 := broadcastInDim S16384x16384 ![0, 1] bcast_S1x16384_S16384x16384_0_1 main_v7
  let main_v10 : IVec S16384x16384 32 := broadcastInDim S16384x16384 ![0, 1] bcast_S16384x1_S16384x16384_0_1 main_v8
  let main_v11 : IVec S16384x16384 1 := cmpi .slt main_v9 main_v10
  let main_v12 : IVec S16384x16384 1 := andi main_v6 main_v11
  let main_v13 : IVec S16384x16384 32 := (extui 32 · natLt_1_32) main_v12
  let main_c : IVec S_ 32 := constantI S_ 32 0#32
  let main_v14 : IVec S16384 32 := (fun x v => Host.reduce IntOp.addi x v reducesTo_S16384x16384_S16384_d1 h_S_) main_v13 main_c
  let main_c_0 : IVec S_ 32 := constantI S_ 32 0#32
  let main_v15 : IVec S16384 32 := broadcastInDim S16384 ![] bcast_S_S16384 main_c_0
  let main_v16 : IVec S16384 1 := cmpi .sge main_v0 main_v15
  let main_c_1 : IVec S_ 32 := constantI S_ 32 64#32
  let main_v17 : IVec S16384 32 := broadcastInDim S16384 ![] bcast_S_S16384 main_c_1
  let main_v18 : IVec S16384 1 := cmpi .slt main_v0 main_v17
  let main_v19 : IVec S16384 1 := andi main_v16 main_v18
  let main_c_2 : IVec S_ 32 := constantI S_ 32 32#32
  fn_part1 (F := F) main_v14 main_v19 main_c_2
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S512x512 : Shape := ⟨2, ![512, 512]⟩
abbrev S2048x256 : Shape := ⟨2, ![2048, 256]⟩
abbrev S2048x512 : Shape := ⟨2, ![2048, 512]⟩
abbrev S32x1x64 : Shape := ⟨3, ![32, 1, 64]⟩
abbrev S31 : Shape := ⟨1, ![31]⟩
abbrev S_ : Shape := ⟨0, ![]⟩
abbrev S512x64 : Shape := ⟨2, ![512, 64]⟩
abbrev S64 : Shape := ⟨1, ![64]⟩
abbrev S1x64 : Shape := ⟨2, ![1, 64]⟩
abbrev S1x1x64 : Shape := ⟨3, ![1, 1, 64]⟩
abbrev S1 : Shape := ⟨1, ![1]⟩
abbrev S512 : Shape := ⟨1, ![512]⟩
abbrev S32x64 : Shape := ⟨2, ![32, 64]⟩
abbrev S32x1 : Shape := ⟨2, ![32, 1]⟩
abbrev S512x2048 : Shape := ⟨2, ![512, 2048]⟩
abbrev S64x256 : Shape := ⟨2, ![64, 256]⟩
abbrev S32x256 : Shape := ⟨2, ![32, 256]⟩
abbrev S1x256x512 : Shape := ⟨3, ![1, 256, 512]⟩
abbrev S256x512 : Shape := ⟨2, ![256, 512]⟩
abbrev S32x512 : Shape := ⟨2, ![32, 512]⟩
abbrev S64x512 : Shape := ⟨2, ![64, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S512x512, .f32⟩
  | .local _ .vmem, ⟨4, _⟩ => ⟨S2048x256, .bf16⟩
  | .local _ .vmem, ⟨5, _⟩ => ⟨S2048x256, .bf16⟩
  | .local _ .vmem, ⟨6, _⟩ => ⟨S2048x512, .bf16⟩
  | .local _ .vmem, ⟨7, _⟩ => ⟨S2048x512, .bf16⟩
  | .local _ .vmem, ⟨8, _⟩ => ⟨S32x1x64, .f32⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 190 → Bool
  | ⟨i, _⟩ => dmaSemScopedAt i

abbrev sig : RefSig :=
  (ofTc nBuf bufTy 1 190 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_284 : BitVec 32 := 1#32
  let v419 : BitVec 32 := Scalar.addi v2 c1_i32_284
  let c32_i32_285 : BitVec 32 := 32#32
  let c0_i32_286 : BitVec 32 := 0#32
  let v420 : BitVec 1 := Scalar.cmpi .eq c32_i32_285 c0_i32_286
  let c1_i32_287 : BitVec 32 := 1#32
  let v421 : BitVec 32 := Scalar.select v420 c1_i32_287 c32_i32_285
  let v422 : BitVec 32 := Scalar.remsi v419 v421
  let c0_i32_289 : BitVec 32 := 0#32
  let v424 : BitVec 1 := Scalar.cmpi .slt v422 c0_i32_289
  let c0_i32_290 : BitVec 32 := 0#32
  let v425 : BitVec 1 := Scalar.cmpi .slt v421 c0_i32_290
  let v426 : BitVec 1 := Scalar.xori v424 v425
  let c0_i32_288 : BitVec 32 := 0#32
  let v423 : BitVec 1 := Scalar.cmpi .ne v422 c0_i32_288
  let v427 : BitVec 1 := Scalar.andi v426 v423
  let v428 : BitVec 32 := Scalar.addi v422 v421
  let v429 : BitVec 32 := Scalar.select v427 v428 v422
  let c1_i32_295 : BitVec 32 := 1#32
  let v430 : BitVec 32 := Scalar.muli v429 c1_i32_295
  let v431 : BitVec 32 := Scalar.addi c0_i32_296 v430
  v431.toNat
def k0_dev33 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_301 : BitVec 32 := 2#32
  let v440 : BitVec 32 := Scalar.addi v2 c2_i32_301
  let c32_i32_302 : BitVec 32 := 32#32
  let c0_i32_303 : BitVec 32 := 0#32
  let v441 : BitVec 1 := Scalar.cmpi .eq c32_i32_302 c0_i32_303
  let c1_i32_304 : BitVec 32 := 1#32
  let v442 : BitVec 32 := Scalar.select v441 c1_i32_304 c32_i32_302
  let v443 : BitVec 32 := Scalar.remsi v440 v442
  let c0_i32_306 : BitVec 32 := 0#32
  let v445 : BitVec 1 := Scalar.cmpi .slt v443 c0_i32_306
  let c0_i32_307 : BitVec 32 := 0#32
  let v446 : BitVec 1 := Scalar.cmpi .slt v442 c0_i32_307
  let v447 : BitVec 1 := Scalar.xori v445 v446
  let c0_i32_305 : BitVec 32 := 0#32
  let v444 : BitVec 1 := Scalar.cmpi .ne v443 c0_i32_305
  let v448 : BitVec 1 := Scalar.andi v447 v444
  let v449 : BitVec 32 := Scalar.addi v443 v442
  let v450 : BitVec 32 := Scalar.select v448 v449 v443
  let c1_i32_312 : BitVec 32 := 1#32
  let v451 : BitVec 32 := Scalar.muli v450 c1_i32_312
  let v452 : BitVec 32 := Scalar.addi c0_i32_313 v451
  v452.toNat
def k0_dev34 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_318 : BitVec 32 := 3#32
  let v461 : BitVec 32 := Scalar.addi v2 c3_i32_318
  let c32_i32_319 : BitVec 32 := 32#32
  let c0_i32_320 : BitVec 32 := 0#32
  let v462 : BitVec 1 := Scalar.cmpi .eq c32_i32_319 c0_i32_320
  let c1_i32_321 : BitVec 32 := 1#32
  let v463 : BitVec 32 := Scalar.select v462 c1_i32_321 c32_i32_319
  let v464 : BitVec 32 := Scalar.remsi v461 v463
  let c0_i32_323 : BitVec 32 := 0#32
  let v466 : BitVec 1 := Scalar.cmpi .slt v464 c0_i32_323
  let c0_i32_324 : BitVec 32 := 0#32
  let v467 : BitVec 1 := Scalar.cmpi .slt v463 c0_i32_324
  let v468 : BitVec 1 := Scalar.xori v466 v467
  let c0_i32_322 : BitVec 32 := 0#32
  let v465 : BitVec 1 := Scalar.cmpi .ne v464 c0_i32_322
  let v469 : BitVec 1 := Scalar.andi v468 v465
  let v470 : BitVec 32 := Scalar.addi v464 v463
  let v471 : BitVec 32 := Scalar.select v469 v470 v464
  let c1_i32_329 : BitVec 32 := 1#32
  let v472 : BitVec 32 := Scalar.muli v471 c1_i32_329
  let v473 : BitVec 32 := Scalar.addi c0_i32_330 v472
  v473.toNat
def k0_dev35 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_335 : BitVec 32 := 4#32
  let v482 : BitVec 32 := Scalar.addi v2 c4_i32_335
  let c32_i32_336 : BitVec 32 := 32#32
  let c0_i32_337 : BitVec 32 := 0#32
  let v483 : BitVec 1 := Scalar.cmpi .eq c32_i32_336 c0_i32_337
  let c1_i32_338 : BitVec 32 := 1#32
  let v484 : BitVec 32 := Scalar.select v483 c1_i32_338 c32_i32_336
  let v485 : BitVec 32 := Scalar.remsi v482 v484
  let c0_i32_340 : BitVec 32 := 0#32
  let v487 : BitVec 1 := Scalar.cmpi .slt v485 c0_i32_340
  let c0_i32_341 : BitVec 32 := 0#32
  let v488 : BitVec 1 := Scalar.cmpi .slt v484 c0_i32_341
  let v489 : BitVec 1 := Scalar.xori v487 v488
  let c0_i32_339 : BitVec 32 := 0#32
  let v486 : BitVec 1 := Scalar.cmpi .ne v485 c0_i32_339
  let v490 : BitVec 1 := Scalar.andi v489 v486
  let v491 : BitVec 32 := Scalar.addi v485 v484
  let v492 : BitVec 32 := Scalar.select v490 v491 v485
  let c1_i32_346 : BitVec 32 := 1#32
  let v493 : BitVec 32 := Scalar.muli v492 c1_i32_346
  let v494 : BitVec 32 := Scalar.addi c0_i32_347 v493
  v494.toNat
def k0_dev36 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_352 : BitVec 32 := 5#32
  let v503 : BitVec 32 := Scalar.addi v2 c5_i32_352
  let c32_i32_353 : BitVec 32 := 32#32
  let c0_i32_354 : BitVec 32 := 0#32
  let v504 : BitVec 1 := Scalar.cmpi .eq c32_i32_353 c0_i32_354
  let c1_i32_355 : BitVec 32 := 1#32
  let v505 : BitVec 32 := Scalar.select v504 c1_i32_355 c32_i32_353
  let v506 : BitVec 32 := Scalar.remsi v503 v505
  let c0_i32_357 : BitVec 32 := 0#32
  let v508 : BitVec 1 := Scalar.cmpi .slt v506 c0_i32_357
  let c0_i32_358 : BitVec 32 := 0#32
  let v509 : BitVec 1 := Scalar.cmpi .slt v505 c0_i32_358
  let v510 : BitVec 1 := Scalar.xori v508 v509
  let c0_i32_356 : BitVec 32 := 0#32
  let v507 : BitVec 1 := Scalar.cmpi .ne v506 c0_i32_356
  let v511 : BitVec 1 := Scalar.andi v510 v507
  let v512 : BitVec 32 := Scalar.addi v506 v505
  let v513 : BitVec 32 := Scalar.select v511 v512 v506
  let c1_i32_363 : BitVec 32 := 1#32
  let v514 : BitVec 32 := Scalar.muli v513 c1_i32_363
  let v515 : BitVec 32 := Scalar.addi c0_i32_364 v514
  v515.toNat
def k0_dev37 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_369 : BitVec 32 := 6#32
  let v524 : BitVec 32 := Scalar.addi v2 c6_i32_369
  let c32_i32_370 : BitVec 32 := 32#32
  let c0_i32_371 : BitVec 32 := 0#32
  let v525 : BitVec 1 := Scalar.cmpi .eq c32_i32_370 c0_i32_371
  let c1_i32_372 : BitVec 32 := 1#32
  let v526 : BitVec 32 := Scalar.select v525 c1_i32_372 c32_i32_370
  let v527 : BitVec 32 := Scalar.remsi v524 v526
  let c0_i32_374 : BitVec 32 := 0#32
  let v529 : BitVec 1 := Scalar.cmpi .slt v527 c0_i32_374
  let c0_i32_375 : BitVec 32 := 0#32
  let v530 : BitVec 1 := Scalar.cmpi .slt v526 c0_i32_375
  let v531 : BitVec 1 := Scalar.xori v529 v530
  let c0_i32_373 : BitVec 32 := 0#32
  let v528 : BitVec 1 := Scalar.cmpi .ne v527 c0_i32_373
  let v532 : BitVec 1 := Scalar.andi v531 v528
  let v533 : BitVec 32 := Scalar.addi v527 v526
  let v534 : BitVec 32 := Scalar.select v532 v533 v527
  let c1_i32_380 : BitVec 32 := 1#32
  let v535 : BitVec 32 := Scalar.muli v534 c1_i32_380
  let v536 : BitVec 32 := Scalar.addi c0_i32_381 v535
  v536.toNat
def k0_dev38 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_386 : BitVec 32 := 7#32
  let v545 : BitVec 32 := Scalar.addi v2 c7_i32_386
  let c32_i32_387 : BitVec 32 := 32#32
  let c0_i32_388 : BitVec 32 := 0#32
  let v546 : BitVec 1 := Scalar.cmpi .eq c32_i32_387 c0_i32_388
  let c1_i32_389 : BitVec 32 := 1#32
  let v547 : BitVec 32 := Scalar.select v546 c1_i32_389 c32_i32_387
  let v548 : BitVec 32 := Scalar.remsi v545 v547
  let c0_i32_391 : BitVec 32 := 0#32
  let v550 : BitVec 1 := Scalar.cmpi .slt v548 c0_i32_391
  let c0_i32_392 : BitVec 32 := 0#32
  let v551 : BitVec 1 := Scalar.cmpi .slt v547 c0_i32_392
  let v552 : BitVec 1 := Scalar.xori v550 v551
  let c0_i32_390 : BitVec 32 := 0#32
  let v549 : BitVec 1 := Scalar.cmpi .ne v548 c0_i32_390
  let v553 : BitVec 1 := Scalar.andi v552 v549
  let v554 : BitVec 32 := Scalar.addi v548 v547
  let v555 : BitVec 32 := Scalar.select v553 v554 v548
  let c1_i32_397 : BitVec 32 := 1#32
  let v556 : BitVec 32 := Scalar.muli v555 c1_i32_397
  let v557 : BitVec 32 := Scalar.addi c0_i32_398 v556
  v557.toNat
def k0_dev39 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_403 : BitVec 32 := 8#32
  let v566 : BitVec 32 := Scalar.addi v2 c8_i32_403
  let c32_i32_404 : BitVec 32 := 32#32
  let c0_i32_405 : BitVec 32 := 0#32
  let v567 : BitVec 1 := Scalar.cmpi .eq c32_i32_404 c0_i32_405
  let c1_i32_406 : BitVec 32 := 1#32
  let v568 : BitVec 32 := Scalar.select v567 c1_i32_406 c32_i32_404
  let v569 : BitVec 32 := Scalar.remsi v566 v568
  let c0_i32_408 : BitVec 32 := 0#32
  let v571 : BitVec 1 := Scalar.cmpi .slt v569 c0_i32_408
  let c0_i32_409 : BitVec 32 := 0#32
  let v572 : BitVec 1 := Scalar.cmpi .slt v568 c0_i32_409
  let v573 : BitVec 1 := Scalar.xori v571 v572
  let c0_i32_407 : BitVec 32 := 0#32
  let v570 : BitVec 1 := Scalar.cmpi .ne v569 c0_i32_407
  let v574 : BitVec 1 := Scalar.andi v573 v570
  let v575 : BitVec 32 := Scalar.addi v569 v568
  let v576 : BitVec 32 := Scalar.select v574 v575 v569
  let c1_i32_414 : BitVec 32 := 1#32
  let v577 : BitVec 32 := Scalar.muli v576 c1_i32_414
  let v578 : BitVec 32 := Scalar.addi c0_i32_415 v577
  v578.toNat
def k0_dev40 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_420 : BitVec 32 := 9#32
  let v587 : BitVec 32 := Scalar.addi v2 c9_i32_420
  let c32_i32_421 : BitVec 32 := 32#32
  let c0_i32_422 : BitVec 32 := 0#32
  let v588 : BitVec 1 := Scalar.cmpi .eq c32_i32_421 c0_i32_422
  let c1_i32_423 : BitVec 32 := 1#32
  let v589 : BitVec 32 := Scalar.select v588 c1_i32_423 c32_i32_421
  let v590 : BitVec 32 := Scalar.remsi v587 v589
  let c0_i32_425 : BitVec 32 := 0#32
  let v592 : BitVec 1 := Scalar.cmpi .slt v590 c0_i32_425
  let c0_i32_426 : BitVec 32 := 0#32
  let v593 : BitVec 1 := Scalar.cmpi .slt v589 c0_i32_426
  let v594 : BitVec 1 := Scalar.xori v592 v593
  let c0_i32_424 : BitVec 32 := 0#32
  let v591 : BitVec 1 := Scalar.cmpi .ne v590 c0_i32_424
  let v595 : BitVec 1 := Scalar.andi v594 v591
  let v596 : BitVec 32 := Scalar.addi v590 v589
  let v597 : BitVec 32 := Scalar.select v595 v596 v590
  let c1_i32_431 : BitVec 32 := 1#32
  let v598 : BitVec 32 := Scalar.muli v597 c1_i32_431
  let v599 : BitVec 32 := Scalar.addi c0_i32_432 v598
  v599.toNat
def k0_dev41 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_437 : BitVec 32 := 10#32
  let v608 : BitVec 32 := Scalar.addi v2 c10_i32_437
  let c32_i32_438 : BitVec 32 := 32#32
  let c0_i32_439 : BitVec 32 := 0#32
  let v609 : BitVec 1 := Scalar.cmpi .eq c32_i32_438 c0_i32_439
  let c1_i32_440 : BitVec 32 := 1#32
  let v610 : BitVec 32 := Scalar.select v609 c1_i32_440 c32_i32_438
  let v611 : BitVec 32 := Scalar.remsi v608 v610
  let c0_i32_442 : BitVec 32 := 0#32
  let v613 : BitVec 1 := Scalar.cmpi .slt v611 c0_i32_442
  let c0_i32_443 : BitVec 32 := 0#32
  let v614 : BitVec 1 := Scalar.cmpi .slt v610 c0_i32_443
  let v615 : BitVec 1 := Scalar.xori v613 v614
  let c0_i32_441 : BitVec 32 := 0#32
  let v612 : BitVec 1 := Scalar.cmpi .ne v611 c0_i32_441
  let v616 : BitVec 1 := Scalar.andi v615 v612
  let v617 : BitVec 32 := Scalar.addi v611 v610
  let v618 : BitVec 32 := Scalar.select v616 v617 v611
  let c1_i32_448 : BitVec 32 := 1#32
  let v619 : BitVec 32 := Scalar.muli v618 c1_i32_448
  let v620 : BitVec 32 := Scalar.addi c0_i32_449 v619
  v620.toNat
def k0_dev42 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_454 : BitVec 32 := 11#32
  let v629 : BitVec 32 := Scalar.addi v2 c11_i32_454
  let c32_i32_455 : BitVec 32 := 32#32
  let c0_i32_456 : BitVec 32 := 0#32
  let v630 : BitVec 1 := Scalar.cmpi .eq c32_i32_455 c0_i32_456
  let c1_i32_457 : BitVec 32 := 1#32
  let v631 : BitVec 32 := Scalar.select v630 c1_i32_457 c32_i32_455
  let v632 : BitVec 32 := Scalar.remsi v629 v631
  let c0_i32_459 : BitVec 32 := 0#32
  let v634 : BitVec 1 := Scalar.cmpi .slt v632 c0_i32_459
  let c0_i32_460 : BitVec 32 := 0#32
  let v635 : BitVec 1 := Scalar.cmpi .slt v631 c0_i32_460
  let v636 : BitVec 1 := Scalar.xori v634 v635
  let c0_i32_458 : BitVec 32 := 0#32
  let v633 : BitVec 1 := Scalar.cmpi .ne v632 c0_i32_458
  let v637 : BitVec 1 := Scalar.andi v636 v633
  let v638 : BitVec 32 := Scalar.addi v632 v631
  let v639 : BitVec 32 := Scalar.select v637 v638 v632
  let c1_i32_465 : BitVec 32 := 1#32
  let v640 : BitVec 32 := Scalar.muli v639 c1_i32_465
  let v641 : BitVec 32 := Scalar.addi c0_i32_466 v640
  v641.toNat
def k0_dev43 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_471 : BitVec 32 := 12#32
  let v650 : BitVec 32 := Scalar.addi v2 c12_i32_471
  let c32_i32_472 : BitVec 32 := 32#32
  let c0_i32_473 : BitVec 32 := 0#32
  let v651 : BitVec 1 := Scalar.cmpi .eq c32_i32_472 c0_i32_473
  let c1_i32_474 : BitVec 32 := 1#32
  let v652 : BitVec 32 := Scalar.select v651 c1_i32_474 c32_i32_472
  let v653 : BitVec 32 := Scalar.remsi v650 v652
  let c0_i32_476 : BitVec 32 := 0#32
  let v655 : BitVec 1 := Scalar.cmpi .slt v653 c0_i32_476
  let c0_i32_477 : BitVec 32 := 0#32
  let v656 : BitVec 1 := Scalar.cmpi .slt v652 c0_i32_477
  let v657 : BitVec 1 := Scalar.xori v655 v656
  let c0_i32_475 : BitVec 32 := 0#32
  let v654 : BitVec 1 := Scalar.cmpi .ne v653 c0_i32_475
  let v658 : BitVec 1 := Scalar.andi v657 v654
  let v659 : BitVec 32 := Scalar.addi v653 v652
  let v660 : BitVec 32 := Scalar.select v658 v659 v653
  let c1_i32_482 : BitVec 32 := 1#32
  let v661 : BitVec 32 := Scalar.muli v660 c1_i32_482
  let v662 : BitVec 32 := Scalar.addi c0_i32_483 v661
  v662.toNat
def k0_dev44 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_488 : BitVec 32 := 13#32
  let v671 : BitVec 32 := Scalar.addi v2 c13_i32_488
  let c32_i32_489 : BitVec 32 := 32#32
  let c0_i32_490 : BitVec 32 := 0#32
  let v672 : BitVec 1 := Scalar.cmpi .eq c32_i32_489 c0_i32_490
  let c1_i32_491 : BitVec 32 := 1#32
  let v673 : BitVec 32 := Scalar.select v672 c1_i32_491 c32_i32_489
  let v674 : BitVec 32 := Scalar.remsi v671 v673
  let c0_i32_493 : BitVec 32 := 0#32
  let v676 : BitVec 1 := Scalar.cmpi .slt v674 c0_i32_493
  let c0_i32_494 : BitVec 32 := 0#32
  let v677 : BitVec 1 := Scalar.cmpi .slt v673 c0_i32_494
  let v678 : BitVec 1 := Scalar.xori v676 v677
  let c0_i32_492 : BitVec 32 := 0#32
  let v675 : BitVec 1 := Scalar.cmpi .ne v674 c0_i32_492
  let v679 : BitVec 1 := Scalar.andi v678 v675
  let v680 : BitVec 32 := Scalar.addi v674 v673
  let v681 : BitVec 32 := Scalar.select v679 v680 v674
  let c1_i32_499 : BitVec 32 := 1#32
  let v682 : BitVec 32 := Scalar.muli v681 c1_i32_499
  let v683 : BitVec 32 := Scalar.addi c0_i32_500 v682
  v683.toNat
def k0_dev45 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_505 : BitVec 32 := 14#32
  let v692 : BitVec 32 := Scalar.addi v2 c14_i32_505
  let c32_i32_506 : BitVec 32 := 32#32
  let c0_i32_507 : BitVec 32 := 0#32
  let v693 : BitVec 1 := Scalar.cmpi .eq c32_i32_506 c0_i32_507
  let c1_i32_508 : BitVec 32 := 1#32
  let v694 : BitVec 32 := Scalar.select v693 c1_i32_508 c32_i32_506
  let v695 : BitVec 32 := Scalar.remsi v692 v694
  let c0_i32_510 : BitVec 32 := 0#32
  let v697 : BitVec 1 := Scalar.cmpi .slt v695 c0_i32_510
  let c0_i32_511 : BitVec 32 := 0#32
  let v698 : BitVec 1 := Scalar.cmpi .slt v694 c0_i32_511
  let v699 : BitVec 1 := Scalar.xori v697 v698
  let c0_i32_509 : BitVec 32 := 0#32
  let v696 : BitVec 1 := Scalar.cmpi .ne v695 c0_i32_509
  let v700 : BitVec 1 := Scalar.andi v699 v696
  let v701 : BitVec 32 := Scalar.addi v695 v694
  let v702 : BitVec 32 := Scalar.select v700 v701 v695
  let c1_i32_516 : BitVec 32 := 1#32
  let v703 : BitVec 32 := Scalar.muli v702 c1_i32_516
  let v704 : BitVec 32 := Scalar.addi c0_i32_517 v703
  v704.toNat
def k0_dev46 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_522 : BitVec 32 := 15#32
  let v713 : BitVec 32 := Scalar.addi v2 c15_i32_522
  let c32_i32_523 : BitVec 32 := 32#32
  let c0_i32_524 : BitVec 32 := 0#32
  let v714 : BitVec 1 := Scalar.cmpi .eq c32_i32_523 c0_i32_524
  let c1_i32_525 : BitVec 32 := 1#32
  let v715 : BitVec 32 := Scalar.select v714 c1_i32_525 c32_i32_523
  let v716 : BitVec 32 := Scalar.remsi v713 v715
  let c0_i32_527 : BitVec 32 := 0#32
  let v718 : BitVec 1 := Scalar.cmpi .slt v716 c0_i32_527
  let c0_i32_528 : BitVec 32 := 0#32
  let v719 : BitVec 1 := Scalar.cmpi .slt v715 c0_i32_528
  let v720 : BitVec 1 := Scalar.xori v718 v719
  let c0_i32_526 : BitVec 32 := 0#32
  let v717 : BitVec 1 := Scalar.cmpi .ne v716 c0_i32_526
  let v721 : BitVec 1 := Scalar.andi v720 v717
  let v722 : BitVec 32 := Scalar.addi v716 v715
  let v723 : BitVec 32 := Scalar.select v721 v722 v716
  let c1_i32_533 : BitVec 32 := 1#32
  let v724 : BitVec 32 := Scalar.muli v723 c1_i32_533
  let v725 : BitVec 32 := Scalar.addi c0_i32_534 v724
  v725.toNat
def k0_dev47 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_539 : BitVec 32 := 16#32
  let v734 : BitVec 32 := Scalar.addi v2 c16_i32_539
  let c32_i32_540 : BitVec 32 := 32#32
  let c0_i32_541 : BitVec 32 := 0#32
  let v735 : BitVec 1 := Scalar.cmpi .eq c32_i32_540 c0_i32_541
  let c1_i32_542 : BitVec 32 := 1#32
  let v736 : BitVec 32 := Scalar.select v735 c1_i32_542 c32_i32_540
  let v737 : BitVec 32 := Scalar.remsi v734 v736
  let c0_i32_544 : BitVec 32 := 0#32
  let v739 : BitVec 1 := Scalar.cmpi .slt v737 c0_i32_544
  let c0_i32_545 : BitVec 32 := 0#32
  let v740 : BitVec 1 := Scalar.cmpi .slt v736 c0_i32_545
  let v741 : BitVec 1 := Scalar.xori v739 v740
  let c0_i32_543 : BitVec 32 := 0#32
  let v738 : BitVec 1 := Scalar.cmpi .ne v737 c0_i32_543
  let v742 : BitVec 1 := Scalar.andi v741 v738
  let v743 : BitVec 32 := Scalar.addi v737 v736
  let v744 : BitVec 32 := Scalar.select v742 v743 v737
  let c1_i32_550 : BitVec 32 := 1#32
  let v745 : BitVec 32 := Scalar.muli v744 c1_i32_550
  let v746 : BitVec 32 := Scalar.addi c0_i32_551 v745
  v746.toNat
def k0_dev48 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_556 : BitVec 32 := 17#32
  let v755 : BitVec 32 := Scalar.addi v2 c17_i32_556
  let c32_i32_557 : BitVec 32 := 32#32
  let c0_i32_558 : BitVec 32 := 0#32
  let v756 : BitVec 1 := Scalar.cmpi .eq c32_i32_557 c0_i32_558
  let c1_i32_559 : BitVec 32 := 1#32
  let v757 : BitVec 32 := Scalar.select v756 c1_i32_559 c32_i32_557
  let v758 : BitVec 32 := Scalar.remsi v755 v757
  let c0_i32_561 : BitVec 32 := 0#32
  let v760 : BitVec 1 := Scalar.cmpi .slt v758 c0_i32_561
  let c0_i32_562 : BitVec 32 := 0#32
  let v761 : BitVec 1 := Scalar.cmpi .slt v757 c0_i32_562
  let v762 : BitVec 1 := Scalar.xori v760 v761
  let c0_i32_560 : BitVec 32 := 0#32
  let v759 : BitVec 1 := Scalar.cmpi .ne v758 c0_i32_560
  let v763 : BitVec 1 := Scalar.andi v762 v759
  let v764 : BitVec 32 := Scalar.addi v758 v757
  let v765 : BitVec 32 := Scalar.select v763 v764 v758
  let c1_i32_567 : BitVec 32 := 1#32
  let v766 : BitVec 32 := Scalar.muli v765 c1_i32_567
  let v767 : BitVec 32 := Scalar.addi c0_i32_568 v766
  v767.toNat
def k0_dev49 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_573 : BitVec 32 := 18#32
  let v776 : BitVec 32 := Scalar.addi v2 c18_i32_573
  let c32_i32_574 : BitVec 32 := 32#32
  let c0_i32_575 : BitVec 32 := 0#32
  let v777 : BitVec 1 := Scalar.cmpi .eq c32_i32_574 c0_i32_575
  let c1_i32_576 : BitVec 32 := 1#32
  let v778 : BitVec 32 := Scalar.select v777 c1_i32_576 c32_i32_574
  let v779 : BitVec 32 := Scalar.remsi v776 v778
  let c0_i32_578 : BitVec 32 := 0#32
  let v781 : BitVec 1 := Scalar.cmpi .slt v779 c0_i32_578
  let c0_i32_579 : BitVec 32 := 0#32
  let v782 : BitVec 1 := Scalar.cmpi .slt v778 c0_i32_579
  let v783 : BitVec 1 := Scalar.xori v781 v782
  let c0_i32_577 : BitVec 32 := 0#32
  let v780 : BitVec 1 := Scalar.cmpi .ne v779 c0_i32_577
  let v784 : BitVec 1 := Scalar.andi v783 v780
  let v785 : BitVec 32 := Scalar.addi v779 v778
  let v786 : BitVec 32 := Scalar.select v784 v785 v779
  let c1_i32_584 : BitVec 32 := 1#32
  let v787 : BitVec 32 := Scalar.muli v786 c1_i32_584
  let v788 : BitVec 32 := Scalar.addi c0_i32_585 v787
  v788.toNat
def k0_dev50 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_590 : BitVec 32 := 19#32
  let v797 : BitVec 32 := Scalar.addi v2 c19_i32_590
  let c32_i32_591 : BitVec 32 := 32#32
  let c0_i32_592 : BitVec 32 := 0#32
  let v798 : BitVec 1 := Scalar.cmpi .eq c32_i32_591 c0_i32_592
  let c1_i32_593 : BitVec 32 := 1#32
  let v799 : BitVec 32 := Scalar.select v798 c1_i32_593 c32_i32_591
  let v800 : BitVec 32 := Scalar.remsi v797 v799
  let c0_i32_595 : BitVec 32 := 0#32
  let v802 : BitVec 1 := Scalar.cmpi .slt v800 c0_i32_595
  let c0_i32_596 : BitVec 32 := 0#32
  let v803 : BitVec 1 := Scalar.cmpi .slt v799 c0_i32_596
  let v804 : BitVec 1 := Scalar.xori v802 v803
  let c0_i32_594 : BitVec 32 := 0#32
  let v801 : BitVec 1 := Scalar.cmpi .ne v800 c0_i32_594
  let v805 : BitVec 1 := Scalar.andi v804 v801
  let v806 : BitVec 32 := Scalar.addi v800 v799
  let v807 : BitVec 32 := Scalar.select v805 v806 v800
  let c1_i32_601 : BitVec 32 := 1#32
  let v808 : BitVec 32 := Scalar.muli v807 c1_i32_601
  let v809 : BitVec 32 := Scalar.addi c0_i32_602 v808
  v809.toNat
def k0_dev51 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_607 : BitVec 32 := 20#32
  let v818 : BitVec 32 := Scalar.addi v2 c20_i32_607
  let c32_i32_608 : BitVec 32 := 32#32
  let c0_i32_609 : BitVec 32 := 0#32
  let v819 : BitVec 1 := Scalar.cmpi .eq c32_i32_608 c0_i32_609
  let c1_i32_610 : BitVec 32 := 1#32
  let v820 : BitVec 32 := Scalar.select v819 c1_i32_610 c32_i32_608
  let v821 : BitVec 32 := Scalar.remsi v818 v820
  let c0_i32_612 : BitVec 32 := 0#32
  let v823 : BitVec 1 := Scalar.cmpi .slt v821 c0_i32_612
  let c0_i32_613 : BitVec 32 := 0#32
  let v824 : BitVec 1 := Scalar.cmpi .slt v820 c0_i32_613
  let v825 : BitVec 1 := Scalar.xori v823 v824
  let c0_i32_611 : BitVec 32 := 0#32
  let v822 : BitVec 1 := Scalar.cmpi .ne v821 c0_i32_611
  let v826 : BitVec 1 := Scalar.andi v825 v822
  let v827 : BitVec 32 := Scalar.addi v821 v820
  let v828 : BitVec 32 := Scalar.select v826 v827 v821
  let c1_i32_618 : BitVec 32 := 1#32
  let v829 : BitVec 32 := Scalar.muli v828 c1_i32_618
  let v830 : BitVec 32 := Scalar.addi c0_i32_619 v829
  v830.toNat
def k0_dev52 (d0 : Dev nD) : Nat :=
  let c0_i32_636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_624 : BitVec 32 := 21#32
  let v839 : BitVec 32 := Scalar.addi v2 c21_i32_624
  let c32_i32_625 : BitVec 32 := 32#32
  let c0_i32_626 : BitVec 32 := 0#32
  let v840 : BitVec 1 := Scalar.cmpi .eq c32_i32_625 c0_i32_626
  let c1_i32_627 : BitVec 32 := 1#32
  let v841 : BitVec 32 := Scalar.select v840 c1_i32_627 c32_i32_625
  let v842 : BitVec 32 := Scalar.remsi v839 v841
  let c0_i32_629 : BitVec 32 := 0#32
  let v844 : BitVec 1 := Scalar.cmpi .slt v842 c0_i32_629
  let c0_i32_630 : BitVec 32 := 0#32
  let v845 : BitVec 1 := Scalar.cmpi .slt v841 c0_i32_630
  let v846 : BitVec 1 := Scalar.xori v844 v845
  let c0_i32_628 : BitVec 32 := 0#32
  let v843 : BitVec 1 := Scalar.cmpi .ne v842 c0_i32_628
  let v847 : BitVec 1 := Scalar.andi v846 v843
  let v848 : BitVec 32 := Scalar.addi v842 v841
  let v849 : BitVec 32 := Scalar.select v847 v848 v842
  let c1_i32_635 : BitVec 32 := 1#32
  let v850 : BitVec 32 := Scalar.muli v849 c1_i32_635
  let v851 : BitVec 32 := Scalar.addi c0_i32_636 v850
  v851.toNat
def k0_dev53 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_641 : BitVec 32 := 22#32
  let v860 : BitVec 32 := Scalar.addi v2 c22_i32_641
  let c32_i32_642 : BitVec 32 := 32#32
  let c0_i32_643 : BitVec 32 := 0#32
  let v861 : BitVec 1 := Scalar.cmpi .eq c32_i32_642 c0_i32_643
  let c1_i32_644 : BitVec 32 := 1#32
  let v862 : BitVec 32 := Scalar.select v861 c1_i32_644 c32_i32_642
  let v863 : BitVec 32 := Scalar.remsi v860 v862
  let c0_i32_646 : BitVec 32 := 0#32
  let v865 : BitVec 1 := Scalar.cmpi .slt v863 c0_i32_646
  let c0_i32_647 : BitVec 32 := 0#32
  let v866 : BitVec 1 := Scalar.cmpi .slt v862 c0_i32_647
  let v867 : BitVec 1 := Scalar.xori v865 v866
  let c0_i32_645 : BitVec 32 := 0#32
  let v864 : BitVec 1 := Scalar.cmpi .ne v863 c0_i32_645
  let v868 : BitVec 1 := Scalar.andi v867 v864
  let v869 : BitVec 32 := Scalar.addi v863 v862
  let v870 : BitVec 32 := Scalar.select v868 v869 v863
  let c1_i32_652 : BitVec 32 := 1#32
  let v871 : BitVec 32 := Scalar.muli v870 c1_i32_652
  let v872 : BitVec 32 := Scalar.addi c0_i32_653 v871
  v872.toNat
def k0_dev54 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_658 : BitVec 32 := 23#32
  let v881 : BitVec 32 := Scalar.addi v2 c23_i32_658
  let c32_i32_659 : BitVec 32 := 32#32
  let c0_i32_660 : BitVec 32 := 0#32
  let v882 : BitVec 1 := Scalar.cmpi .eq c32_i32_659 c0_i32_660
  let c1_i32_661 : BitVec 32 := 1#32
  let v883 : BitVec 32 := Scalar.select v882 c1_i32_661 c32_i32_659
  let v884 : BitVec 32 := Scalar.remsi v881 v883
  let c0_i32_663 : BitVec 32 := 0#32
  let v886 : BitVec 1 := Scalar.cmpi .slt v884 c0_i32_663
  let c0_i32_664 : BitVec 32 := 0#32
  let v887 : BitVec 1 := Scalar.cmpi .slt v883 c0_i32_664
  let v888 : BitVec 1 := Scalar.xori v886 v887
  let c0_i32_662 : BitVec 32 := 0#32
  let v885 : BitVec 1 := Scalar.cmpi .ne v884 c0_i32_662
  let v889 : BitVec 1 := Scalar.andi v888 v885
  let v890 : BitVec 32 := Scalar.addi v884 v883
  let v891 : BitVec 32 := Scalar.select v889 v890 v884
  let c1_i32_669 : BitVec 32 := 1#32
  let v892 : BitVec 32 := Scalar.muli v891 c1_i32_669
  let v893 : BitVec 32 := Scalar.addi c0_i32_670 v892
  v893.toNat
def k0_dev55 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_675 : BitVec 32 := 24#32
  let v902 : BitVec 32 := Scalar.addi v2 c24_i32_675
  let c32_i32_676 : BitVec 32 := 32#32
  let c0_i32_677 : BitVec 32 := 0#32
  let v903 : BitVec 1 := Scalar.cmpi .eq c32_i32_676 c0_i32_677
  let c1_i32_678 : BitVec 32 := 1#32
  let v904 : BitVec 32 := Scalar.select v903 c1_i32_678 c32_i32_676
  let v905 : BitVec 32 := Scalar.remsi v902 v904
  let c0_i32_680 : BitVec 32 := 0#32
  let v907 : BitVec 1 := Scalar.cmpi .slt v905 c0_i32_680
  let c0_i32_681 : BitVec 32 := 0#32
  let v908 : BitVec 1 := Scalar.cmpi .slt v904 c0_i32_681
  let v909 : BitVec 1 := Scalar.xori v907 v908
  let c0_i32_679 : BitVec 32 := 0#32
  let v906 : BitVec 1 := Scalar.cmpi .ne v905 c0_i32_679
  let v910 : BitVec 1 := Scalar.andi v909 v906
  let v911 : BitVec 32 := Scalar.addi v905 v904
  let v912 : BitVec 32 := Scalar.select v910 v911 v905
  let c1_i32_686 : BitVec 32 := 1#32
  let v913 : BitVec 32 := Scalar.muli v912 c1_i32_686
  let v914 : BitVec 32 := Scalar.addi c0_i32_687 v913
  v914.toNat
def k0_dev56 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_692 : BitVec 32 := 25#32
  let v923 : BitVec 32 := Scalar.addi v2 c25_i32_692
  let c32_i32_693 : BitVec 32 := 32#32
  let c0_i32_694 : BitVec 32 := 0#32
  let v924 : BitVec 1 := Scalar.cmpi .eq c32_i32_693 c0_i32_694
  let c1_i32_695 : BitVec 32 := 1#32
  let v925 : BitVec 32 := Scalar.select v924 c1_i32_695 c32_i32_693
  let v926 : BitVec 32 := Scalar.remsi v923 v925
  let c0_i32_697 : BitVec 32 := 0#32
  let v928 : BitVec 1 := Scalar.cmpi .slt v926 c0_i32_697
  let c0_i32_698 : BitVec 32 := 0#32
  let v929 : BitVec 1 := Scalar.cmpi .slt v925 c0_i32_698
  let v930 : BitVec 1 := Scalar.xori v928 v929
  let c0_i32_696 : BitVec 32 := 0#32
  let v927 : BitVec 1 := Scalar.cmpi .ne v926 c0_i32_696
  let v931 : BitVec 1 := Scalar.andi v930 v927
  let v932 : BitVec 32 := Scalar.addi v926 v925
  let v933 : BitVec 32 := Scalar.select v931 v932 v926
  let c1_i32_703 : BitVec 32 := 1#32
  let v934 : BitVec 32 := Scalar.muli v933 c1_i32_703
  let v935 : BitVec 32 := Scalar.addi c0_i32_704 v934
  v935.toNat
def k0_dev57 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_709 : BitVec 32 := 26#32
  let v944 : BitVec 32 := Scalar.addi v2 c26_i32_709
  let c32_i32_710 : BitVec 32 := 32#32
  let c0_i32_711 : BitVec 32 := 0#32
  let v945 : BitVec 1 := Scalar.cmpi .eq c32_i32_710 c0_i32_711
  let c1_i32_712 : BitVec 32 := 1#32
  let v946 : BitVec 32 := Scalar.select v945 c1_i32_712 c32_i32_710
  let v947 : BitVec 32 := Scalar.remsi v944 v946
  let c0_i32_714 : BitVec 32 := 0#32
  let v949 : BitVec 1 := Scalar.cmpi .slt v947 c0_i32_714
  let c0_i32_715 : BitVec 32 := 0#32
  let v950 : BitVec 1 := Scalar.cmpi .slt v946 c0_i32_715
  let v951 : BitVec 1 := Scalar.xori v949 v950
  let c0_i32_713 : BitVec 32 := 0#32
  let v948 : BitVec 1 := Scalar.cmpi .ne v947 c0_i32_713
  let v952 : BitVec 1 := Scalar.andi v951 v948
  let v953 : BitVec 32 := Scalar.addi v947 v946
  let v954 : BitVec 32 := Scalar.select v952 v953 v947
  let c1_i32_720 : BitVec 32 := 1#32
  let v955 : BitVec 32 := Scalar.muli v954 c1_i32_720
  let v956 : BitVec 32 := Scalar.addi c0_i32_721 v955
  v956.toNat
def k0_dev58 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_726 : BitVec 32 := 27#32
  let v965 : BitVec 32 := Scalar.addi v2 c27_i32_726
  let c32_i32_727 : BitVec 32 := 32#32
  let c0_i32_728 : BitVec 32 := 0#32
  let v966 : BitVec 1 := Scalar.cmpi .eq c32_i32_727 c0_i32_728
  let c1_i32_729 : BitVec 32 := 1#32
  let v967 : BitVec 32 := Scalar.select v966 c1_i32_729 c32_i32_727
  let v968 : BitVec 32 := Scalar.remsi v965 v967
  let c0_i32_731 : BitVec 32 := 0#32
  let v970 : BitVec 1 := Scalar.cmpi .slt v968 c0_i32_731
  let c0_i32_732 : BitVec 32 := 0#32
  let v971 : BitVec 1 := Scalar.cmpi .slt v967 c0_i32_732
  let v972 : BitVec 1 := Scalar.xori v970 v971
  let c0_i32_730 : BitVec 32 := 0#32
  let v969 : BitVec 1 := Scalar.cmpi .ne v968 c0_i32_730
  let v973 : BitVec 1 := Scalar.andi v972 v969
  let v974 : BitVec 32 := Scalar.addi v968 v967
  let v975 : BitVec 32 := Scalar.select v973 v974 v968
  let c1_i32_737 : BitVec 32 := 1#32
  let v976 : BitVec 32 := Scalar.muli v975 c1_i32_737
  let v977 : BitVec 32 := Scalar.addi c0_i32_738 v976
  v977.toNat
def k0_dev59 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_743 : BitVec 32 := 28#32
  let v986 : BitVec 32 := Scalar.addi v2 c28_i32_743
  let c32_i32_744 : BitVec 32 := 32#32
  let c0_i32_745 : BitVec 32 := 0#32
  let v987 : BitVec 1 := Scalar.cmpi .eq c32_i32_744 c0_i32_745
  let c1_i32_746 : BitVec 32 := 1#32
  let v988 : BitVec 32 := Scalar.select v987 c1_i32_746 c32_i32_744
  let v989 : BitVec 32 := Scalar.remsi v986 v988
  let c0_i32_748 : BitVec 32 := 0#32
  let v991 : BitVec 1 := Scalar.cmpi .slt v989 c0_i32_748
  let c0_i32_749 : BitVec 32 := 0#32
  let v992 : BitVec 1 := Scalar.cmpi .slt v988 c0_i32_749
  let v993 : BitVec 1 := Scalar.xori v991 v992
  let c0_i32_747 : BitVec 32 := 0#32
  let v990 : BitVec 1 := Scalar.cmpi .ne v989 c0_i32_747
  let v994 : BitVec 1 := Scalar.andi v993 v990
  let v995 : BitVec 32 := Scalar.addi v989 v988
  let v996 : BitVec 32 := Scalar.select v994 v995 v989
  let c1_i32_754 : BitVec 32 := 1#32
  let v997 : BitVec 32 := Scalar.muli v996 c1_i32_754
  let v998 : BitVec 32 := Scalar.addi c0_i32_755 v997
  v998.toNat
def k0_dev60 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_760 : BitVec 32 := 29#32
  let v1007 : BitVec 32 := Scalar.addi v2 c29_i32_760
  let c32_i32_761 : BitVec 32 := 32#32
  let c0_i32_762 : BitVec 32 := 0#32
  let v1008 : BitVec 1 := Scalar.cmpi .eq c32_i32_761 c0_i32_762
  let c1_i32_763 : BitVec 32 := 1#32
  let v1009 : BitVec 32 := Scalar.select v1008 c1_i32_763 c32_i32_761
  let v1010 : BitVec 32 := Scalar.remsi v1007 v1009
  let c0_i32_765 : BitVec 32 := 0#32
  let v1012 : BitVec 1 := Scalar.cmpi .slt v1010 c0_i32_765
  let c0_i32_766 : BitVec 32 := 0#32
  let v1013 : BitVec 1 := Scalar.cmpi .slt v1009 c0_i32_766
  let v1014 : BitVec 1 := Scalar.xori v1012 v1013
  let c0_i32_764 : BitVec 32 := 0#32
  let v1011 : BitVec 1 := Scalar.cmpi .ne v1010 c0_i32_764
  let v1015 : BitVec 1 := Scalar.andi v1014 v1011
  let v1016 : BitVec 32 := Scalar.addi v1010 v1009
  let v1017 : BitVec 32 := Scalar.select v1015 v1016 v1010
  let c1_i32_771 : BitVec 32 := 1#32
  let v1018 : BitVec 32 := Scalar.muli v1017 c1_i32_771
  let v1019 : BitVec 32 := Scalar.addi c0_i32_772 v1018
  v1019.toNat
def k0_dev61 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_777 : BitVec 32 := 30#32
  let v1028 : BitVec 32 := Scalar.addi v2 c30_i32_777
  let c32_i32_778 : BitVec 32 := 32#32
  let c0_i32_779 : BitVec 32 := 0#32
  let v1029 : BitVec 1 := Scalar.cmpi .eq c32_i32_778 c0_i32_779
  let c1_i32_780 : BitVec 32 := 1#32
  let v1030 : BitVec 32 := Scalar.select v1029 c1_i32_780 c32_i32_778
  let v1031 : BitVec 32 := Scalar.remsi v1028 v1030
  let c0_i32_782 : BitVec 32 := 0#32
  let v1033 : BitVec 1 := Scalar.cmpi .slt v1031 c0_i32_782
  let c0_i32_783 : BitVec 32 := 0#32
  let v1034 : BitVec 1 := Scalar.cmpi .slt v1030 c0_i32_783
  let v1035 : BitVec 1 := Scalar.xori v1033 v1034
  let c0_i32_781 : BitVec 32 := 0#32
  let v1032 : BitVec 1 := Scalar.cmpi .ne v1031 c0_i32_781
  let v1036 : BitVec 1 := Scalar.andi v1035 v1032
  let v1037 : BitVec 32 := Scalar.addi v1031 v1030
  let v1038 : BitVec 32 := Scalar.select v1036 v1037 v1031
  let c1_i32_788 : BitVec 32 := 1#32
  let v1039 : BitVec 32 := Scalar.muli v1038 c1_i32_788
  let v1040 : BitVec 32 := Scalar.addi c0_i32_789 v1039
  v1040.toNat
def k0_dev62 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_794 : BitVec 32 := 31#32
  let v1049 : BitVec 32 := Scalar.addi v2 c31_i32_794
  let c32_i32_795 : BitVec 32 := 32#32
  let c0_i32_796 : BitVec 32 := 0#32
  let v1050 : BitVec 1 := Scalar.cmpi .eq c32_i32_795 c0_i32_796
  let c1_i32_797 : BitVec 32 := 1#32
  let v1051 : BitVec 32 := Scalar.select v1050 c1_i32_797 c32_i32_795
  let v1052 : BitVec 32 := Scalar.remsi v1049 v1051
  let c0_i32_799 : BitVec 32 := 0#32
  let v1054 : BitVec 1 := Scalar.cmpi .slt v1052 c0_i32_799
  let c0_i32_800 : BitVec 32 := 0#32
  let v1055 : BitVec 1 := Scalar.cmpi .slt v1051 c0_i32_800
  let v1056 : BitVec 1 := Scalar.xori v1054 v1055
  let c0_i32_798 : BitVec 32 := 0#32
  let v1053 : BitVec 1 := Scalar.cmpi .ne v1052 c0_i32_798
  let v1057 : BitVec 1 := Scalar.andi v1056 v1053
  let v1058 : BitVec 32 := Scalar.addi v1052 v1051
  let v1059 : BitVec 32 := Scalar.select v1057 v1058 v1052
  let c1_i32_805 : BitVec 32 := 1#32
  let v1060 : BitVec 32 := Scalar.muli v1059 c1_i32_805
  let v1061 : BitVec 32 := Scalar.addi c0_i32_806 v1060
  v1061.toNat
def k0_dev63 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1160 : BitVec 32 := 1#32
  let v1435 : BitVec 32 := Scalar.addi v2 c1_i32_1160
  let c32_i32_1161 : BitVec 32 := 32#32
  let c0_i32_1162 : BitVec 32 := 0#32
  let v1436 : BitVec 1 := Scalar.cmpi .eq c32_i32_1161 c0_i32_1162
  let c1_i32_1163 : BitVec 32 := 1#32
  let v1437 : BitVec 32 := Scalar.select v1436 c1_i32_1163 c32_i32_1161
  let v1438 : BitVec 32 := Scalar.remsi v1435 v1437
  let c0_i32_1165 : BitVec 32 := 0#32
  let v1440 : BitVec 1 := Scalar.cmpi .slt v1438 c0_i32_1165
  let c0_i32_1166 : BitVec 32 := 0#32
  let v1441 : BitVec 1 := Scalar.cmpi .slt v1437 c0_i32_1166
  let v1442 : BitVec 1 := Scalar.xori v1440 v1441
  let c0_i32_1164 : BitVec 32 := 0#32
  let v1439 : BitVec 1 := Scalar.cmpi .ne v1438 c0_i32_1164
  let v1443 : BitVec 1 := Scalar.andi v1442 v1439
  let v1444 : BitVec 32 := Scalar.addi v1438 v1437
  let v1445 : BitVec 32 := Scalar.select v1443 v1444 v1438
  let c1_i32_1169 : BitVec 32 := 1#32
  let v1446 : BitVec 32 := Scalar.muli v1445 c1_i32_1169
  let v1447 : BitVec 32 := Scalar.addi c0_i32_1170 v1446
  v1447.toNat
def k0_dev64 (d0 : Dev nD) : Nat :=
  let c0_i32_1185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1175 : BitVec 32 := 2#32
  let v1454 : BitVec 32 := Scalar.addi v2 c2_i32_1175
  let c32_i32_1176 : BitVec 32 := 32#32
  let c0_i32_1177 : BitVec 32 := 0#32
  let v1455 : BitVec 1 := Scalar.cmpi .eq c32_i32_1176 c0_i32_1177
  let c1_i32_1178 : BitVec 32 := 1#32
  let v1456 : BitVec 32 := Scalar.select v1455 c1_i32_1178 c32_i32_1176
  let v1457 : BitVec 32 := Scalar.remsi v1454 v1456
  let c0_i32_1180 : BitVec 32 := 0#32
  let v1459 : BitVec 1 := Scalar.cmpi .slt v1457 c0_i32_1180
  let c0_i32_1181 : BitVec 32 := 0#32
  let v1460 : BitVec 1 := Scalar.cmpi .slt v1456 c0_i32_1181
  let v1461 : BitVec 1 := Scalar.xori v1459 v1460
  let c0_i32_1179 : BitVec 32 := 0#32
  let v1458 : BitVec 1 := Scalar.cmpi .ne v1457 c0_i32_1179
  let v1462 : BitVec 1 := Scalar.andi v1461 v1458
  let v1463 : BitVec 32 := Scalar.addi v1457 v1456
  let v1464 : BitVec 32 := Scalar.select v1462 v1463 v1457
  let c1_i32_1184 : BitVec 32 := 1#32
  let v1465 : BitVec 32 := Scalar.muli v1464 c1_i32_1184
  let v1466 : BitVec 32 := Scalar.addi c0_i32_1185 v1465
  v1466.toNat
def k0_dev65 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1189 : BitVec 32 := 3#32
  let v1473 : BitVec 32 := Scalar.addi v2 c3_i32_1189
  let c32_i32_1190 : BitVec 32 := 32#32
  let c0_i32_1191 : BitVec 32 := 0#32
  let v1474 : BitVec 1 := Scalar.cmpi .eq c32_i32_1190 c0_i32_1191
  let c1_i32_1192 : BitVec 32 := 1#32
  let v1475 : BitVec 32 := Scalar.select v1474 c1_i32_1192 c32_i32_1190
  let v1476 : BitVec 32 := Scalar.remsi v1473 v1475
  let c0_i32_1194 : BitVec 32 := 0#32
  let v1478 : BitVec 1 := Scalar.cmpi .slt v1476 c0_i32_1194
  let c0_i32_1195 : BitVec 32 := 0#32
  let v1479 : BitVec 1 := Scalar.cmpi .slt v1475 c0_i32_1195
  let v1480 : BitVec 1 := Scalar.xori v1478 v1479
  let c0_i32_1193 : BitVec 32 := 0#32
  let v1477 : BitVec 1 := Scalar.cmpi .ne v1476 c0_i32_1193
  let v1481 : BitVec 1 := Scalar.andi v1480 v1477
  let v1482 : BitVec 32 := Scalar.addi v1476 v1475
  let v1483 : BitVec 32 := Scalar.select v1481 v1482 v1476
  let c1_i32_1198 : BitVec 32 := 1#32
  let v1484 : BitVec 32 := Scalar.muli v1483 c1_i32_1198
  let v1485 : BitVec 32 := Scalar.addi c0_i32_1199 v1484
  v1485.toNat
def k0_dev66 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1203 : BitVec 32 := 4#32
  let v1492 : BitVec 32 := Scalar.addi v2 c4_i32_1203
  let c32_i32_1204 : BitVec 32 := 32#32
  let c0_i32_1205 : BitVec 32 := 0#32
  let v1493 : BitVec 1 := Scalar.cmpi .eq c32_i32_1204 c0_i32_1205
  let c1_i32_1206 : BitVec 32 := 1#32
  let v1494 : BitVec 32 := Scalar.select v1493 c1_i32_1206 c32_i32_1204
  let v1495 : BitVec 32 := Scalar.remsi v1492 v1494
  let c0_i32_1208 : BitVec 32 := 0#32
  let v1497 : BitVec 1 := Scalar.cmpi .slt v1495 c0_i32_1208
  let c0_i32_1209 : BitVec 32 := 0#32
  let v1498 : BitVec 1 := Scalar.cmpi .slt v1494 c0_i32_1209
  let v1499 : BitVec 1 := Scalar.xori v1497 v1498
  let c0_i32_1207 : BitVec 32 := 0#32
  let v1496 : BitVec 1 := Scalar.cmpi .ne v1495 c0_i32_1207
  let v1500 : BitVec 1 := Scalar.andi v1499 v1496
  let v1501 : BitVec 32 := Scalar.addi v1495 v1494
  let v1502 : BitVec 32 := Scalar.select v1500 v1501 v1495
  let c1_i32_1212 : BitVec 32 := 1#32
  let v1503 : BitVec 32 := Scalar.muli v1502 c1_i32_1212
  let v1504 : BitVec 32 := Scalar.addi c0_i32_1213 v1503
  v1504.toNat
def k0_dev67 (d0 : Dev nD) : Nat :=
  let c0_i32_1227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1217 : BitVec 32 := 5#32
  let v1511 : BitVec 32 := Scalar.addi v2 c5_i32_1217
  let c32_i32_1218 : BitVec 32 := 32#32
  let c0_i32_1219 : BitVec 32 := 0#32
  let v1512 : BitVec 1 := Scalar.cmpi .eq c32_i32_1218 c0_i32_1219
  let c1_i32_1220 : BitVec 32 := 1#32
  let v1513 : BitVec 32 := Scalar.select v1512 c1_i32_1220 c32_i32_1218
  let v1514 : BitVec 32 := Scalar.remsi v1511 v1513
  let c0_i32_1222 : BitVec 32 := 0#32
  let v1516 : BitVec 1 := Scalar.cmpi .slt v1514 c0_i32_1222
  let c0_i32_1223 : BitVec 32 := 0#32
  let v1517 : BitVec 1 := Scalar.cmpi .slt v1513 c0_i32_1223
  let v1518 : BitVec 1 := Scalar.xori v1516 v1517
  let c0_i32_1221 : BitVec 32 := 0#32
  let v1515 : BitVec 1 := Scalar.cmpi .ne v1514 c0_i32_1221
  let v1519 : BitVec 1 := Scalar.andi v1518 v1515
  let v1520 : BitVec 32 := Scalar.addi v1514 v1513
  let v1521 : BitVec 32 := Scalar.select v1519 v1520 v1514
  let c1_i32_1226 : BitVec 32 := 1#32
  let v1522 : BitVec 32 := Scalar.muli v1521 c1_i32_1226
  let v1523 : BitVec 32 := Scalar.addi c0_i32_1227 v1522
  v1523.toNat
def k0_dev68 (d0 : Dev nD) : Nat :=
  let c0_i32_1241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1231 : BitVec 32 := 6#32
  let v1530 : BitVec 32 := Scalar.addi v2 c6_i32_1231
  let c32_i32_1232 : BitVec 32 := 32#32
  let c0_i32_1233 : BitVec 32 := 0#32
  let v1531 : BitVec 1 := Scalar.cmpi .eq c32_i32_1232 c0_i32_1233
  let c1_i32_1234 : BitVec 32 := 1#32
  let v1532 : BitVec 32 := Scalar.select v1531 c1_i32_1234 c32_i32_1232
  let v1533 : BitVec 32 := Scalar.remsi v1530 v1532
  let c0_i32_1236 : BitVec 32 := 0#32
  let v1535 : BitVec 1 := Scalar.cmpi .slt v1533 c0_i32_1236
  let c0_i32_1237 : BitVec 32 := 0#32
  let v1536 : BitVec 1 := Scalar.cmpi .slt v1532 c0_i32_1237
  let v1537 : BitVec 1 := Scalar.xori v1535 v1536
  let c0_i32_1235 : BitVec 32 := 0#32
  let v1534 : BitVec 1 := Scalar.cmpi .ne v1533 c0_i32_1235
  let v1538 : BitVec 1 := Scalar.andi v1537 v1534
  let v1539 : BitVec 32 := Scalar.addi v1533 v1532
  let v1540 : BitVec 32 := Scalar.select v1538 v1539 v1533
  let c1_i32_1240 : BitVec 32 := 1#32
  let v1541 : BitVec 32 := Scalar.muli v1540 c1_i32_1240
  let v1542 : BitVec 32 := Scalar.addi c0_i32_1241 v1541
  v1542.toNat
def k0_dev69 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1245 : BitVec 32 := 7#32
  let v1549 : BitVec 32 := Scalar.addi v2 c7_i32_1245
  let c32_i32_1246 : BitVec 32 := 32#32
  let c0_i32_1247 : BitVec 32 := 0#32
  let v1550 : BitVec 1 := Scalar.cmpi .eq c32_i32_1246 c0_i32_1247
  let c1_i32_1248 : BitVec 32 := 1#32
  let v1551 : BitVec 32 := Scalar.select v1550 c1_i32_1248 c32_i32_1246
  let v1552 : BitVec 32 := Scalar.remsi v1549 v1551
  let c0_i32_1250 : BitVec 32 := 0#32
  let v1554 : BitVec 1 := Scalar.cmpi .slt v1552 c0_i32_1250
  let c0_i32_1251 : BitVec 32 := 0#32
  let v1555 : BitVec 1 := Scalar.cmpi .slt v1551 c0_i32_1251
  let v1556 : BitVec 1 := Scalar.xori v1554 v1555
  let c0_i32_1249 : BitVec 32 := 0#32
  let v1553 : BitVec 1 := Scalar.cmpi .ne v1552 c0_i32_1249
  let v1557 : BitVec 1 := Scalar.andi v1556 v1553
  let v1558 : BitVec 32 := Scalar.addi v1552 v1551
  let v1559 : BitVec 32 := Scalar.select v1557 v1558 v1552
  let c1_i32_1254 : BitVec 32 := 1#32
  let v1560 : BitVec 32 := Scalar.muli v1559 c1_i32_1254
  let v1561 : BitVec 32 := Scalar.addi c0_i32_1255 v1560
  v1561.toNat
def k0_dev70 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1259 : BitVec 32 := 8#32
  let v1568 : BitVec 32 := Scalar.addi v2 c8_i32_1259
  let c32_i32_1260 : BitVec 32 := 32#32
  let c0_i32_1261 : BitVec 32 := 0#32
  let v1569 : BitVec 1 := Scalar.cmpi .eq c32_i32_1260 c0_i32_1261
  let c1_i32_1262 : BitVec 32 := 1#32
  let v1570 : BitVec 32 := Scalar.select v1569 c1_i32_1262 c32_i32_1260
  let v1571 : BitVec 32 := Scalar.remsi v1568 v1570
  let c0_i32_1264 : BitVec 32 := 0#32
  let v1573 : BitVec 1 := Scalar.cmpi .slt v1571 c0_i32_1264
  let c0_i32_1265 : BitVec 32 := 0#32
  let v1574 : BitVec 1 := Scalar.cmpi .slt v1570 c0_i32_1265
  let v1575 : BitVec 1 := Scalar.xori v1573 v1574
  let c0_i32_1263 : BitVec 32 := 0#32
  let v1572 : BitVec 1 := Scalar.cmpi .ne v1571 c0_i32_1263
  let v1576 : BitVec 1 := Scalar.andi v1575 v1572
  let v1577 : BitVec 32 := Scalar.addi v1571 v1570
  let v1578 : BitVec 32 := Scalar.select v1576 v1577 v1571
  let c1_i32_1268 : BitVec 32 := 1#32
  let v1579 : BitVec 32 := Scalar.muli v1578 c1_i32_1268
  let v1580 : BitVec 32 := Scalar.addi c0_i32_1269 v1579
  v1580.toNat
def k0_dev71 (d0 : Dev nD) : Nat :=
  let c0_i32_1283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1273 : BitVec 32 := 9#32
  let v1587 : BitVec 32 := Scalar.addi v2 c9_i32_1273
  let c32_i32_1274 : BitVec 32 := 32#32
  let c0_i32_1275 : BitVec 32 := 0#32
  let v1588 : BitVec 1 := Scalar.cmpi .eq c32_i32_1274 c0_i32_1275
  let c1_i32_1276 : BitVec 32 := 1#32
  let v1589 : BitVec 32 := Scalar.select v1588 c1_i32_1276 c32_i32_1274
  let v1590 : BitVec 32 := Scalar.remsi v1587 v1589
  let c0_i32_1278 : BitVec 32 := 0#32
  let v1592 : BitVec 1 := Scalar.cmpi .slt v1590 c0_i32_1278
  let c0_i32_1279 : BitVec 32 := 0#32
  let v1593 : BitVec 1 := Scalar.cmpi .slt v1589 c0_i32_1279
  let v1594 : BitVec 1 := Scalar.xori v1592 v1593
  let c0_i32_1277 : BitVec 32 := 0#32
  let v1591 : BitVec 1 := Scalar.cmpi .ne v1590 c0_i32_1277
  let v1595 : BitVec 1 := Scalar.andi v1594 v1591
  let v1596 : BitVec 32 := Scalar.addi v1590 v1589
  let v1597 : BitVec 32 := Scalar.select v1595 v1596 v1590
  let c1_i32_1282 : BitVec 32 := 1#32
  let v1598 : BitVec 32 := Scalar.muli v1597 c1_i32_1282
  let v1599 : BitVec 32 := Scalar.addi c0_i32_1283 v1598
  v1599.toNat
def k0_dev72 (d0 : Dev nD) : Nat :=
  let c0_i32_1297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1287 : BitVec 32 := 10#32
  let v1606 : BitVec 32 := Scalar.addi v2 c10_i32_1287
  let c32_i32_1288 : BitVec 32 := 32#32
  let c0_i32_1289 : BitVec 32 := 0#32
  let v1607 : BitVec 1 := Scalar.cmpi .eq c32_i32_1288 c0_i32_1289
  let c1_i32_1290 : BitVec 32 := 1#32
  let v1608 : BitVec 32 := Scalar.select v1607 c1_i32_1290 c32_i32_1288
  let v1609 : BitVec 32 := Scalar.remsi v1606 v1608
  let c0_i32_1292 : BitVec 32 := 0#32
  let v1611 : BitVec 1 := Scalar.cmpi .slt v1609 c0_i32_1292
  let c0_i32_1293 : BitVec 32 := 0#32
  let v1612 : BitVec 1 := Scalar.cmpi .slt v1608 c0_i32_1293
  let v1613 : BitVec 1 := Scalar.xori v1611 v1612
  let c0_i32_1291 : BitVec 32 := 0#32
  let v1610 : BitVec 1 := Scalar.cmpi .ne v1609 c0_i32_1291
  let v1614 : BitVec 1 := Scalar.andi v1613 v1610
  let v1615 : BitVec 32 := Scalar.addi v1609 v1608
  let v1616 : BitVec 32 := Scalar.select v1614 v1615 v1609
  let c1_i32_1296 : BitVec 32 := 1#32
  let v1617 : BitVec 32 := Scalar.muli v1616 c1_i32_1296
  let v1618 : BitVec 32 := Scalar.addi c0_i32_1297 v1617
  v1618.toNat
def k0_dev73 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1301 : BitVec 32 := 11#32
  let v1625 : BitVec 32 := Scalar.addi v2 c11_i32_1301
  let c32_i32_1302 : BitVec 32 := 32#32
  let c0_i32_1303 : BitVec 32 := 0#32
  let v1626 : BitVec 1 := Scalar.cmpi .eq c32_i32_1302 c0_i32_1303
  let c1_i32_1304 : BitVec 32 := 1#32
  let v1627 : BitVec 32 := Scalar.select v1626 c1_i32_1304 c32_i32_1302
  let v1628 : BitVec 32 := Scalar.remsi v1625 v1627
  let c0_i32_1306 : BitVec 32 := 0#32
  let v1630 : BitVec 1 := Scalar.cmpi .slt v1628 c0_i32_1306
  let c0_i32_1307 : BitVec 32 := 0#32
  let v1631 : BitVec 1 := Scalar.cmpi .slt v1627 c0_i32_1307
  let v1632 : BitVec 1 := Scalar.xori v1630 v1631
  let c0_i32_1305 : BitVec 32 := 0#32
  let v1629 : BitVec 1 := Scalar.cmpi .ne v1628 c0_i32_1305
  let v1633 : BitVec 1 := Scalar.andi v1632 v1629
  let v1634 : BitVec 32 := Scalar.addi v1628 v1627
  let v1635 : BitVec 32 := Scalar.select v1633 v1634 v1628
  let c1_i32_1310 : BitVec 32 := 1#32
  let v1636 : BitVec 32 := Scalar.muli v1635 c1_i32_1310
  let v1637 : BitVec 32 := Scalar.addi c0_i32_1311 v1636
  v1637.toNat
def k0_dev74 (d0 : Dev nD) : Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1315 : BitVec 32 := 12#32
  let v1644 : BitVec 32 := Scalar.addi v2 c12_i32_1315
  let c32_i32_1316 : BitVec 32 := 32#32
  let c0_i32_1317 : BitVec 32 := 0#32
  let v1645 : BitVec 1 := Scalar.cmpi .eq c32_i32_1316 c0_i32_1317
  let c1_i32_1318 : BitVec 32 := 1#32
  let v1646 : BitVec 32 := Scalar.select v1645 c1_i32_1318 c32_i32_1316
  let v1647 : BitVec 32 := Scalar.remsi v1644 v1646
  let c0_i32_1320 : BitVec 32 := 0#32
  let v1649 : BitVec 1 := Scalar.cmpi .slt v1647 c0_i32_1320
  let c0_i32_1321 : BitVec 32 := 0#32
  let v1650 : BitVec 1 := Scalar.cmpi .slt v1646 c0_i32_1321
  let v1651 : BitVec 1 := Scalar.xori v1649 v1650
  let c0_i32_1319 : BitVec 32 := 0#32
  let v1648 : BitVec 1 := Scalar.cmpi .ne v1647 c0_i32_1319
  let v1652 : BitVec 1 := Scalar.andi v1651 v1648
  let v1653 : BitVec 32 := Scalar.addi v1647 v1646
  let v1654 : BitVec 32 := Scalar.select v1652 v1653 v1647
  let c1_i32_1324 : BitVec 32 := 1#32
  let v1655 : BitVec 32 := Scalar.muli v1654 c1_i32_1324
  let v1656 : BitVec 32 := Scalar.addi c0_i32_1325 v1655
  v1656.toNat
def k0_dev75 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1329 : BitVec 32 := 13#32
  let v1663 : BitVec 32 := Scalar.addi v2 c13_i32_1329
  let c32_i32_1330 : BitVec 32 := 32#32
  let c0_i32_1331 : BitVec 32 := 0#32
  let v1664 : BitVec 1 := Scalar.cmpi .eq c32_i32_1330 c0_i32_1331
  let c1_i32_1332 : BitVec 32 := 1#32
  let v1665 : BitVec 32 := Scalar.select v1664 c1_i32_1332 c32_i32_1330
  let v1666 : BitVec 32 := Scalar.remsi v1663 v1665
  let c0_i32_1334 : BitVec 32 := 0#32
  let v1668 : BitVec 1 := Scalar.cmpi .slt v1666 c0_i32_1334
  let c0_i32_1335 : BitVec 32 := 0#32
  let v1669 : BitVec 1 := Scalar.cmpi .slt v1665 c0_i32_1335
  let v1670 : BitVec 1 := Scalar.xori v1668 v1669
  let c0_i32_1333 : BitVec 32 := 0#32
  let v1667 : BitVec 1 := Scalar.cmpi .ne v1666 c0_i32_1333
  let v1671 : BitVec 1 := Scalar.andi v1670 v1667
  let v1672 : BitVec 32 := Scalar.addi v1666 v1665
  let v1673 : BitVec 32 := Scalar.select v1671 v1672 v1666
  let c1_i32_1338 : BitVec 32 := 1#32
  let v1674 : BitVec 32 := Scalar.muli v1673 c1_i32_1338
  let v1675 : BitVec 32 := Scalar.addi c0_i32_1339 v1674
  v1675.toNat
def k0_dev76 (d0 : Dev nD) : Nat :=
  let c0_i32_1353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1343 : BitVec 32 := 14#32
  let v1682 : BitVec 32 := Scalar.addi v2 c14_i32_1343
  let c32_i32_1344 : BitVec 32 := 32#32
  let c0_i32_1345 : BitVec 32 := 0#32
  let v1683 : BitVec 1 := Scalar.cmpi .eq c32_i32_1344 c0_i32_1345
  let c1_i32_1346 : BitVec 32 := 1#32
  let v1684 : BitVec 32 := Scalar.select v1683 c1_i32_1346 c32_i32_1344
  let v1685 : BitVec 32 := Scalar.remsi v1682 v1684
  let c0_i32_1348 : BitVec 32 := 0#32
  let v1687 : BitVec 1 := Scalar.cmpi .slt v1685 c0_i32_1348
  let c0_i32_1349 : BitVec 32 := 0#32
  let v1688 : BitVec 1 := Scalar.cmpi .slt v1684 c0_i32_1349
  let v1689 : BitVec 1 := Scalar.xori v1687 v1688
  let c0_i32_1347 : BitVec 32 := 0#32
  let v1686 : BitVec 1 := Scalar.cmpi .ne v1685 c0_i32_1347
  let v1690 : BitVec 1 := Scalar.andi v1689 v1686
  let v1691 : BitVec 32 := Scalar.addi v1685 v1684
  let v1692 : BitVec 32 := Scalar.select v1690 v1691 v1685
  let c1_i32_1352 : BitVec 32 := 1#32
  let v1693 : BitVec 32 := Scalar.muli v1692 c1_i32_1352
  let v1694 : BitVec 32 := Scalar.addi c0_i32_1353 v1693
  v1694.toNat
def k0_dev77 (d0 : Dev nD) : Nat :=
  let c0_i32_1367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1357 : BitVec 32 := 15#32
  let v1701 : BitVec 32 := Scalar.addi v2 c15_i32_1357
  let c32_i32_1358 : BitVec 32 := 32#32
  let c0_i32_1359 : BitVec 32 := 0#32
  let v1702 : BitVec 1 := Scalar.cmpi .eq c32_i32_1358 c0_i32_1359
  let c1_i32_1360 : BitVec 32 := 1#32
  let v1703 : BitVec 32 := Scalar.select v1702 c1_i32_1360 c32_i32_1358
  let v1704 : BitVec 32 := Scalar.remsi v1701 v1703
  let c0_i32_1362 : BitVec 32 := 0#32
  let v1706 : BitVec 1 := Scalar.cmpi .slt v1704 c0_i32_1362
  let c0_i32_1363 : BitVec 32 := 0#32
  let v1707 : BitVec 1 := Scalar.cmpi .slt v1703 c0_i32_1363
  let v1708 : BitVec 1 := Scalar.xori v1706 v1707
  let c0_i32_1361 : BitVec 32 := 0#32
  let v1705 : BitVec 1 := Scalar.cmpi .ne v1704 c0_i32_1361
  let v1709 : BitVec 1 := Scalar.andi v1708 v1705
  let v1710 : BitVec 32 := Scalar.addi v1704 v1703
  let v1711 : BitVec 32 := Scalar.select v1709 v1710 v1704
  let c1_i32_1366 : BitVec 32 := 1#32
  let v1712 : BitVec 32 := Scalar.muli v1711 c1_i32_1366
  let v1713 : BitVec 32 := Scalar.addi c0_i32_1367 v1712
  v1713.toNat
def k0_dev78 (d0 : Dev nD) : Nat :=
  let c0_i32_1381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1371 : BitVec 32 := 16#32
  let v1720 : BitVec 32 := Scalar.addi v2 c16_i32_1371
  let c32_i32_1372 : BitVec 32 := 32#32
  let c0_i32_1373 : BitVec 32 := 0#32
  let v1721 : BitVec 1 := Scalar.cmpi .eq c32_i32_1372 c0_i32_1373
  let c1_i32_1374 : BitVec 32 := 1#32
  let v1722 : BitVec 32 := Scalar.select v1721 c1_i32_1374 c32_i32_1372
  let v1723 : BitVec 32 := Scalar.remsi v1720 v1722
  let c0_i32_1376 : BitVec 32 := 0#32
  let v1725 : BitVec 1 := Scalar.cmpi .slt v1723 c0_i32_1376
  let c0_i32_1377 : BitVec 32 := 0#32
  let v1726 : BitVec 1 := Scalar.cmpi .slt v1722 c0_i32_1377
  let v1727 : BitVec 1 := Scalar.xori v1725 v1726
  let c0_i32_1375 : BitVec 32 := 0#32
  let v1724 : BitVec 1 := Scalar.cmpi .ne v1723 c0_i32_1375
  let v1728 : BitVec 1 := Scalar.andi v1727 v1724
  let v1729 : BitVec 32 := Scalar.addi v1723 v1722
  let v1730 : BitVec 32 := Scalar.select v1728 v1729 v1723
  let c1_i32_1380 : BitVec 32 := 1#32
  let v1731 : BitVec 32 := Scalar.muli v1730 c1_i32_1380
  let v1732 : BitVec 32 := Scalar.addi c0_i32_1381 v1731
  v1732.toNat
def k0_dev79 (d0 : Dev nD) : Nat :=
  let c0_i32_1395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1385 : BitVec 32 := 17#32
  let v1739 : BitVec 32 := Scalar.addi v2 c17_i32_1385
  let c32_i32_1386 : BitVec 32 := 32#32
  let c0_i32_1387 : BitVec 32 := 0#32
  let v1740 : BitVec 1 := Scalar.cmpi .eq c32_i32_1386 c0_i32_1387
  let c1_i32_1388 : BitVec 32 := 1#32
  let v1741 : BitVec 32 := Scalar.select v1740 c1_i32_1388 c32_i32_1386
  let v1742 : BitVec 32 := Scalar.remsi v1739 v1741
  let c0_i32_1390 : BitVec 32 := 0#32
  let v1744 : BitVec 1 := Scalar.cmpi .slt v1742 c0_i32_1390
  let c0_i32_1391 : BitVec 32 := 0#32
  let v1745 : BitVec 1 := Scalar.cmpi .slt v1741 c0_i32_1391
  let v1746 : BitVec 1 := Scalar.xori v1744 v1745
  let c0_i32_1389 : BitVec 32 := 0#32
  let v1743 : BitVec 1 := Scalar.cmpi .ne v1742 c0_i32_1389
  let v1747 : BitVec 1 := Scalar.andi v1746 v1743
  let v1748 : BitVec 32 := Scalar.addi v1742 v1741
  let v1749 : BitVec 32 := Scalar.select v1747 v1748 v1742
  let c1_i32_1394 : BitVec 32 := 1#32
  let v1750 : BitVec 32 := Scalar.muli v1749 c1_i32_1394
  let v1751 : BitVec 32 := Scalar.addi c0_i32_1395 v1750
  v1751.toNat
def k0_dev80 (d0 : Dev nD) : Nat :=
  let c0_i32_1409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1399 : BitVec 32 := 18#32
  let v1758 : BitVec 32 := Scalar.addi v2 c18_i32_1399
  let c32_i32_1400 : BitVec 32 := 32#32
  let c0_i32_1401 : BitVec 32 := 0#32
  let v1759 : BitVec 1 := Scalar.cmpi .eq c32_i32_1400 c0_i32_1401
  let c1_i32_1402 : BitVec 32 := 1#32
  let v1760 : BitVec 32 := Scalar.select v1759 c1_i32_1402 c32_i32_1400
  let v1761 : BitVec 32 := Scalar.remsi v1758 v1760
  let c0_i32_1404 : BitVec 32 := 0#32
  let v1763 : BitVec 1 := Scalar.cmpi .slt v1761 c0_i32_1404
  let c0_i32_1405 : BitVec 32 := 0#32
  let v1764 : BitVec 1 := Scalar.cmpi .slt v1760 c0_i32_1405
  let v1765 : BitVec 1 := Scalar.xori v1763 v1764
  let c0_i32_1403 : BitVec 32 := 0#32
  let v1762 : BitVec 1 := Scalar.cmpi .ne v1761 c0_i32_1403
  let v1766 : BitVec 1 := Scalar.andi v1765 v1762
  let v1767 : BitVec 32 := Scalar.addi v1761 v1760
  let v1768 : BitVec 32 := Scalar.select v1766 v1767 v1761
  let c1_i32_1408 : BitVec 32 := 1#32
  let v1769 : BitVec 32 := Scalar.muli v1768 c1_i32_1408
  let v1770 : BitVec 32 := Scalar.addi c0_i32_1409 v1769
  v1770.toNat
def k0_dev81 (d0 : Dev nD) : Nat :=
  let c0_i32_1423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1413 : BitVec 32 := 19#32
  let v1777 : BitVec 32 := Scalar.addi v2 c19_i32_1413
  let c32_i32_1414 : BitVec 32 := 32#32
  let c0_i32_1415 : BitVec 32 := 0#32
  let v1778 : BitVec 1 := Scalar.cmpi .eq c32_i32_1414 c0_i32_1415
  let c1_i32_1416 : BitVec 32 := 1#32
  let v1779 : BitVec 32 := Scalar.select v1778 c1_i32_1416 c32_i32_1414
  let v1780 : BitVec 32 := Scalar.remsi v1777 v1779
  let c0_i32_1418 : BitVec 32 := 0#32
  let v1782 : BitVec 1 := Scalar.cmpi .slt v1780 c0_i32_1418
  let c0_i32_1419 : BitVec 32 := 0#32
  let v1783 : BitVec 1 := Scalar.cmpi .slt v1779 c0_i32_1419
  let v1784 : BitVec 1 := Scalar.xori v1782 v1783
  let c0_i32_1417 : BitVec 32 := 0#32
  let v1781 : BitVec 1 := Scalar.cmpi .ne v1780 c0_i32_1417
  let v1785 : BitVec 1 := Scalar.andi v1784 v1781
  let v1786 : BitVec 32 := Scalar.addi v1780 v1779
  let v1787 : BitVec 32 := Scalar.select v1785 v1786 v1780
  let c1_i32_1422 : BitVec 32 := 1#32
  let v1788 : BitVec 32 := Scalar.muli v1787 c1_i32_1422
  let v1789 : BitVec 32 := Scalar.addi c0_i32_1423 v1788
  v1789.toNat
def k0_dev82 (d0 : Dev nD) : Nat :=
  let c0_i32_1437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1427 : BitVec 32 := 20#32
  let v1796 : BitVec 32 := Scalar.addi v2 c20_i32_1427
  let c32_i32_1428 : BitVec 32 := 32#32
  let c0_i32_1429 : BitVec 32 := 0#32
  let v1797 : BitVec 1 := Scalar.cmpi .eq c32_i32_1428 c0_i32_1429
  let c1_i32_1430 : BitVec 32 := 1#32
  let v1798 : BitVec 32 := Scalar.select v1797 c1_i32_1430 c32_i32_1428
  let v1799 : BitVec 32 := Scalar.remsi v1796 v1798
  let c0_i32_1432 : BitVec 32 := 0#32
  let v1801 : BitVec 1 := Scalar.cmpi .slt v1799 c0_i32_1432
  let c0_i32_1433 : BitVec 32 := 0#32
  let v1802 : BitVec 1 := Scalar.cmpi .slt v1798 c0_i32_1433
  let v1803 : BitVec 1 := Scalar.xori v1801 v1802
  let c0_i32_1431 : BitVec 32 := 0#32
  let v1800 : BitVec 1 := Scalar.cmpi .ne v1799 c0_i32_1431
  let v1804 : BitVec 1 := Scalar.andi v1803 v1800
  let v1805 : BitVec 32 := Scalar.addi v1799 v1798
  let v1806 : BitVec 32 := Scalar.select v1804 v1805 v1799
  let c1_i32_1436 : BitVec 32 := 1#32
  let v1807 : BitVec 32 := Scalar.muli v1806 c1_i32_1436
  let v1808 : BitVec 32 := Scalar.addi c0_i32_1437 v1807
  v1808.toNat
def k0_dev83 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1441 : BitVec 32 := 21#32
  let v1815 : BitVec 32 := Scalar.addi v2 c21_i32_1441
  let c32_i32_1442 : BitVec 32 := 32#32
  let c0_i32_1443 : BitVec 32 := 0#32
  let v1816 : BitVec 1 := Scalar.cmpi .eq c32_i32_1442 c0_i32_1443
  let c1_i32_1444 : BitVec 32 := 1#32
  let v1817 : BitVec 32 := Scalar.select v1816 c1_i32_1444 c32_i32_1442
  let v1818 : BitVec 32 := Scalar.remsi v1815 v1817
  let c0_i32_1446 : BitVec 32 := 0#32
  let v1820 : BitVec 1 := Scalar.cmpi .slt v1818 c0_i32_1446
  let c0_i32_1447 : BitVec 32 := 0#32
  let v1821 : BitVec 1 := Scalar.cmpi .slt v1817 c0_i32_1447
  let v1822 : BitVec 1 := Scalar.xori v1820 v1821
  let c0_i32_1445 : BitVec 32 := 0#32
  let v1819 : BitVec 1 := Scalar.cmpi .ne v1818 c0_i32_1445
  let v1823 : BitVec 1 := Scalar.andi v1822 v1819
  let v1824 : BitVec 32 := Scalar.addi v1818 v1817
  let v1825 : BitVec 32 := Scalar.select v1823 v1824 v1818
  let c1_i32_1450 : BitVec 32 := 1#32
  let v1826 : BitVec 32 := Scalar.muli v1825 c1_i32_1450
  let v1827 : BitVec 32 := Scalar.addi c0_i32_1451 v1826
  v1827.toNat
def k0_dev84 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1455 : BitVec 32 := 22#32
  let v1834 : BitVec 32 := Scalar.addi v2 c22_i32_1455
  let c32_i32_1456 : BitVec 32 := 32#32
  let c0_i32_1457 : BitVec 32 := 0#32
  let v1835 : BitVec 1 := Scalar.cmpi .eq c32_i32_1456 c0_i32_1457
  let c1_i32_1458 : BitVec 32 := 1#32
  let v1836 : BitVec 32 := Scalar.select v1835 c1_i32_1458 c32_i32_1456
  let v1837 : BitVec 32 := Scalar.remsi v1834 v1836
  let c0_i32_1460 : BitVec 32 := 0#32
  let v1839 : BitVec 1 := Scalar.cmpi .slt v1837 c0_i32_1460
  let c0_i32_1461 : BitVec 32 := 0#32
  let v1840 : BitVec 1 := Scalar.cmpi .slt v1836 c0_i32_1461
  let v1841 : BitVec 1 := Scalar.xori v1839 v1840
  let c0_i32_1459 : BitVec 32 := 0#32
  let v1838 : BitVec 1 := Scalar.cmpi .ne v1837 c0_i32_1459
  let v1842 : BitVec 1 := Scalar.andi v1841 v1838
  let v1843 : BitVec 32 := Scalar.addi v1837 v1836
  let v1844 : BitVec 32 := Scalar.select v1842 v1843 v1837
  let c1_i32_1464 : BitVec 32 := 1#32
  let v1845 : BitVec 32 := Scalar.muli v1844 c1_i32_1464
  let v1846 : BitVec 32 := Scalar.addi c0_i32_1465 v1845
  v1846.toNat
def k0_dev85 (d0 : Dev nD) : Nat :=
  let c0_i32_1479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1469 : BitVec 32 := 23#32
  let v1853 : BitVec 32 := Scalar.addi v2 c23_i32_1469
  let c32_i32_1470 : BitVec 32 := 32#32
  let c0_i32_1471 : BitVec 32 := 0#32
  let v1854 : BitVec 1 := Scalar.cmpi .eq c32_i32_1470 c0_i32_1471
  let c1_i32_1472 : BitVec 32 := 1#32
  let v1855 : BitVec 32 := Scalar.select v1854 c1_i32_1472 c32_i32_1470
  let v1856 : BitVec 32 := Scalar.remsi v1853 v1855
  let c0_i32_1474 : BitVec 32 := 0#32
  let v1858 : BitVec 1 := Scalar.cmpi .slt v1856 c0_i32_1474
  let c0_i32_1475 : BitVec 32 := 0#32
  let v1859 : BitVec 1 := Scalar.cmpi .slt v1855 c0_i32_1475
  let v1860 : BitVec 1 := Scalar.xori v1858 v1859
  let c0_i32_1473 : BitVec 32 := 0#32
  let v1857 : BitVec 1 := Scalar.cmpi .ne v1856 c0_i32_1473
  let v1861 : BitVec 1 := Scalar.andi v1860 v1857
  let v1862 : BitVec 32 := Scalar.addi v1856 v1855
  let v1863 : BitVec 32 := Scalar.select v1861 v1862 v1856
  let c1_i32_1478 : BitVec 32 := 1#32
  let v1864 : BitVec 32 := Scalar.muli v1863 c1_i32_1478
  let v1865 : BitVec 32 := Scalar.addi c0_i32_1479 v1864
  v1865.toNat
def k0_dev86 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1483 : BitVec 32 := 24#32
  let v1872 : BitVec 32 := Scalar.addi v2 c24_i32_1483
  let c32_i32_1484 : BitVec 32 := 32#32
  let c0_i32_1485 : BitVec 32 := 0#32
  let v1873 : BitVec 1 := Scalar.cmpi .eq c32_i32_1484 c0_i32_1485
  let c1_i32_1486 : BitVec 32 := 1#32
  let v1874 : BitVec 32 := Scalar.select v1873 c1_i32_1486 c32_i32_1484
  let v1875 : BitVec 32 := Scalar.remsi v1872 v1874
  let c0_i32_1488 : BitVec 32 := 0#32
  let v1877 : BitVec 1 := Scalar.cmpi .slt v1875 c0_i32_1488
  let c0_i32_1489 : BitVec 32 := 0#32
  let v1878 : BitVec 1 := Scalar.cmpi .slt v1874 c0_i32_1489
  let v1879 : BitVec 1 := Scalar.xori v1877 v1878
  let c0_i32_1487 : BitVec 32 := 0#32
  let v1876 : BitVec 1 := Scalar.cmpi .ne v1875 c0_i32_1487
  let v1880 : BitVec 1 := Scalar.andi v1879 v1876
  let v1881 : BitVec 32 := Scalar.addi v1875 v1874
  let v1882 : BitVec 32 := Scalar.select v1880 v1881 v1875
  let c1_i32_1492 : BitVec 32 := 1#32
  let v1883 : BitVec 32 := Scalar.muli v1882 c1_i32_1492
  let v1884 : BitVec 32 := Scalar.addi c0_i32_1493 v1883
  v1884.toNat
def k0_dev87 (d0 : Dev nD) : Nat :=
  let c0_i32_1507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1497 : BitVec 32 := 25#32
  let v1891 : BitVec 32 := Scalar.addi v2 c25_i32_1497
  let c32_i32_1498 : BitVec 32 := 32#32
  let c0_i32_1499 : BitVec 32 := 0#32
  let v1892 : BitVec 1 := Scalar.cmpi .eq c32_i32_1498 c0_i32_1499
  let c1_i32_1500 : BitVec 32 := 1#32
  let v1893 : BitVec 32 := Scalar.select v1892 c1_i32_1500 c32_i32_1498
  let v1894 : BitVec 32 := Scalar.remsi v1891 v1893
  let c0_i32_1502 : BitVec 32 := 0#32
  let v1896 : BitVec 1 := Scalar.cmpi .slt v1894 c0_i32_1502
  let c0_i32_1503 : BitVec 32 := 0#32
  let v1897 : BitVec 1 := Scalar.cmpi .slt v1893 c0_i32_1503
  let v1898 : BitVec 1 := Scalar.xori v1896 v1897
  let c0_i32_1501 : BitVec 32 := 0#32
  let v1895 : BitVec 1 := Scalar.cmpi .ne v1894 c0_i32_1501
  let v1899 : BitVec 1 := Scalar.andi v1898 v1895
  let v1900 : BitVec 32 := Scalar.addi v1894 v1893
  let v1901 : BitVec 32 := Scalar.select v1899 v1900 v1894
  let c1_i32_1506 : BitVec 32 := 1#32
  let v1902 : BitVec 32 := Scalar.muli v1901 c1_i32_1506
  let v1903 : BitVec 32 := Scalar.addi c0_i32_1507 v1902
  v1903.toNat
def k0_dev88 (d0 : Dev nD) : Nat :=
  let c0_i32_1521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1511 : BitVec 32 := 26#32
  let v1910 : BitVec 32 := Scalar.addi v2 c26_i32_1511
  let c32_i32_1512 : BitVec 32 := 32#32
  let c0_i32_1513 : BitVec 32 := 0#32
  let v1911 : BitVec 1 := Scalar.cmpi .eq c32_i32_1512 c0_i32_1513
  let c1_i32_1514 : BitVec 32 := 1#32
  let v1912 : BitVec 32 := Scalar.select v1911 c1_i32_1514 c32_i32_1512
  let v1913 : BitVec 32 := Scalar.remsi v1910 v1912
  let c0_i32_1516 : BitVec 32 := 0#32
  let v1915 : BitVec 1 := Scalar.cmpi .slt v1913 c0_i32_1516
  let c0_i32_1517 : BitVec 32 := 0#32
  let v1916 : BitVec 1 := Scalar.cmpi .slt v1912 c0_i32_1517
  let v1917 : BitVec 1 := Scalar.xori v1915 v1916
  let c0_i32_1515 : BitVec 32 := 0#32
  let v1914 : BitVec 1 := Scalar.cmpi .ne v1913 c0_i32_1515
  let v1918 : BitVec 1 := Scalar.andi v1917 v1914
  let v1919 : BitVec 32 := Scalar.addi v1913 v1912
  let v1920 : BitVec 32 := Scalar.select v1918 v1919 v1913
  let c1_i32_1520 : BitVec 32 := 1#32
  let v1921 : BitVec 32 := Scalar.muli v1920 c1_i32_1520
  let v1922 : BitVec 32 := Scalar.addi c0_i32_1521 v1921
  v1922.toNat
def k0_dev89 (d0 : Dev nD) : Nat :=
  let c0_i32_1535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1525 : BitVec 32 := 27#32
  let v1929 : BitVec 32 := Scalar.addi v2 c27_i32_1525
  let c32_i32_1526 : BitVec 32 := 32#32
  let c0_i32_1527 : BitVec 32 := 0#32
  let v1930 : BitVec 1 := Scalar.cmpi .eq c32_i32_1526 c0_i32_1527
  let c1_i32_1528 : BitVec 32 := 1#32
  let v1931 : BitVec 32 := Scalar.select v1930 c1_i32_1528 c32_i32_1526
  let v1932 : BitVec 32 := Scalar.remsi v1929 v1931
  let c0_i32_1530 : BitVec 32 := 0#32
  let v1934 : BitVec 1 := Scalar.cmpi .slt v1932 c0_i32_1530
  let c0_i32_1531 : BitVec 32 := 0#32
  let v1935 : BitVec 1 := Scalar.cmpi .slt v1931 c0_i32_1531
  let v1936 : BitVec 1 := Scalar.xori v1934 v1935
  let c0_i32_1529 : BitVec 32 := 0#32
  let v1933 : BitVec 1 := Scalar.cmpi .ne v1932 c0_i32_1529
  let v1937 : BitVec 1 := Scalar.andi v1936 v1933
  let v1938 : BitVec 32 := Scalar.addi v1932 v1931
  let v1939 : BitVec 32 := Scalar.select v1937 v1938 v1932
  let c1_i32_1534 : BitVec 32 := 1#32
  let v1940 : BitVec 32 := Scalar.muli v1939 c1_i32_1534
  let v1941 : BitVec 32 := Scalar.addi c0_i32_1535 v1940
  v1941.toNat
def k0_dev90 (d0 : Dev nD) : Nat :=
  let c0_i32_1549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1539 : BitVec 32 := 28#32
  let v1948 : BitVec 32 := Scalar.addi v2 c28_i32_1539
  let c32_i32_1540 : BitVec 32 := 32#32
  let c0_i32_1541 : BitVec 32 := 0#32
  let v1949 : BitVec 1 := Scalar.cmpi .eq c32_i32_1540 c0_i32_1541
  let c1_i32_1542 : BitVec 32 := 1#32
  let v1950 : BitVec 32 := Scalar.select v1949 c1_i32_1542 c32_i32_1540
  let v1951 : BitVec 32 := Scalar.remsi v1948 v1950
  let c0_i32_1544 : BitVec 32 := 0#32
  let v1953 : BitVec 1 := Scalar.cmpi .slt v1951 c0_i32_1544
  let c0_i32_1545 : BitVec 32 := 0#32
  let v1954 : BitVec 1 := Scalar.cmpi .slt v1950 c0_i32_1545
  let v1955 : BitVec 1 := Scalar.xori v1953 v1954
  let c0_i32_1543 : BitVec 32 := 0#32
  let v1952 : BitVec 1 := Scalar.cmpi .ne v1951 c0_i32_1543
  let v1956 : BitVec 1 := Scalar.andi v1955 v1952
  let v1957 : BitVec 32 := Scalar.addi v1951 v1950
  let v1958 : BitVec 32 := Scalar.select v1956 v1957 v1951
  let c1_i32_1548 : BitVec 32 := 1#32
  let v1959 : BitVec 32 := Scalar.muli v1958 c1_i32_1548
  let v1960 : BitVec 32 := Scalar.addi c0_i32_1549 v1959
  v1960.toNat
def k0_dev91 (d0 : Dev nD) : Nat :=
  let c0_i32_1563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1553 : BitVec 32 := 29#32
  let v1967 : BitVec 32 := Scalar.addi v2 c29_i32_1553
  let c32_i32_1554 : BitVec 32 := 32#32
  let c0_i32_1555 : BitVec 32 := 0#32
  let v1968 : BitVec 1 := Scalar.cmpi .eq c32_i32_1554 c0_i32_1555
  let c1_i32_1556 : BitVec 32 := 1#32
  let v1969 : BitVec 32 := Scalar.select v1968 c1_i32_1556 c32_i32_1554
  let v1970 : BitVec 32 := Scalar.remsi v1967 v1969
  let c0_i32_1558 : BitVec 32 := 0#32
  let v1972 : BitVec 1 := Scalar.cmpi .slt v1970 c0_i32_1558
  let c0_i32_1559 : BitVec 32 := 0#32
  let v1973 : BitVec 1 := Scalar.cmpi .slt v1969 c0_i32_1559
  let v1974 : BitVec 1 := Scalar.xori v1972 v1973
  let c0_i32_1557 : BitVec 32 := 0#32
  let v1971 : BitVec 1 := Scalar.cmpi .ne v1970 c0_i32_1557
  let v1975 : BitVec 1 := Scalar.andi v1974 v1971
  let v1976 : BitVec 32 := Scalar.addi v1970 v1969
  let v1977 : BitVec 32 := Scalar.select v1975 v1976 v1970
  let c1_i32_1562 : BitVec 32 := 1#32
  let v1978 : BitVec 32 := Scalar.muli v1977 c1_i32_1562
  let v1979 : BitVec 32 := Scalar.addi c0_i32_1563 v1978
  v1979.toNat
def k0_dev92 (d0 : Dev nD) : Nat :=
  let c0_i32_1577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1567 : BitVec 32 := 30#32
  let v1986 : BitVec 32 := Scalar.addi v2 c30_i32_1567
  let c32_i32_1568 : BitVec 32 := 32#32
  let c0_i32_1569 : BitVec 32 := 0#32
  let v1987 : BitVec 1 := Scalar.cmpi .eq c32_i32_1568 c0_i32_1569
  let c1_i32_1570 : BitVec 32 := 1#32
  let v1988 : BitVec 32 := Scalar.select v1987 c1_i32_1570 c32_i32_1568
  let v1989 : BitVec 32 := Scalar.remsi v1986 v1988
  let c0_i32_1572 : BitVec 32 := 0#32
  let v1991 : BitVec 1 := Scalar.cmpi .slt v1989 c0_i32_1572
  let c0_i32_1573 : BitVec 32 := 0#32
  let v1992 : BitVec 1 := Scalar.cmpi .slt v1988 c0_i32_1573
  let v1993 : BitVec 1 := Scalar.xori v1991 v1992
  let c0_i32_1571 : BitVec 32 := 0#32
  let v1990 : BitVec 1 := Scalar.cmpi .ne v1989 c0_i32_1571
  let v1994 : BitVec 1 := Scalar.andi v1993 v1990
  let v1995 : BitVec 32 := Scalar.addi v1989 v1988
  let v1996 : BitVec 32 := Scalar.select v1994 v1995 v1989
  let c1_i32_1576 : BitVec 32 := 1#32
  let v1997 : BitVec 32 := Scalar.muli v1996 c1_i32_1576
  let v1998 : BitVec 32 := Scalar.addi c0_i32_1577 v1997
  v1998.toNat
def k0_dev93 (d0 : Dev nD) : Nat :=
  let c0_i32_1591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1581 : BitVec 32 := 31#32
  let v2005 : BitVec 32 := Scalar.addi v2 c31_i32_1581
  let c32_i32_1582 : BitVec 32 := 32#32
  let c0_i32_1583 : BitVec 32 := 0#32
  let v2006 : BitVec 1 := Scalar.cmpi .eq c32_i32_1582 c0_i32_1583
  let c1_i32_1584 : BitVec 32 := 1#32
  let v2007 : BitVec 32 := Scalar.select v2006 c1_i32_1584 c32_i32_1582
  let v2008 : BitVec 32 := Scalar.remsi v2005 v2007
  let c0_i32_1586 : BitVec 32 := 0#32
  let v2010 : BitVec 1 := Scalar.cmpi .slt v2008 c0_i32_1586
  let c0_i32_1587 : BitVec 32 := 0#32
  let v2011 : BitVec 1 := Scalar.cmpi .slt v2007 c0_i32_1587
  let v2012 : BitVec 1 := Scalar.xori v2010 v2011
  let c0_i32_1585 : BitVec 32 := 0#32
  let v2009 : BitVec 1 := Scalar.cmpi .ne v2008 c0_i32_1585
  let v2013 : BitVec 1 := Scalar.andi v2012 v2009
  let v2014 : BitVec 32 := Scalar.addi v2008 v2007
  let v2015 : BitVec 32 := Scalar.select v2013 v2014 v2008
  let c1_i32_1590 : BitVec 32 := 1#32
  let v2016 : BitVec 32 := Scalar.muli v2015 c1_i32_1590
  let v2017 : BitVec 32 := Scalar.addi c0_i32_1591 v2016
  v2017.toNat
def k0_dev94 (d0 : Dev nD) : Nat :=
  let c0_i32_1645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1635 : BitVec 32 := 1#32
  let v2066 : BitVec 32 := Scalar.subi v2 c1_i32_1635
  let c32_i32_1636 : BitVec 32 := 32#32
  let c0_i32_1637 : BitVec 32 := 0#32
  let v2067 : BitVec 1 := Scalar.cmpi .eq c32_i32_1636 c0_i32_1637
  let c1_i32_1638 : BitVec 32 := 1#32
  let v2068 : BitVec 32 := Scalar.select v2067 c1_i32_1638 c32_i32_1636
  let v2069 : BitVec 32 := Scalar.remsi v2066 v2068
  let c0_i32_1640 : BitVec 32 := 0#32
  let v2071 : BitVec 1 := Scalar.cmpi .slt v2069 c0_i32_1640
  let c0_i32_1641 : BitVec 32 := 0#32
  let v2072 : BitVec 1 := Scalar.cmpi .slt v2068 c0_i32_1641
  let v2073 : BitVec 1 := Scalar.xori v2071 v2072
  let c0_i32_1639 : BitVec 32 := 0#32
  let v2070 : BitVec 1 := Scalar.cmpi .ne v2069 c0_i32_1639
  let v2074 : BitVec 1 := Scalar.andi v2073 v2070
  let v2075 : BitVec 32 := Scalar.addi v2069 v2068
  let v2076 : BitVec 32 := Scalar.select v2074 v2075 v2069
  let c1_i32_1644 : BitVec 32 := 1#32
  let v2077 : BitVec 32 := Scalar.muli v2076 c1_i32_1644
  let v2078 : BitVec 32 := Scalar.addi c0_i32_1645 v2077
  v2078.toNat
def k0_dev95 (d0 : Dev nD) : Nat :=
  let c0_i32_1682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1672 : BitVec 32 := 2#32
  let v2107 : BitVec 32 := Scalar.subi v2 c2_i32_1672
  let c32_i32_1673 : BitVec 32 := 32#32
  let c0_i32_1674 : BitVec 32 := 0#32
  let v2108 : BitVec 1 := Scalar.cmpi .eq c32_i32_1673 c0_i32_1674
  let c1_i32_1675 : BitVec 32 := 1#32
  let v2109 : BitVec 32 := Scalar.select v2108 c1_i32_1675 c32_i32_1673
  let v2110 : BitVec 32 := Scalar.remsi v2107 v2109
  let c0_i32_1677 : BitVec 32 := 0#32
  let v2112 : BitVec 1 := Scalar.cmpi .slt v2110 c0_i32_1677
  let c0_i32_1678 : BitVec 32 := 0#32
  let v2113 : BitVec 1 := Scalar.cmpi .slt v2109 c0_i32_1678
  let v2114 : BitVec 1 := Scalar.xori v2112 v2113
  let c0_i32_1676 : BitVec 32 := 0#32
  let v2111 : BitVec 1 := Scalar.cmpi .ne v2110 c0_i32_1676
  let v2115 : BitVec 1 := Scalar.andi v2114 v2111
  let v2116 : BitVec 32 := Scalar.addi v2110 v2109
  let v2117 : BitVec 32 := Scalar.select v2115 v2116 v2110
  let c1_i32_1681 : BitVec 32 := 1#32
  let v2118 : BitVec 32 := Scalar.muli v2117 c1_i32_1681
  let v2119 : BitVec 32 := Scalar.addi c0_i32_1682 v2118
  v2119.toNat
def k0_dev96 (d0 : Dev nD) : Nat :=
  let c0_i32_1719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1709 : BitVec 32 := 3#32
  let v2148 : BitVec 32 := Scalar.subi v2 c3_i32_1709
  let c32_i32_1710 : BitVec 32 := 32#32
  let c0_i32_1711 : BitVec 32 := 0#32
  let v2149 : BitVec 1 := Scalar.cmpi .eq c32_i32_1710 c0_i32_1711
  let c1_i32_1712 : BitVec 32 := 1#32
  let v2150 : BitVec 32 := Scalar.select v2149 c1_i32_1712 c32_i32_1710
  let v2151 : BitVec 32 := Scalar.remsi v2148 v2150
  let c0_i32_1714 : BitVec 32 := 0#32
  let v2153 : BitVec 1 := Scalar.cmpi .slt v2151 c0_i32_1714
  let c0_i32_1715 : BitVec 32 := 0#32
  let v2154 : BitVec 1 := Scalar.cmpi .slt v2150 c0_i32_1715
  let v2155 : BitVec 1 := Scalar.xori v2153 v2154
  let c0_i32_1713 : BitVec 32 := 0#32
  let v2152 : BitVec 1 := Scalar.cmpi .ne v2151 c0_i32_1713
  let v2156 : BitVec 1 := Scalar.andi v2155 v2152
  let v2157 : BitVec 32 := Scalar.addi v2151 v2150
  let v2158 : BitVec 32 := Scalar.select v2156 v2157 v2151
  let c1_i32_1718 : BitVec 32 := 1#32
  let v2159 : BitVec 32 := Scalar.muli v2158 c1_i32_1718
  let v2160 : BitVec 32 := Scalar.addi c0_i32_1719 v2159
  v2160.toNat
def k0_dev97 (d0 : Dev nD) : Nat :=
  let c0_i32_1756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1746 : BitVec 32 := 4#32
  let v2189 : BitVec 32 := Scalar.subi v2 c4_i32_1746
  let c32_i32_1747 : BitVec 32 := 32#32
  let c0_i32_1748 : BitVec 32 := 0#32
  let v2190 : BitVec 1 := Scalar.cmpi .eq c32_i32_1747 c0_i32_1748
  let c1_i32_1749 : BitVec 32 := 1#32
  let v2191 : BitVec 32 := Scalar.select v2190 c1_i32_1749 c32_i32_1747
  let v2192 : BitVec 32 := Scalar.remsi v2189 v2191
  let c0_i32_1751 : BitVec 32 := 0#32
  let v2194 : BitVec 1 := Scalar.cmpi .slt v2192 c0_i32_1751
  let c0_i32_1752 : BitVec 32 := 0#32
  let v2195 : BitVec 1 := Scalar.cmpi .slt v2191 c0_i32_1752
  let v2196 : BitVec 1 := Scalar.xori v2194 v2195
  let c0_i32_1750 : BitVec 32 := 0#32
  let v2193 : BitVec 1 := Scalar.cmpi .ne v2192 c0_i32_1750
  let v2197 : BitVec 1 := Scalar.andi v2196 v2193
  let v2198 : BitVec 32 := Scalar.addi v2192 v2191
  let v2199 : BitVec 32 := Scalar.select v2197 v2198 v2192
  let c1_i32_1755 : BitVec 32 := 1#32
  let v2200 : BitVec 32 := Scalar.muli v2199 c1_i32_1755
  let v2201 : BitVec 32 := Scalar.addi c0_i32_1756 v2200
  v2201.toNat
def k0_dev98 (d0 : Dev nD) : Nat :=
  let c0_i32_1793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1783 : BitVec 32 := 5#32
  let v2230 : BitVec 32 := Scalar.subi v2 c5_i32_1783
  let c32_i32_1784 : BitVec 32 := 32#32
  let c0_i32_1785 : BitVec 32 := 0#32
  let v2231 : BitVec 1 := Scalar.cmpi .eq c32_i32_1784 c0_i32_1785
  let c1_i32_1786 : BitVec 32 := 1#32
  let v2232 : BitVec 32 := Scalar.select v2231 c1_i32_1786 c32_i32_1784
  let v2233 : BitVec 32 := Scalar.remsi v2230 v2232
  let c0_i32_1788 : BitVec 32 := 0#32
  let v2235 : BitVec 1 := Scalar.cmpi .slt v2233 c0_i32_1788
  let c0_i32_1789 : BitVec 32 := 0#32
  let v2236 : BitVec 1 := Scalar.cmpi .slt v2232 c0_i32_1789
  let v2237 : BitVec 1 := Scalar.xori v2235 v2236
  let c0_i32_1787 : BitVec 32 := 0#32
  let v2234 : BitVec 1 := Scalar.cmpi .ne v2233 c0_i32_1787
  let v2238 : BitVec 1 := Scalar.andi v2237 v2234
  let v2239 : BitVec 32 := Scalar.addi v2233 v2232
  let v2240 : BitVec 32 := Scalar.select v2238 v2239 v2233
  let c1_i32_1792 : BitVec 32 := 1#32
  let v2241 : BitVec 32 := Scalar.muli v2240 c1_i32_1792
  let v2242 : BitVec 32 := Scalar.addi c0_i32_1793 v2241
  v2242.toNat
def k0_dev99 (d0 : Dev nD) : Nat :=
  let c0_i32_1830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1820 : BitVec 32 := 6#32
  let v2271 : BitVec 32 := Scalar.subi v2 c6_i32_1820
  let c32_i32_1821 : BitVec 32 := 32#32
  let c0_i32_1822 : BitVec 32 := 0#32
  let v2272 : BitVec 1 := Scalar.cmpi .eq c32_i32_1821 c0_i32_1822
  let c1_i32_1823 : BitVec 32 := 1#32
  let v2273 : BitVec 32 := Scalar.select v2272 c1_i32_1823 c32_i32_1821
  let v2274 : BitVec 32 := Scalar.remsi v2271 v2273
  let c0_i32_1825 : BitVec 32 := 0#32
  let v2276 : BitVec 1 := Scalar.cmpi .slt v2274 c0_i32_1825
  let c0_i32_1826 : BitVec 32 := 0#32
  let v2277 : BitVec 1 := Scalar.cmpi .slt v2273 c0_i32_1826
  let v2278 : BitVec 1 := Scalar.xori v2276 v2277
  let c0_i32_1824 : BitVec 32 := 0#32
  let v2275 : BitVec 1 := Scalar.cmpi .ne v2274 c0_i32_1824
  let v2279 : BitVec 1 := Scalar.andi v2278 v2275
  let v2280 : BitVec 32 := Scalar.addi v2274 v2273
  let v2281 : BitVec 32 := Scalar.select v2279 v2280 v2274
  let c1_i32_1829 : BitVec 32 := 1#32
  let v2282 : BitVec 32 := Scalar.muli v2281 c1_i32_1829
  let v2283 : BitVec 32 := Scalar.addi c0_i32_1830 v2282
  v2283.toNat
def k0_dev100 (d0 : Dev nD) : Nat :=
  let c0_i32_1867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1857 : BitVec 32 := 7#32
  let v2312 : BitVec 32 := Scalar.subi v2 c7_i32_1857
  let c32_i32_1858 : BitVec 32 := 32#32
  let c0_i32_1859 : BitVec 32 := 0#32
  let v2313 : BitVec 1 := Scalar.cmpi .eq c32_i32_1858 c0_i32_1859
  let c1_i32_1860 : BitVec 32 := 1#32
  let v2314 : BitVec 32 := Scalar.select v2313 c1_i32_1860 c32_i32_1858
  let v2315 : BitVec 32 := Scalar.remsi v2312 v2314
  let c0_i32_1862 : BitVec 32 := 0#32
  let v2317 : BitVec 1 := Scalar.cmpi .slt v2315 c0_i32_1862
  let c0_i32_1863 : BitVec 32 := 0#32
  let v2318 : BitVec 1 := Scalar.cmpi .slt v2314 c0_i32_1863
  let v2319 : BitVec 1 := Scalar.xori v2317 v2318
  let c0_i32_1861 : BitVec 32 := 0#32
  let v2316 : BitVec 1 := Scalar.cmpi .ne v2315 c0_i32_1861
  let v2320 : BitVec 1 := Scalar.andi v2319 v2316
  let v2321 : BitVec 32 := Scalar.addi v2315 v2314
  let v2322 : BitVec 32 := Scalar.select v2320 v2321 v2315
  let c1_i32_1866 : BitVec 32 := 1#32
  let v2323 : BitVec 32 := Scalar.muli v2322 c1_i32_1866
  let v2324 : BitVec 32 := Scalar.addi c0_i32_1867 v2323
  v2324.toNat
def k0_dev101 (d0 : Dev nD) : Nat :=
  let c0_i32_1904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1894 : BitVec 32 := 8#32
  let v2353 : BitVec 32 := Scalar.subi v2 c8_i32_1894
  let c32_i32_1895 : BitVec 32 := 32#32
  let c0_i32_1896 : BitVec 32 := 0#32
  let v2354 : BitVec 1 := Scalar.cmpi .eq c32_i32_1895 c0_i32_1896
  let c1_i32_1897 : BitVec 32 := 1#32
  let v2355 : BitVec 32 := Scalar.select v2354 c1_i32_1897 c32_i32_1895
  let v2356 : BitVec 32 := Scalar.remsi v2353 v2355
  let c0_i32_1899 : BitVec 32 := 0#32
  let v2358 : BitVec 1 := Scalar.cmpi .slt v2356 c0_i32_1899
  let c0_i32_1900 : BitVec 32 := 0#32
  let v2359 : BitVec 1 := Scalar.cmpi .slt v2355 c0_i32_1900
  let v2360 : BitVec 1 := Scalar.xori v2358 v2359
  let c0_i32_1898 : BitVec 32 := 0#32
  let v2357 : BitVec 1 := Scalar.cmpi .ne v2356 c0_i32_1898
  let v2361 : BitVec 1 := Scalar.andi v2360 v2357
  let v2362 : BitVec 32 := Scalar.addi v2356 v2355
  let v2363 : BitVec 32 := Scalar.select v2361 v2362 v2356
  let c1_i32_1903 : BitVec 32 := 1#32
  let v2364 : BitVec 32 := Scalar.muli v2363 c1_i32_1903
  let v2365 : BitVec 32 := Scalar.addi c0_i32_1904 v2364
  v2365.toNat
def k0_dev102 (d0 : Dev nD) : Nat :=
  let c0_i32_1941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1931 : BitVec 32 := 9#32
  let v2394 : BitVec 32 := Scalar.subi v2 c9_i32_1931
  let c32_i32_1932 : BitVec 32 := 32#32
  let c0_i32_1933 : BitVec 32 := 0#32
  let v2395 : BitVec 1 := Scalar.cmpi .eq c32_i32_1932 c0_i32_1933
  let c1_i32_1934 : BitVec 32 := 1#32
  let v2396 : BitVec 32 := Scalar.select v2395 c1_i32_1934 c32_i32_1932
  let v2397 : BitVec 32 := Scalar.remsi v2394 v2396
  let c0_i32_1936 : BitVec 32 := 0#32
  let v2399 : BitVec 1 := Scalar.cmpi .slt v2397 c0_i32_1936
  let c0_i32_1937 : BitVec 32 := 0#32
  let v2400 : BitVec 1 := Scalar.cmpi .slt v2396 c0_i32_1937
  let v2401 : BitVec 1 := Scalar.xori v2399 v2400
  let c0_i32_1935 : BitVec 32 := 0#32
  let v2398 : BitVec 1 := Scalar.cmpi .ne v2397 c0_i32_1935
  let v2402 : BitVec 1 := Scalar.andi v2401 v2398
  let v2403 : BitVec 32 := Scalar.addi v2397 v2396
  let v2404 : BitVec 32 := Scalar.select v2402 v2403 v2397
  let c1_i32_1940 : BitVec 32 := 1#32
  let v2405 : BitVec 32 := Scalar.muli v2404 c1_i32_1940
  let v2406 : BitVec 32 := Scalar.addi c0_i32_1941 v2405
  v2406.toNat
def k0_dev103 (d0 : Dev nD) : Nat :=
  let c0_i32_1978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1968 : BitVec 32 := 10#32
  let v2435 : BitVec 32 := Scalar.subi v2 c10_i32_1968
  let c32_i32_1969 : BitVec 32 := 32#32
  let c0_i32_1970 : BitVec 32 := 0#32
  let v2436 : BitVec 1 := Scalar.cmpi .eq c32_i32_1969 c0_i32_1970
  let c1_i32_1971 : BitVec 32 := 1#32
  let v2437 : BitVec 32 := Scalar.select v2436 c1_i32_1971 c32_i32_1969
  let v2438 : BitVec 32 := Scalar.remsi v2435 v2437
  let c0_i32_1973 : BitVec 32 := 0#32
  let v2440 : BitVec 1 := Scalar.cmpi .slt v2438 c0_i32_1973
  let c0_i32_1974 : BitVec 32 := 0#32
  let v2441 : BitVec 1 := Scalar.cmpi .slt v2437 c0_i32_1974
  let v2442 : BitVec 1 := Scalar.xori v2440 v2441
  let c0_i32_1972 : BitVec 32 := 0#32
  let v2439 : BitVec 1 := Scalar.cmpi .ne v2438 c0_i32_1972
  let v2443 : BitVec 1 := Scalar.andi v2442 v2439
  let v2444 : BitVec 32 := Scalar.addi v2438 v2437
  let v2445 : BitVec 32 := Scalar.select v2443 v2444 v2438
  let c1_i32_1977 : BitVec 32 := 1#32
  let v2446 : BitVec 32 := Scalar.muli v2445 c1_i32_1977
  let v2447 : BitVec 32 := Scalar.addi c0_i32_1978 v2446
  v2447.toNat
def k0_dev104 (d0 : Dev nD) : Nat :=
  let c0_i32_2015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2005 : BitVec 32 := 11#32
  let v2476 : BitVec 32 := Scalar.subi v2 c11_i32_2005
  let c32_i32_2006 : BitVec 32 := 32#32
  let c0_i32_2007 : BitVec 32 := 0#32
  let v2477 : BitVec 1 := Scalar.cmpi .eq c32_i32_2006 c0_i32_2007
  let c1_i32_2008 : BitVec 32 := 1#32
  let v2478 : BitVec 32 := Scalar.select v2477 c1_i32_2008 c32_i32_2006
  let v2479 : BitVec 32 := Scalar.remsi v2476 v2478
  let c0_i32_2010 : BitVec 32 := 0#32
  let v2481 : BitVec 1 := Scalar.cmpi .slt v2479 c0_i32_2010
  let c0_i32_2011 : BitVec 32 := 0#32
  let v2482 : BitVec 1 := Scalar.cmpi .slt v2478 c0_i32_2011
  let v2483 : BitVec 1 := Scalar.xori v2481 v2482
  let c0_i32_2009 : BitVec 32 := 0#32
  let v2480 : BitVec 1 := Scalar.cmpi .ne v2479 c0_i32_2009
  let v2484 : BitVec 1 := Scalar.andi v2483 v2480
  let v2485 : BitVec 32 := Scalar.addi v2479 v2478
  let v2486 : BitVec 32 := Scalar.select v2484 v2485 v2479
  let c1_i32_2014 : BitVec 32 := 1#32
  let v2487 : BitVec 32 := Scalar.muli v2486 c1_i32_2014
  let v2488 : BitVec 32 := Scalar.addi c0_i32_2015 v2487
  v2488.toNat
def k0_dev105 (d0 : Dev nD) : Nat :=
  let c0_i32_2052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2042 : BitVec 32 := 12#32
  let v2517 : BitVec 32 := Scalar.subi v2 c12_i32_2042
  let c32_i32_2043 : BitVec 32 := 32#32
  let c0_i32_2044 : BitVec 32 := 0#32
  let v2518 : BitVec 1 := Scalar.cmpi .eq c32_i32_2043 c0_i32_2044
  let c1_i32_2045 : BitVec 32 := 1#32
  let v2519 : BitVec 32 := Scalar.select v2518 c1_i32_2045 c32_i32_2043
  let v2520 : BitVec 32 := Scalar.remsi v2517 v2519
  let c0_i32_2047 : BitVec 32 := 0#32
  let v2522 : BitVec 1 := Scalar.cmpi .slt v2520 c0_i32_2047
  let c0_i32_2048 : BitVec 32 := 0#32
  let v2523 : BitVec 1 := Scalar.cmpi .slt v2519 c0_i32_2048
  let v2524 : BitVec 1 := Scalar.xori v2522 v2523
  let c0_i32_2046 : BitVec 32 := 0#32
  let v2521 : BitVec 1 := Scalar.cmpi .ne v2520 c0_i32_2046
  let v2525 : BitVec 1 := Scalar.andi v2524 v2521
  let v2526 : BitVec 32 := Scalar.addi v2520 v2519
  let v2527 : BitVec 32 := Scalar.select v2525 v2526 v2520
  let c1_i32_2051 : BitVec 32 := 1#32
  let v2528 : BitVec 32 := Scalar.muli v2527 c1_i32_2051
  let v2529 : BitVec 32 := Scalar.addi c0_i32_2052 v2528
  v2529.toNat
def k0_dev106 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2079 : BitVec 32 := 13#32
  let v2558 : BitVec 32 := Scalar.subi v2 c13_i32_2079
  let c32_i32_2080 : BitVec 32 := 32#32
  let c0_i32_2081 : BitVec 32 := 0#32
  let v2559 : BitVec 1 := Scalar.cmpi .eq c32_i32_2080 c0_i32_2081
  let c1_i32_2082 : BitVec 32 := 1#32
  let v2560 : BitVec 32 := Scalar.select v2559 c1_i32_2082 c32_i32_2080
  let v2561 : BitVec 32 := Scalar.remsi v2558 v2560
  let c0_i32_2084 : BitVec 32 := 0#32
  let v2563 : BitVec 1 := Scalar.cmpi .slt v2561 c0_i32_2084
  let c0_i32_2085 : BitVec 32 := 0#32
  let v2564 : BitVec 1 := Scalar.cmpi .slt v2560 c0_i32_2085
  let v2565 : BitVec 1 := Scalar.xori v2563 v2564
  let c0_i32_2083 : BitVec 32 := 0#32
  let v2562 : BitVec 1 := Scalar.cmpi .ne v2561 c0_i32_2083
  let v2566 : BitVec 1 := Scalar.andi v2565 v2562
  let v2567 : BitVec 32 := Scalar.addi v2561 v2560
  let v2568 : BitVec 32 := Scalar.select v2566 v2567 v2561
  let c1_i32_2088 : BitVec 32 := 1#32
  let v2569 : BitVec 32 := Scalar.muli v2568 c1_i32_2088
  let v2570 : BitVec 32 := Scalar.addi c0_i32_2089 v2569
  v2570.toNat
def k0_dev107 (d0 : Dev nD) : Nat :=
  let c0_i32_2126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2116 : BitVec 32 := 14#32
  let v2599 : BitVec 32 := Scalar.subi v2 c14_i32_2116
  let c32_i32_2117 : BitVec 32 := 32#32
  let c0_i32_2118 : BitVec 32 := 0#32
  let v2600 : BitVec 1 := Scalar.cmpi .eq c32_i32_2117 c0_i32_2118
  let c1_i32_2119 : BitVec 32 := 1#32
  let v2601 : BitVec 32 := Scalar.select v2600 c1_i32_2119 c32_i32_2117
  let v2602 : BitVec 32 := Scalar.remsi v2599 v2601
  let c0_i32_2121 : BitVec 32 := 0#32
  let v2604 : BitVec 1 := Scalar.cmpi .slt v2602 c0_i32_2121
  let c0_i32_2122 : BitVec 32 := 0#32
  let v2605 : BitVec 1 := Scalar.cmpi .slt v2601 c0_i32_2122
  let v2606 : BitVec 1 := Scalar.xori v2604 v2605
  let c0_i32_2120 : BitVec 32 := 0#32
  let v2603 : BitVec 1 := Scalar.cmpi .ne v2602 c0_i32_2120
  let v2607 : BitVec 1 := Scalar.andi v2606 v2603
  let v2608 : BitVec 32 := Scalar.addi v2602 v2601
  let v2609 : BitVec 32 := Scalar.select v2607 v2608 v2602
  let c1_i32_2125 : BitVec 32 := 1#32
  let v2610 : BitVec 32 := Scalar.muli v2609 c1_i32_2125
  let v2611 : BitVec 32 := Scalar.addi c0_i32_2126 v2610
  v2611.toNat
def k0_dev108 (d0 : Dev nD) : Nat :=
  let c0_i32_2163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2153 : BitVec 32 := 15#32
  let v2640 : BitVec 32 := Scalar.subi v2 c15_i32_2153
  let c32_i32_2154 : BitVec 32 := 32#32
  let c0_i32_2155 : BitVec 32 := 0#32
  let v2641 : BitVec 1 := Scalar.cmpi .eq c32_i32_2154 c0_i32_2155
  let c1_i32_2156 : BitVec 32 := 1#32
  let v2642 : BitVec 32 := Scalar.select v2641 c1_i32_2156 c32_i32_2154
  let v2643 : BitVec 32 := Scalar.remsi v2640 v2642
  let c0_i32_2158 : BitVec 32 := 0#32
  let v2645 : BitVec 1 := Scalar.cmpi .slt v2643 c0_i32_2158
  let c0_i32_2159 : BitVec 32 := 0#32
  let v2646 : BitVec 1 := Scalar.cmpi .slt v2642 c0_i32_2159
  let v2647 : BitVec 1 := Scalar.xori v2645 v2646
  let c0_i32_2157 : BitVec 32 := 0#32
  let v2644 : BitVec 1 := Scalar.cmpi .ne v2643 c0_i32_2157
  let v2648 : BitVec 1 := Scalar.andi v2647 v2644
  let v2649 : BitVec 32 := Scalar.addi v2643 v2642
  let v2650 : BitVec 32 := Scalar.select v2648 v2649 v2643
  let c1_i32_2162 : BitVec 32 := 1#32
  let v2651 : BitVec 32 := Scalar.muli v2650 c1_i32_2162
  let v2652 : BitVec 32 := Scalar.addi c0_i32_2163 v2651
  v2652.toNat
def k0_dev109 (d0 : Dev nD) : Nat :=
  let c0_i32_2200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2190 : BitVec 32 := 16#32
  let v2681 : BitVec 32 := Scalar.subi v2 c16_i32_2190
  let c32_i32_2191 : BitVec 32 := 32#32
  let c0_i32_2192 : BitVec 32 := 0#32
  let v2682 : BitVec 1 := Scalar.cmpi .eq c32_i32_2191 c0_i32_2192
  let c1_i32_2193 : BitVec 32 := 1#32
  let v2683 : BitVec 32 := Scalar.select v2682 c1_i32_2193 c32_i32_2191
  let v2684 : BitVec 32 := Scalar.remsi v2681 v2683
  let c0_i32_2195 : BitVec 32 := 0#32
  let v2686 : BitVec 1 := Scalar.cmpi .slt v2684 c0_i32_2195
  let c0_i32_2196 : BitVec 32 := 0#32
  let v2687 : BitVec 1 := Scalar.cmpi .slt v2683 c0_i32_2196
  let v2688 : BitVec 1 := Scalar.xori v2686 v2687
  let c0_i32_2194 : BitVec 32 := 0#32
  let v2685 : BitVec 1 := Scalar.cmpi .ne v2684 c0_i32_2194
  let v2689 : BitVec 1 := Scalar.andi v2688 v2685
  let v2690 : BitVec 32 := Scalar.addi v2684 v2683
  let v2691 : BitVec 32 := Scalar.select v2689 v2690 v2684
  let c1_i32_2199 : BitVec 32 := 1#32
  let v2692 : BitVec 32 := Scalar.muli v2691 c1_i32_2199
  let v2693 : BitVec 32 := Scalar.addi c0_i32_2200 v2692
  v2693.toNat
def k0_dev110 (d0 : Dev nD) : Nat :=
  let c0_i32_2237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2227 : BitVec 32 := 17#32
  let v2722 : BitVec 32 := Scalar.subi v2 c17_i32_2227
  let c32_i32_2228 : BitVec 32 := 32#32
  let c0_i32_2229 : BitVec 32 := 0#32
  let v2723 : BitVec 1 := Scalar.cmpi .eq c32_i32_2228 c0_i32_2229
  let c1_i32_2230 : BitVec 32 := 1#32
  let v2724 : BitVec 32 := Scalar.select v2723 c1_i32_2230 c32_i32_2228
  let v2725 : BitVec 32 := Scalar.remsi v2722 v2724
  let c0_i32_2232 : BitVec 32 := 0#32
  let v2727 : BitVec 1 := Scalar.cmpi .slt v2725 c0_i32_2232
  let c0_i32_2233 : BitVec 32 := 0#32
  let v2728 : BitVec 1 := Scalar.cmpi .slt v2724 c0_i32_2233
  let v2729 : BitVec 1 := Scalar.xori v2727 v2728
  let c0_i32_2231 : BitVec 32 := 0#32
  let v2726 : BitVec 1 := Scalar.cmpi .ne v2725 c0_i32_2231
  let v2730 : BitVec 1 := Scalar.andi v2729 v2726
  let v2731 : BitVec 32 := Scalar.addi v2725 v2724
  let v2732 : BitVec 32 := Scalar.select v2730 v2731 v2725
  let c1_i32_2236 : BitVec 32 := 1#32
  let v2733 : BitVec 32 := Scalar.muli v2732 c1_i32_2236
  let v2734 : BitVec 32 := Scalar.addi c0_i32_2237 v2733
  v2734.toNat
def k0_dev111 (d0 : Dev nD) : Nat :=
  let c0_i32_2274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2264 : BitVec 32 := 18#32
  let v2763 : BitVec 32 := Scalar.subi v2 c18_i32_2264
  let c32_i32_2265 : BitVec 32 := 32#32
  let c0_i32_2266 : BitVec 32 := 0#32
  let v2764 : BitVec 1 := Scalar.cmpi .eq c32_i32_2265 c0_i32_2266
  let c1_i32_2267 : BitVec 32 := 1#32
  let v2765 : BitVec 32 := Scalar.select v2764 c1_i32_2267 c32_i32_2265
  let v2766 : BitVec 32 := Scalar.remsi v2763 v2765
  let c0_i32_2269 : BitVec 32 := 0#32
  let v2768 : BitVec 1 := Scalar.cmpi .slt v2766 c0_i32_2269
  let c0_i32_2270 : BitVec 32 := 0#32
  let v2769 : BitVec 1 := Scalar.cmpi .slt v2765 c0_i32_2270
  let v2770 : BitVec 1 := Scalar.xori v2768 v2769
  let c0_i32_2268 : BitVec 32 := 0#32
  let v2767 : BitVec 1 := Scalar.cmpi .ne v2766 c0_i32_2268
  let v2771 : BitVec 1 := Scalar.andi v2770 v2767
  let v2772 : BitVec 32 := Scalar.addi v2766 v2765
  let v2773 : BitVec 32 := Scalar.select v2771 v2772 v2766
  let c1_i32_2273 : BitVec 32 := 1#32
  let v2774 : BitVec 32 := Scalar.muli v2773 c1_i32_2273
  let v2775 : BitVec 32 := Scalar.addi c0_i32_2274 v2774
  v2775.toNat
def k0_dev112 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2301 : BitVec 32 := 19#32
  let v2804 : BitVec 32 := Scalar.subi v2 c19_i32_2301
  let c32_i32_2302 : BitVec 32 := 32#32
  let c0_i32_2303 : BitVec 32 := 0#32
  let v2805 : BitVec 1 := Scalar.cmpi .eq c32_i32_2302 c0_i32_2303
  let c1_i32_2304 : BitVec 32 := 1#32
  let v2806 : BitVec 32 := Scalar.select v2805 c1_i32_2304 c32_i32_2302
  let v2807 : BitVec 32 := Scalar.remsi v2804 v2806
  let c0_i32_2306 : BitVec 32 := 0#32
  let v2809 : BitVec 1 := Scalar.cmpi .slt v2807 c0_i32_2306
  let c0_i32_2307 : BitVec 32 := 0#32
  let v2810 : BitVec 1 := Scalar.cmpi .slt v2806 c0_i32_2307
  let v2811 : BitVec 1 := Scalar.xori v2809 v2810
  let c0_i32_2305 : BitVec 32 := 0#32
  let v2808 : BitVec 1 := Scalar.cmpi .ne v2807 c0_i32_2305
  let v2812 : BitVec 1 := Scalar.andi v2811 v2808
  let v2813 : BitVec 32 := Scalar.addi v2807 v2806
  let v2814 : BitVec 32 := Scalar.select v2812 v2813 v2807
  let c1_i32_2310 : BitVec 32 := 1#32
  let v2815 : BitVec 32 := Scalar.muli v2814 c1_i32_2310
  let v2816 : BitVec 32 := Scalar.addi c0_i32_2311 v2815
  v2816.toNat
def k0_dev113 (d0 : Dev nD) : Nat :=
  let c0_i32_2348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2338 : BitVec 32 := 20#32
  let v2845 : BitVec 32 := Scalar.subi v2 c20_i32_2338
  let c32_i32_2339 : BitVec 32 := 32#32
  let c0_i32_2340 : BitVec 32 := 0#32
  let v2846 : BitVec 1 := Scalar.cmpi .eq c32_i32_2339 c0_i32_2340
  let c1_i32_2341 : BitVec 32 := 1#32
  let v2847 : BitVec 32 := Scalar.select v2846 c1_i32_2341 c32_i32_2339
  let v2848 : BitVec 32 := Scalar.remsi v2845 v2847
  let c0_i32_2343 : BitVec 32 := 0#32
  let v2850 : BitVec 1 := Scalar.cmpi .slt v2848 c0_i32_2343
  let c0_i32_2344 : BitVec 32 := 0#32
  let v2851 : BitVec 1 := Scalar.cmpi .slt v2847 c0_i32_2344
  let v2852 : BitVec 1 := Scalar.xori v2850 v2851
  let c0_i32_2342 : BitVec 32 := 0#32
  let v2849 : BitVec 1 := Scalar.cmpi .ne v2848 c0_i32_2342
  let v2853 : BitVec 1 := Scalar.andi v2852 v2849
  let v2854 : BitVec 32 := Scalar.addi v2848 v2847
  let v2855 : BitVec 32 := Scalar.select v2853 v2854 v2848
  let c1_i32_2347 : BitVec 32 := 1#32
  let v2856 : BitVec 32 := Scalar.muli v2855 c1_i32_2347
  let v2857 : BitVec 32 := Scalar.addi c0_i32_2348 v2856
  v2857.toNat
def k0_dev114 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2375 : BitVec 32 := 21#32
  let v2886 : BitVec 32 := Scalar.subi v2 c21_i32_2375
  let c32_i32_2376 : BitVec 32 := 32#32
  let c0_i32_2377 : BitVec 32 := 0#32
  let v2887 : BitVec 1 := Scalar.cmpi .eq c32_i32_2376 c0_i32_2377
  let c1_i32_2378 : BitVec 32 := 1#32
  let v2888 : BitVec 32 := Scalar.select v2887 c1_i32_2378 c32_i32_2376
  let v2889 : BitVec 32 := Scalar.remsi v2886 v2888
  let c0_i32_2380 : BitVec 32 := 0#32
  let v2891 : BitVec 1 := Scalar.cmpi .slt v2889 c0_i32_2380
  let c0_i32_2381 : BitVec 32 := 0#32
  let v2892 : BitVec 1 := Scalar.cmpi .slt v2888 c0_i32_2381
  let v2893 : BitVec 1 := Scalar.xori v2891 v2892
  let c0_i32_2379 : BitVec 32 := 0#32
  let v2890 : BitVec 1 := Scalar.cmpi .ne v2889 c0_i32_2379
  let v2894 : BitVec 1 := Scalar.andi v2893 v2890
  let v2895 : BitVec 32 := Scalar.addi v2889 v2888
  let v2896 : BitVec 32 := Scalar.select v2894 v2895 v2889
  let c1_i32_2384 : BitVec 32 := 1#32
  let v2897 : BitVec 32 := Scalar.muli v2896 c1_i32_2384
  let v2898 : BitVec 32 := Scalar.addi c0_i32_2385 v2897
  v2898.toNat
def k0_dev115 (d0 : Dev nD) : Nat :=
  let c0_i32_2422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2412 : BitVec 32 := 22#32
  let v2927 : BitVec 32 := Scalar.subi v2 c22_i32_2412
  let c32_i32_2413 : BitVec 32 := 32#32
  let c0_i32_2414 : BitVec 32 := 0#32
  let v2928 : BitVec 1 := Scalar.cmpi .eq c32_i32_2413 c0_i32_2414
  let c1_i32_2415 : BitVec 32 := 1#32
  let v2929 : BitVec 32 := Scalar.select v2928 c1_i32_2415 c32_i32_2413
  let v2930 : BitVec 32 := Scalar.remsi v2927 v2929
  let c0_i32_2417 : BitVec 32 := 0#32
  let v2932 : BitVec 1 := Scalar.cmpi .slt v2930 c0_i32_2417
  let c0_i32_2418 : BitVec 32 := 0#32
  let v2933 : BitVec 1 := Scalar.cmpi .slt v2929 c0_i32_2418
  let v2934 : BitVec 1 := Scalar.xori v2932 v2933
  let c0_i32_2416 : BitVec 32 := 0#32
  let v2931 : BitVec 1 := Scalar.cmpi .ne v2930 c0_i32_2416
  let v2935 : BitVec 1 := Scalar.andi v2934 v2931
  let v2936 : BitVec 32 := Scalar.addi v2930 v2929
  let v2937 : BitVec 32 := Scalar.select v2935 v2936 v2930
  let c1_i32_2421 : BitVec 32 := 1#32
  let v2938 : BitVec 32 := Scalar.muli v2937 c1_i32_2421
  let v2939 : BitVec 32 := Scalar.addi c0_i32_2422 v2938
  v2939.toNat
def k0_dev116 (d0 : Dev nD) : Nat :=
  let c0_i32_2459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2449 : BitVec 32 := 23#32
  let v2968 : BitVec 32 := Scalar.subi v2 c23_i32_2449
  let c32_i32_2450 : BitVec 32 := 32#32
  let c0_i32_2451 : BitVec 32 := 0#32
  let v2969 : BitVec 1 := Scalar.cmpi .eq c32_i32_2450 c0_i32_2451
  let c1_i32_2452 : BitVec 32 := 1#32
  let v2970 : BitVec 32 := Scalar.select v2969 c1_i32_2452 c32_i32_2450
  let v2971 : BitVec 32 := Scalar.remsi v2968 v2970
  let c0_i32_2454 : BitVec 32 := 0#32
  let v2973 : BitVec 1 := Scalar.cmpi .slt v2971 c0_i32_2454
  let c0_i32_2455 : BitVec 32 := 0#32
  let v2974 : BitVec 1 := Scalar.cmpi .slt v2970 c0_i32_2455
  let v2975 : BitVec 1 := Scalar.xori v2973 v2974
  let c0_i32_2453 : BitVec 32 := 0#32
  let v2972 : BitVec 1 := Scalar.cmpi .ne v2971 c0_i32_2453
  let v2976 : BitVec 1 := Scalar.andi v2975 v2972
  let v2977 : BitVec 32 := Scalar.addi v2971 v2970
  let v2978 : BitVec 32 := Scalar.select v2976 v2977 v2971
  let c1_i32_2458 : BitVec 32 := 1#32
  let v2979 : BitVec 32 := Scalar.muli v2978 c1_i32_2458
  let v2980 : BitVec 32 := Scalar.addi c0_i32_2459 v2979
  v2980.toNat
def k0_dev117 (d0 : Dev nD) : Nat :=
  let c0_i32_2496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2486 : BitVec 32 := 24#32
  let v3009 : BitVec 32 := Scalar.subi v2 c24_i32_2486
  let c32_i32_2487 : BitVec 32 := 32#32
  let c0_i32_2488 : BitVec 32 := 0#32
  let v3010 : BitVec 1 := Scalar.cmpi .eq c32_i32_2487 c0_i32_2488
  let c1_i32_2489 : BitVec 32 := 1#32
  let v3011 : BitVec 32 := Scalar.select v3010 c1_i32_2489 c32_i32_2487
  let v3012 : BitVec 32 := Scalar.remsi v3009 v3011
  let c0_i32_2491 : BitVec 32 := 0#32
  let v3014 : BitVec 1 := Scalar.cmpi .slt v3012 c0_i32_2491
  let c0_i32_2492 : BitVec 32 := 0#32
  let v3015 : BitVec 1 := Scalar.cmpi .slt v3011 c0_i32_2492
  let v3016 : BitVec 1 := Scalar.xori v3014 v3015
  let c0_i32_2490 : BitVec 32 := 0#32
  let v3013 : BitVec 1 := Scalar.cmpi .ne v3012 c0_i32_2490
  let v3017 : BitVec 1 := Scalar.andi v3016 v3013
  let v3018 : BitVec 32 := Scalar.addi v3012 v3011
  let v3019 : BitVec 32 := Scalar.select v3017 v3018 v3012
  let c1_i32_2495 : BitVec 32 := 1#32
  let v3020 : BitVec 32 := Scalar.muli v3019 c1_i32_2495
  let v3021 : BitVec 32 := Scalar.addi c0_i32_2496 v3020
  v3021.toNat
def k0_dev118 (d0 : Dev nD) : Nat :=
  let c0_i32_2533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2523 : BitVec 32 := 25#32
  let v3050 : BitVec 32 := Scalar.subi v2 c25_i32_2523
  let c32_i32_2524 : BitVec 32 := 32#32
  let c0_i32_2525 : BitVec 32 := 0#32
  let v3051 : BitVec 1 := Scalar.cmpi .eq c32_i32_2524 c0_i32_2525
  let c1_i32_2526 : BitVec 32 := 1#32
  let v3052 : BitVec 32 := Scalar.select v3051 c1_i32_2526 c32_i32_2524
  let v3053 : BitVec 32 := Scalar.remsi v3050 v3052
  let c0_i32_2528 : BitVec 32 := 0#32
  let v3055 : BitVec 1 := Scalar.cmpi .slt v3053 c0_i32_2528
  let c0_i32_2529 : BitVec 32 := 0#32
  let v3056 : BitVec 1 := Scalar.cmpi .slt v3052 c0_i32_2529
  let v3057 : BitVec 1 := Scalar.xori v3055 v3056
  let c0_i32_2527 : BitVec 32 := 0#32
  let v3054 : BitVec 1 := Scalar.cmpi .ne v3053 c0_i32_2527
  let v3058 : BitVec 1 := Scalar.andi v3057 v3054
  let v3059 : BitVec 32 := Scalar.addi v3053 v3052
  let v3060 : BitVec 32 := Scalar.select v3058 v3059 v3053
  let c1_i32_2532 : BitVec 32 := 1#32
  let v3061 : BitVec 32 := Scalar.muli v3060 c1_i32_2532
  let v3062 : BitVec 32 := Scalar.addi c0_i32_2533 v3061
  v3062.toNat
def k0_dev119 (d0 : Dev nD) : Nat :=
  let c0_i32_2570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2560 : BitVec 32 := 26#32
  let v3091 : BitVec 32 := Scalar.subi v2 c26_i32_2560
  let c32_i32_2561 : BitVec 32 := 32#32
  let c0_i32_2562 : BitVec 32 := 0#32
  let v3092 : BitVec 1 := Scalar.cmpi .eq c32_i32_2561 c0_i32_2562
  let c1_i32_2563 : BitVec 32 := 1#32
  let v3093 : BitVec 32 := Scalar.select v3092 c1_i32_2563 c32_i32_2561
  let v3094 : BitVec 32 := Scalar.remsi v3091 v3093
  let c0_i32_2565 : BitVec 32 := 0#32
  let v3096 : BitVec 1 := Scalar.cmpi .slt v3094 c0_i32_2565
  let c0_i32_2566 : BitVec 32 := 0#32
  let v3097 : BitVec 1 := Scalar.cmpi .slt v3093 c0_i32_2566
  let v3098 : BitVec 1 := Scalar.xori v3096 v3097
  let c0_i32_2564 : BitVec 32 := 0#32
  let v3095 : BitVec 1 := Scalar.cmpi .ne v3094 c0_i32_2564
  let v3099 : BitVec 1 := Scalar.andi v3098 v3095
  let v3100 : BitVec 32 := Scalar.addi v3094 v3093
  let v3101 : BitVec 32 := Scalar.select v3099 v3100 v3094
  let c1_i32_2569 : BitVec 32 := 1#32
  let v3102 : BitVec 32 := Scalar.muli v3101 c1_i32_2569
  let v3103 : BitVec 32 := Scalar.addi c0_i32_2570 v3102
  v3103.toNat
def k0_dev120 (d0 : Dev nD) : Nat :=
  let c0_i32_2607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2597 : BitVec 32 := 27#32
  let v3132 : BitVec 32 := Scalar.subi v2 c27_i32_2597
  let c32_i32_2598 : BitVec 32 := 32#32
  let c0_i32_2599 : BitVec 32 := 0#32
  let v3133 : BitVec 1 := Scalar.cmpi .eq c32_i32_2598 c0_i32_2599
  let c1_i32_2600 : BitVec 32 := 1#32
  let v3134 : BitVec 32 := Scalar.select v3133 c1_i32_2600 c32_i32_2598
  let v3135 : BitVec 32 := Scalar.remsi v3132 v3134
  let c0_i32_2602 : BitVec 32 := 0#32
  let v3137 : BitVec 1 := Scalar.cmpi .slt v3135 c0_i32_2602
  let c0_i32_2603 : BitVec 32 := 0#32
  let v3138 : BitVec 1 := Scalar.cmpi .slt v3134 c0_i32_2603
  let v3139 : BitVec 1 := Scalar.xori v3137 v3138
  let c0_i32_2601 : BitVec 32 := 0#32
  let v3136 : BitVec 1 := Scalar.cmpi .ne v3135 c0_i32_2601
  let v3140 : BitVec 1 := Scalar.andi v3139 v3136
  let v3141 : BitVec 32 := Scalar.addi v3135 v3134
  let v3142 : BitVec 32 := Scalar.select v3140 v3141 v3135
  let c1_i32_2606 : BitVec 32 := 1#32
  let v3143 : BitVec 32 := Scalar.muli v3142 c1_i32_2606
  let v3144 : BitVec 32 := Scalar.addi c0_i32_2607 v3143
  v3144.toNat
def k0_dev121 (d0 : Dev nD) : Nat :=
  let c0_i32_2644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2634 : BitVec 32 := 28#32
  let v3173 : BitVec 32 := Scalar.subi v2 c28_i32_2634
  let c32_i32_2635 : BitVec 32 := 32#32
  let c0_i32_2636 : BitVec 32 := 0#32
  let v3174 : BitVec 1 := Scalar.cmpi .eq c32_i32_2635 c0_i32_2636
  let c1_i32_2637 : BitVec 32 := 1#32
  let v3175 : BitVec 32 := Scalar.select v3174 c1_i32_2637 c32_i32_2635
  let v3176 : BitVec 32 := Scalar.remsi v3173 v3175
  let c0_i32_2639 : BitVec 32 := 0#32
  let v3178 : BitVec 1 := Scalar.cmpi .slt v3176 c0_i32_2639
  let c0_i32_2640 : BitVec 32 := 0#32
  let v3179 : BitVec 1 := Scalar.cmpi .slt v3175 c0_i32_2640
  let v3180 : BitVec 1 := Scalar.xori v3178 v3179
  let c0_i32_2638 : BitVec 32 := 0#32
  let v3177 : BitVec 1 := Scalar.cmpi .ne v3176 c0_i32_2638
  let v3181 : BitVec 1 := Scalar.andi v3180 v3177
  let v3182 : BitVec 32 := Scalar.addi v3176 v3175
  let v3183 : BitVec 32 := Scalar.select v3181 v3182 v3176
  let c1_i32_2643 : BitVec 32 := 1#32
  let v3184 : BitVec 32 := Scalar.muli v3183 c1_i32_2643
  let v3185 : BitVec 32 := Scalar.addi c0_i32_2644 v3184
  v3185.toNat
def k0_dev122 (d0 : Dev nD) : Nat :=
  let c0_i32_2681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2671 : BitVec 32 := 29#32
  let v3214 : BitVec 32 := Scalar.subi v2 c29_i32_2671
  let c32_i32_2672 : BitVec 32 := 32#32
  let c0_i32_2673 : BitVec 32 := 0#32
  let v3215 : BitVec 1 := Scalar.cmpi .eq c32_i32_2672 c0_i32_2673
  let c1_i32_2674 : BitVec 32 := 1#32
  let v3216 : BitVec 32 := Scalar.select v3215 c1_i32_2674 c32_i32_2672
  let v3217 : BitVec 32 := Scalar.remsi v3214 v3216
  let c0_i32_2676 : BitVec 32 := 0#32
  let v3219 : BitVec 1 := Scalar.cmpi .slt v3217 c0_i32_2676
  let c0_i32_2677 : BitVec 32 := 0#32
  let v3220 : BitVec 1 := Scalar.cmpi .slt v3216 c0_i32_2677
  let v3221 : BitVec 1 := Scalar.xori v3219 v3220
  let c0_i32_2675 : BitVec 32 := 0#32
  let v3218 : BitVec 1 := Scalar.cmpi .ne v3217 c0_i32_2675
  let v3222 : BitVec 1 := Scalar.andi v3221 v3218
  let v3223 : BitVec 32 := Scalar.addi v3217 v3216
  let v3224 : BitVec 32 := Scalar.select v3222 v3223 v3217
  let c1_i32_2680 : BitVec 32 := 1#32
  let v3225 : BitVec 32 := Scalar.muli v3224 c1_i32_2680
  let v3226 : BitVec 32 := Scalar.addi c0_i32_2681 v3225
  v3226.toNat
def k0_dev123 (d0 : Dev nD) : Nat :=
  let c0_i32_2718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2708 : BitVec 32 := 30#32
  let v3255 : BitVec 32 := Scalar.subi v2 c30_i32_2708
  let c32_i32_2709 : BitVec 32 := 32#32
  let c0_i32_2710 : BitVec 32 := 0#32
  let v3256 : BitVec 1 := Scalar.cmpi .eq c32_i32_2709 c0_i32_2710
  let c1_i32_2711 : BitVec 32 := 1#32
  let v3257 : BitVec 32 := Scalar.select v3256 c1_i32_2711 c32_i32_2709
  let v3258 : BitVec 32 := Scalar.remsi v3255 v3257
  let c0_i32_2713 : BitVec 32 := 0#32
  let v3260 : BitVec 1 := Scalar.cmpi .slt v3258 c0_i32_2713
  let c0_i32_2714 : BitVec 32 := 0#32
  let v3261 : BitVec 1 := Scalar.cmpi .slt v3257 c0_i32_2714
  let v3262 : BitVec 1 := Scalar.xori v3260 v3261
  let c0_i32_2712 : BitVec 32 := 0#32
  let v3259 : BitVec 1 := Scalar.cmpi .ne v3258 c0_i32_2712
  let v3263 : BitVec 1 := Scalar.andi v3262 v3259
  let v3264 : BitVec 32 := Scalar.addi v3258 v3257
  let v3265 : BitVec 32 := Scalar.select v3263 v3264 v3258
  let c1_i32_2717 : BitVec 32 := 1#32
  let v3266 : BitVec 32 := Scalar.muli v3265 c1_i32_2717
  let v3267 : BitVec 32 := Scalar.addi c0_i32_2718 v3266
  v3267.toNat
def k0_dev124 (d0 : Dev nD) : Nat :=
  let c0_i32_2755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2745 : BitVec 32 := 31#32
  let v3296 : BitVec 32 := Scalar.subi v2 c31_i32_2745
  let c32_i32_2746 : BitVec 32 := 32#32
  let c0_i32_2747 : BitVec 32 := 0#32
  let v3297 : BitVec 1 := Scalar.cmpi .eq c32_i32_2746 c0_i32_2747
  let c1_i32_2748 : BitVec 32 := 1#32
  let v3298 : BitVec 32 := Scalar.select v3297 c1_i32_2748 c32_i32_2746
  let v3299 : BitVec 32 := Scalar.remsi v3296 v3298
  let c0_i32_2750 : BitVec 32 := 0#32
  let v3301 : BitVec 1 := Scalar.cmpi .slt v3299 c0_i32_2750
  let c0_i32_2751 : BitVec 32 := 0#32
  let v3302 : BitVec 1 := Scalar.cmpi .slt v3298 c0_i32_2751
  let v3303 : BitVec 1 := Scalar.xori v3301 v3302
  let c0_i32_2749 : BitVec 32 := 0#32
  let v3300 : BitVec 1 := Scalar.cmpi .ne v3299 c0_i32_2749
  let v3304 : BitVec 1 := Scalar.andi v3303 v3300
  let v3305 : BitVec 32 := Scalar.addi v3299 v3298
  let v3306 : BitVec 32 := Scalar.select v3304 v3305 v3299
  let c1_i32_2754 : BitVec 32 := 1#32
  let v3307 : BitVec 32 := Scalar.muli v3306 c1_i32_2754
  let v3308 : BitVec 32 := Scalar.addi c0_i32_2755 v3307
  v3308.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S16384 : Shape := ⟨1, ![16384]⟩
abbrev S1x16384 : Shape := ⟨2, ![1, 16384]⟩
abbrev S16384x16384 : Shape := ⟨2, ![16384, 16384]⟩
abbrev S_ : Shape := ⟨0, ![]⟩
abbrev S16384x256x512 : Shape := ⟨3, ![16384, 256, 512]⟩
abbrev S16384x512 : Shape := ⟨2, ![16384, 512]⟩

abbrev nBuf : Space → Nat
  | .hbm => 39
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x64, .bf16⟩
  | .hbm, ⟨2, _⟩ => ⟨S16384x1, .i32⟩
  | .hbm, ⟨3, _⟩ => ⟨S64x256x512, .bf16⟩
  | .hbm, ⟨4, _⟩ => ⟨S16384, .i32⟩
  | .hbm, ⟨5, _⟩ => ⟨S16384, .i32⟩
  | .hbm, ⟨6, _⟩ => ⟨S16384x1, .i32⟩
  | .hbm, ⟨7, _⟩ => ⟨S1x16384, .i32⟩
  | .hbm, ⟨8, _⟩ => ⟨S16384x16384, .i32⟩
  | .hbm, ⟨9, _⟩ => ⟨S16384x16384, .i32⟩
  | .hbm, ⟨10, _⟩ => ⟨S16384x16384, .i1⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S16384x16384, .i1⟩
  | .hbm, ⟨17, _⟩ => ⟨S16384x16384, .i32⟩
  | .hbm, ⟨18, _⟩ => ⟨S_, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x256x512, .bf16⟩
  | .hbm, ⟨29, _⟩ => ⟨S16384x512, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S16384x1, .i1⟩
  | .hbm, ⟨34, _⟩ => ⟨S_, .f32⟩
  | .hbm, ⟨35, _⟩ => ⟨S_, .f32⟩
  | .hbm, ⟨36, _⟩ => ⟨S16384x512, .i1⟩
  | .hbm, ⟨37, _⟩ => ⟨S16384x512, .f32⟩
  | .hbm, ⟨38, _⟩ => ⟨S16384x512, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Tidy.lean ====
/- The kernel's body as a program written phase by phase: each run of 31 like operations is one fold over
   the offsets 1, …, 31, so that a proof treats each phase once, at a symbolic offset. The printed body is
   this program, by unfolding both. -/
module

public import proofs.«01_k».proof.Proof.Gen.KernelIdeal.Skeleton

@[expose] public section

noncomputable section

namespace Cert.KernelIdeal.Tidy

open Cert.KernelIdeal Cert.KernelIdeal.Gen
open Idealize.ShloMosaic Idealize.SL.Sem

variable {F : FTy → Type} [FloatOps F]

/-- A program of the kernel's core that returns nothing. -/
abbrev P (F : FTy → Type) : Type 1 := Prog (TpuEff nD τ sig (Elt F) Λ₀ .tc) PUnit

/-! ## The devices each phase addresses -/

/-- The device `k + 1` places after `c` on the ring of 32. -/
def nb (c : Dev nD) (k : Fin 31) : Dev nD := ⟨(c.val + k.val + 1) % 32, Nat.mod_lt _ (by decide)⟩
/-- The device `k + 1` places before `c` on the ring of 32. -/
def pv (c : Dev nD) (k : Fin 31) : Dev nD := ⟨(c.val + 31 - k.val) % 32, Nat.mod_lt _ (by decide)⟩

/-- Whom the barrier's signals address, in the order printed. -/
def tabB (d0 : Dev nD) : List (Fin 31 × Dev nD) :=
  [(0, ⟨k0_dev1 d0, k0_dev1_lt d0⟩), (1, ⟨k0_dev2 d0, k0_dev2_lt d0⟩), (2, ⟨k0_dev3 d0, k0_dev3_lt d0⟩),
   (3, ⟨k0_dev4 d0, k0_dev4_lt d0⟩), (4, ⟨k0_dev5 d0, k0_dev5_lt d0⟩), (5, ⟨k0_dev6 d0, k0_dev6_lt d0⟩),
   (6, ⟨k0_dev7 d0, k0_dev7_lt d0⟩), (7, ⟨k0_dev8 d0, k0_dev8_lt d0⟩), (8, ⟨k0_dev9 d0, k0_dev9_lt d0⟩),
   (9, ⟨k0_dev10 d0, k0_dev10_lt d0⟩), (10, ⟨k0_dev11 d0, k0_dev11_lt d0⟩),
   (11, ⟨k0_dev12 d0, k0_dev12_lt d0⟩), (12, ⟨k0_dev13 d0, k0_dev13_lt d0⟩),
   (13, ⟨k0_dev14 d0, k0_dev14_lt d0⟩), (14, ⟨k0_dev15 d0, k0_dev15_lt d0⟩),
   (15, ⟨k0_dev16 d0, k0_dev16_lt d0⟩), (16, ⟨k0_dev17 d0, k0_dev17_lt d0⟩),
   (17, ⟨k0_dev18 d0, k0_dev18_lt d0⟩), (18, ⟨k0_dev19 d0, k0_dev19_lt d0⟩),
   (19, ⟨k0_dev20 d0, k0_dev20_lt d0⟩), (20, ⟨k0_dev21 d0, k0_dev21_lt d0⟩),
   (21, ⟨k0_dev22 d0, k0_dev22_lt d0⟩), (22, ⟨k0_dev23 d0, k0_dev23_lt d0⟩),
   (23, ⟨k0_dev24 d0, k0_dev24_lt d0⟩), (24, ⟨k0_dev25 d0, k0_dev25_lt d0⟩),
   (25, ⟨k0_dev26 d0, k0_dev26_lt d0⟩), (26, ⟨k0_dev27 d0, k0_dev27_lt d0⟩),
   (27, ⟨k0_dev28 d0, k0_dev28_lt d0⟩), (28, ⟨k0_dev29 d0, k0_dev29_lt d0⟩),
   (29, ⟨k0_dev30 d0, k0_dev30_lt d0⟩), (30, ⟨k0_dev31 d0, k0_dev31_lt d0⟩)]

/-- Whom the copies of the counts address. -/
def tabC (d0 : Dev nD) : List (Fin 31 × Dev nD) :=
  [(0, ⟨k0_dev32 d0, k0_dev32_lt d0⟩), (1, ⟨k0_dev33 d0, k0_dev33_lt d0⟩), (2, ⟨k0_dev34 d0, k0_dev34_lt d0⟩),
   (3, ⟨k0_dev35 d0, k0_dev35_lt d0⟩), (4, ⟨k0_dev36 d0, k0_dev36_lt d0⟩), (5, ⟨k0_dev37 d0, k0_dev37_lt d0⟩),
   (6, ⟨k0_dev38 d0, k0_dev38_lt d0⟩), (7, ⟨k0_dev39 d0, k0_dev39_lt d0⟩), (8, ⟨k0_dev40 d0, k0_dev40_lt d0⟩),
   (9, ⟨k0_dev41 d0, k0_dev41_lt d0⟩), (10, ⟨k0_dev42 d0, k0_dev42_lt d0⟩),
   (11, ⟨k0_dev43 d0, k0_dev43_lt d0⟩), (12, ⟨k0_dev44 d0, k0_dev44_lt d0⟩),
   (13, ⟨k0_dev45 d0, k0_dev45_lt d0⟩), (14, ⟨k0_dev46 d0, k0_dev46_lt d0⟩),
   (15, ⟨k0_dev47 d0, k0_dev47_lt d0⟩), (16, ⟨k0_dev48 d0, k0_dev48_lt d0⟩),
   (17, ⟨k0_dev49 d0, k0_dev49_lt d0⟩), (18, ⟨k0_dev50 d0, k0_dev50_lt d0⟩),
   (19, ⟨k0_dev51 d0, k0_dev51_lt d0⟩), (20, ⟨k0_dev52 d0, k0_dev52_lt d0⟩),
   (21, ⟨k0_dev53 d0, k0_dev53_lt d0⟩), (22, ⟨k0_dev54 d0, k0_dev54_lt d0⟩),
   (23, ⟨k0_dev55 d0, k0_dev55_lt d0⟩), (24, ⟨k0_dev56 d0, k0_dev56_lt d0⟩),
   (25, ⟨k0_dev57 d0, k0_dev57_lt d0⟩), (26, ⟨k0_dev58 d0, k0_dev58_lt d0⟩),
   (27, ⟨k0_dev59 d0, k0_dev59_lt d0⟩), (28, ⟨k0_dev60 d0, k0_dev60_lt d0⟩),
   (29, ⟨k0_dev61 d0, k0_dev61_lt d0⟩), (30, ⟨k0_dev62 d0, k0_dev62_lt d0⟩)]

/-- Whom the copies of the gathered rows address. -/
def tabD (d0 : Dev nD) : List (Fin 31 × Dev nD) :=
  [(0, ⟨k0_dev63 d0, k0_dev63_lt d0⟩), (1, ⟨k0_dev64 d0, k0_dev64_lt d0⟩), (2, ⟨k0_dev65 d0, k0_dev65_lt d0⟩),
   (3, ⟨k0_dev66 d0, k0_dev66_lt d0⟩), (4, ⟨k0_dev67 d0, k0_dev67_lt d0⟩), (5, ⟨k0_dev68 d0, k0_dev68_lt d0⟩),
   (6, ⟨k0_dev69 d0, k0_dev69_lt d0⟩), (7, ⟨k0_dev70 d0, k0_dev70_lt d0⟩), (8, ⟨k0_dev71 d0, k0_dev71_lt d0⟩),
   (9, ⟨k0_dev72 d0, k0_dev72_lt d0⟩), (10, ⟨k0_dev73 d0, k0_dev73_lt d0⟩),
   (11, ⟨k0_dev74 d0, k0_dev74_lt d0⟩), (12, ⟨k0_dev75 d0, k0_dev75_lt d0⟩),
   (13, ⟨k0_dev76 d0, k0_dev76_lt d0⟩), (14, ⟨k0_dev77 d0, k0_dev77_lt d0⟩),
   (15, ⟨k0_dev78 d0, k0_dev78_lt d0⟩), (16, ⟨k0_dev79 d0, k0_dev79_lt d0⟩),
   (17, ⟨k0_dev80 d0, k0_dev80_lt d0⟩), (18, ⟨k0_dev81 d0, k0_dev81_lt d0⟩),
   (19, ⟨k0_dev82 d0, k0_dev82_lt d0⟩), (20, ⟨k0_dev83 d0, k0_dev83_lt d0⟩),
   (21, ⟨k0_dev84 d0, k0_dev84_lt d0⟩), (22, ⟨k0_dev85 d0, k0_dev85_lt d0⟩),
   (23, ⟨k0_dev86 d0, k0_dev86_lt d0⟩), (24, ⟨k0_dev87 d0, k0_dev87_lt d0⟩),
   (25, ⟨k0_dev88 d0, k0_dev88_lt d0⟩), (26, ⟨k0_dev89 d0, k0_dev89_lt d0⟩),
   (27, ⟨k0_dev90 d0, k0_dev90_lt d0⟩), (28, ⟨k0_dev91 d0, k0_dev91_lt d0⟩),
   (29, ⟨k0_dev92 d0, k0_dev92_lt d0⟩), (30, ⟨k0_dev93 d0, k0_dev93_lt d0⟩)]

/-- Whom the copies of the results address. -/
def tabR (d0 : Dev nD) : List (Fin 31 × Dev nD) :=
  [(0, ⟨k0_dev94 d0, k0_dev94_lt d0⟩), (1, ⟨k0_dev95 d0, k0_dev95_lt d0⟩), (2, ⟨k0_dev96 d0, k0_dev96_lt d0⟩),
   (3, ⟨k0_dev97 d0, k0_dev97_lt d0⟩), (4, ⟨k0_dev98 d0, k0_dev98_lt d0⟩), (5, ⟨k0_dev99 d0, k0_dev99_lt d0⟩),
   (6, ⟨k0_dev100 d0, k0_dev100_lt d0⟩), (7, ⟨k0_dev101 d0, k0_dev101_lt d0⟩),
   (8, ⟨k0_dev102 d0, k0_dev102_lt d0⟩), (9, ⟨k0_dev103 d0, k0_dev103_lt d0⟩),
   (10, ⟨k0_dev104 d0, k0_dev104_lt d0⟩), (11, ⟨k0_dev105 d0, k0_dev105_lt d0⟩),
   (12, ⟨k0_dev106 d0, k0_dev106_lt d0⟩), (13, ⟨k0_dev107 d0, k0_dev107_lt d0⟩),
   (14, ⟨k0_dev108 d0, k0_dev108_lt d0⟩), (15, ⟨k0_dev109 d0, k0_dev109_lt d0⟩),
   (16, ⟨k0_dev110 d0, k0_dev110_lt d0⟩), (17, ⟨k0_dev111 d0, k0_dev111_lt d0⟩),
   (18, ⟨k0_dev112 d0, k0_dev112_lt d0⟩), (19, ⟨k0_dev113 d0, k0_dev113_lt d0⟩),
   (20, ⟨k0_dev114 d0, k0_dev114_lt d0⟩), (21, ⟨k0_dev115 d0, k0_dev115_lt d0⟩),
   (22, ⟨k0_dev116 d0, k0_dev116_lt d0⟩), (23, ⟨k0_dev117 d0, k0_dev117_lt d0⟩),
   (24, ⟨k0_dev118 d0, k0_dev118_lt d0⟩), (25, ⟨k0_dev119 d0, k0_dev119_lt d0⟩),
   (26, ⟨k0_dev120 d0, k0_dev120_lt d0⟩), (27, ⟨k0_dev121 d0, k0_dev121_lt d0⟩),
   (28, ⟨k0_dev122 d0, k0_dev122_lt d0⟩), (29, ⟨k0_dev123 d0, k0_dev123_lt d0⟩),
   (30, ⟨k0_dev124 d0, k0_dev124_lt d0⟩)]

/-- The offsets, in order. -/
def offs : List (Fin 31) := List.finRange 31

theorem tabB_eq : ∀ d0, tabB d0 = offs.map fun k => (k, nb d0 k) := by decide +kernel
theorem tabC_eq : ∀ d0, tabC d0 = offs.map fun k => (k, nb d0 k) := by decide +kernel
theorem tabD_eq : ∀ d0, tabD d0 = offs.map fun k => (k, nb d0 k) := by decide +kernel
theorem tabR_eq : ∀ d0, tabR d0 = offs.map fun k => (k, pv d0 k) := by decide +kernel

/-! ## The semaphores, rows and chunks at a symbolic index -/

theorem inb31 (k : Fin 31) : ∀ a, (![k.val] : Fin 1 → Nat) a + S1.size a ≤ S31.size a := by revert k; decide
theorem inbRow (k : Fin 32) : ∀ a, (![k.val, 0, 0] : Fin 3 → Nat) a + S1x1x64.size a ≤ S32x1x64.size a := by revert k; decide
theorem inbA (k : Fin 32) : ∀ a, (![64 * k.val, 0] : Fin 2 → Nat) a + S64x256.size a ≤ S2048x256.size a := by revert k; decide
theorem inbY (k : Fin 32) : ∀ a, (![64 * k.val, 0] : Fin 2 → Nat) a + S64x512.size a ≤ S2048x512.size a := by revert k; decide

theorem wordsA : ∀ k : Fin 32, (Rect.unit (s := S2048x256) ![64 * k.val, 0] S64x256.size (inbA k)).WholeWords (EltTy.packing .bf16) := by decide
theorem wordsY : ∀ k : Fin 32, (Rect.unit (s := S2048x512) ![64 * k.val, 0] S64x512.size (inbY k)).WholeWords (EltTy.packing .bf16) := by decide
theorem inbHA : ∀ (k : Fin 32) (s : Fin 2), ∀ a, (![64 * k.val + 32 * s.val, 0] : Fin 2 → Nat) a + S32x256.size a ≤ S2048x256.size a := by decide
theorem inbHY : ∀ (k : Fin 32) (s : Fin 2), ∀ a, (![64 * k.val + 32 * s.val, 0] : Fin 2 → Nat) a + S32x512.size a ≤ S2048x512.size a := by decide
theorem packedHY : ∀ (k : Fin 32) (s : Fin 2), (Rect.unit (s := S2048x512) ![64 * k.val + 32 * s.val, 0] S32x512.size (inbHY k s)).PackedRows (EltTy.packing .bf16) := by decide
theorem inbW : ∀ s : Fin 2, ∀ a, (![s.val, 0, 0] : Fin 3 → Nat) a + S1x256x512.size a ≤ S2x256x512.size a := by decide

/-- Semaphore `k` of an array of 31. -/
abbrev semAt (arr : DmaSems sig S31) (k : Fin 31) : DmaSem sig :=
  ((arr.slice (Rect.unit (s := S31) ![k.val] S1.size (inb31 k))).squeeze S_ squeezes_S1_S_).sem
/-- Row `k` of the array of counts. -/
abbrev row (a : Memref sig .tc .vmem S32x1x64 .f32) (k : Fin 32) : Memref sig .tc .vmem S1x64 .f32 :=
  (a.slice (Rect.unit (s := S32x1x64) ![k.val, 0, 0] S1x1x64.size (inbRow k)) (fun _ => rfl)).squeeze S1x64 squeezes_S1x1x64_S1x64
/-- Rows `64 k … 64 k + 63` of a buffer of gathered rows. -/
abbrev chA (a : Memref sig .tc .vmem S2048x256 .bf16) (k : Fin 32) : Memref sig .tc .vmem S64x256 .bf16 :=
  a.slice (Rect.unit (s := S2048x256) ![64 * k.val, 0] S64x256.size (inbA k)) (fun _ => rfl)
/-- Rows `64 k … 64 k + 63` of a buffer of results. -/
abbrev chY (a : Memref sig .tc .vmem S2048x512 .bf16) (k : Fin 32) : Memref sig .tc .vmem S64x512 .bf16 :=
  a.slice (Rect.unit (s := S2048x512) ![64 * k.val, 0] S64x512.size (inbY k)) (fun _ => rfl)

/-! ## The phases -/

section Phases

variable (arg0 : Memref sig .tc .vmem S512x256 .bf16) (harg0 : arg0.IsWhole) (arg1 : Memref sig .tc .vmem S512x1 .i32) (harg1 : arg1.IsWhole)
  (arg2 : Memref sig .tc .vmem S2x256x512 .bf16) (harg2 : arg2.IsWhole) (arg3 : Memref sig .tc .vmem S512x512 .f32) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S32x1x64 .f32) (harg8 : arg8.IsWhole)
  (arg9 arg10 arg11 arg12 arg13 arg14 : DmaSems sig S31)

/-- The barrier semaphore. -/
abbrev barS : Sem sig := (SemArray.scalar (sig.barrier 0 rfl) : Sems sig S_).sem

/-- One signal of the barrier. -/
def sigStep (j : Fin 31 × Dev nD) (rest : P F) : P F :=
  .op (.semSignal (j.2, .tc) barS (1#32).toInt) fun _ => rest

/-- One copy of the counts. -/
def cStep (j : Fin 31 × Dev nD) (rest : P F) : P F :=
  .op (.enqueueDma (row arg8 0) (.remote (Dev.tc j.2) (row arg8 j.1.succ) (.dma (semAt arg9 j.1))) (.dma (semAt arg10 j.1))
    ((View.wordExact_bits rfl).reshape _ _) ((View.wordExact_bits rfl).reshape _ _) ⟨⟨rfl, Or.inl rfl⟩, trivial⟩) fun _ => rest
/-- One wait for another device's counts. -/
def cWait (j : Fin 31) (rest : P F) : P F :=
  .op (.waitDma2 (semAt arg10 j) (row arg8 0) (row arg8 j.succ) ((View.wordExact_bits rfl).reshape _ _) ((View.wordExact_bits rfl).reshape _ _)) fun _ => rest
/-- One copy of the gathered rows. -/
def dStep (j : Fin 31 × Dev nD) (rest : P F) : P F :=
  .op (.enqueueDma (chA arg4 j.1.succ) (.remote (Dev.tc j.2) (chA arg5 j.1.succ) (.dma (semAt arg11 j.1))) (.dma (semAt arg12 j.1))
    (harg4.wordExact_slice rfl _ (wordsA _)) (harg5.wordExact_slice rfl _ (wordsA _)) ⟨⟨rfl, Or.inl rfl⟩, trivial⟩) fun _ => rest
/-- One half of a region of the compute: 32 rows of one expert. -/
def half (k : Fin 32) (s : Fin 2) (rest : P F) : P F :=
  .op (.load arg5 (Rect.unit (s := S2048x256) ![64 * k.val + 32 * s.val, 0] S32x256.size (inbHA k s)).toLoadRect (View.loadsAt_vmem h_S32x256)) fun a =>
  .op (.load arg2 (Rect.unit (s := S2x256x512) ![s.val, 0, 0] S1x256x512.size (inbW s)).toLoadRect (View.loadsAt_vmem h_S1x256x512)) fun w =>
  .op (.load arg6 (Rect.unit (s := S2048x512) ![64 * k.val + 32 * s.val, 0] S32x512.size (inbHY k s)).toLoadRect (View.loadsAt_vmem h_S32x512)) fun _ =>
  .op (.store arg6 (Rect.unit (s := S2048x512) ![64 * k.val + 32 * s.val, 0] S32x512.size (inbHY k s)) (k0_pay15 a w) Finset.univ
    (View.stores_vmem h_S32x512 (harg6.storeExact_slice rfl _ (packedHY k s)) (fun _ => rfl)) (.inl rfl)) fun _ => rest
/-- One region of the compute: the two experts of the device. -/
def region (k : Fin 32) (rest : P F) : P F :=
  half arg2 arg5 arg6 harg6 k 0 (half arg2 arg5 arg6 harg6 k 1 rest)
/-- Wait for one chunk of rows, compute on it, copy the results back. -/
def rStep (j : Fin 31 × Dev nD) (rest : P F) : P F :=
  .op (.waitDma2 (semAt arg12 j.1) (chA arg4 j.1.succ) (chA arg5 j.1.succ) (harg4.wordExact_slice rfl _ (wordsA _)) (harg5.wordExact_slice rfl _ (wordsA _))) fun _ =>
  region arg2 arg5 arg6 harg6 j.1.succ <|
  .op (.enqueueDma (chY arg6 j.1.succ) (.remote (Dev.tc j.2) (chY arg7 j.1.succ) (.dma (semAt arg13 j.1))) (.dma (semAt arg14 j.1))
    (harg6.wordExact_slice rfl _ (wordsY _)) (harg7.wordExact_slice rfl _ (wordsY _)) ⟨⟨rfl, Or.inl rfl⟩, trivial⟩) fun _ => rest
/-- One wait for a chunk of results. -/
def rWait (j : Fin 31) (rest : P F) : P F :=
  .op (.waitDma2 (semAt arg14 j) (chY arg6 j.succ) (chY arg7 j.succ) (harg6.wordExact_slice rfl _ (wordsY _)) (harg7.wordExact_slice rfl _ (wordsY _))) fun _ => rest
/-- The waits for the kernel's own copies to have left. -/
def cSent (j : Fin 31) (rest : P F) : P F :=
  .op (.waitDma2 (semAt arg9 j) (row arg8 j.succ) (row arg8 0) ((View.wordExact_bits rfl).reshape _ _) ((View.wordExact_bits rfl).reshape _ _)) fun _ => rest
@[inherit_doc cSent] def dSent (j : Fin 31) (rest : P F) : P F :=
  .op (.waitDma2 (semAt arg11 j) (chA arg5 j.succ) (chA arg4 j.succ) (harg5.wordExact_slice rfl _ (wordsA _)) (harg4.wordExact_slice rfl _ (wordsA _))) fun _ => rest
@[inherit_doc cSent] def rSent (j : Fin 31) (rest : P F) : P F :=
  .op (.waitDma2 (semAt arg13 j) (chY arg7 j.succ) (chY arg6 j.succ) (harg7.wordExact_slice rfl _ (wordsY _)) (harg6.wordExact_slice rfl _ (wordsY _))) fun _ => rest

/-! ## The values between the phases -/

/-- The device's own number, as the kernel computes it. -/
def my (d0 : Dev nD) : BitVec 32 := Scalar.remsi (Scalar.divsi (Dev.word d0) 1#32) 32#32

/-- Which tokens are kept: from the experts' names and all the devices' counts. -/
def keep (d0 : Dev nD) (e : Vec F S512x1 .i32) (C : Vec F S32x1x64 .f32) : IVec S512x1 1 :=
  k0_pay5 (my d0) (k0_pay2 e) (k0_pay4 (k0_pay2 e)) C
/-- Each token's place among the gathered rows. -/
def place (d0 : Dev nD) (e : Vec F S512x1 .i32) : IVec S512x1 32 :=
  k0_pay11 (my d0) (k0_pay1 e) (k0_pay6 (k0_pay4 (k0_pay2 (F := F) e))) (k0_pay7 (k0_pay1 e)) (k0_pay8 (k0_pay1 e)) (k0_pay9 (k0_pay1 e)) k0_pay10

/-- The last phase: all that the kernel sent has left. -/
def tail9 : P F :=
  offs.foldr (cSent arg8 arg9) <| offs.foldr (dSent arg4 harg4 arg5 harg5 arg11) <|
    offs.foldr (rSent arg6 harg6 arg7 harg7 arg13) (.ret ⟨⟩)

/-- The result, once every chunk has come back. -/
def tail8 (sel : FVec F S512x2048 .bf16) : P F :=
  offs.foldr (rWait arg6 harg6 arg7 harg7 arg14) <|
  .op (.load arg7 (Rect.unit (s := S2048x512) ![0, 0] S2048x512.size inb_S2048x512_S2048x512_0_0).toLoadRect (View.loadsAt_vmem h_S2048x512)) fun r =>
  .op (.load arg3 (Rect.unit (s := S512x512) ![0, 0] S512x512.size inb_S512x512_S512x512_0_0).toLoadRect (View.loadsAt_vmem h_S512x512)) fun _ =>
  .op (.store arg3 (Rect.unit (s := S512x512) ![0, 0] S512x512.size inb_S512x512_S512x512_0_0) (k0_pay94 sel r) Finset.univ
    (View.stores_vmem_bits_univ h_S512x512 rfl) (.inl rfl)) fun _ =>
  tail9 arg4 harg4 arg5 harg5 arg6 harg6 arg7 harg7 arg8 arg9 arg11 arg13

/-- The device's own region, and the other devices' in turn. -/
def tail6 (tR : List (Fin 31 × Dev nD)) (sel : FVec F S512x2048 .bf16) : P F :=
  region arg2 arg5 arg6 harg6 0 <|
  .op (.load arg6 (Rect.unit (s := S2048x512) ![0, 0] S64x512.size inb_S2048x512_S64x512_0_0).toLoadRect (View.loadsAt_vmem h_S64x512)) fun y =>
  .op (.load arg7 (Rect.unit (s := S2048x512) ![0, 0] S64x512.size inb_S2048x512_S64x512_0_0).toLoadRect (View.loadsAt_vmem h_S64x512)) fun _ =>
  .op (.store arg7 (Rect.unit (s := S2048x512) ![0, 0] S64x512.size inb_S2048x512_S64x512_0_0) (k0_pay18 y) Finset.univ
    (View.stores_vmem h_S64x512 (harg7.storeExact_slice rfl _ packedbf16_S2048x512_S64x512_0_0) (fun _ => rfl)) (.inl rfl)) fun _ =>
  tR.foldr (rStep arg2 arg4 harg4 arg5 harg5 arg6 harg6 arg7 harg7 arg12 arg13 arg14) <|
  tail8 arg3 arg4 harg4 arg5 harg5 arg6 harg6 arg7 harg7 arg8 arg9 arg11 arg13 arg14 sel

/-- The gathered rows, and their copies. -/
def tail4 (d0 : Dev nD) (tD tR : List (Fin 31 × Dev nD)) (e : Vec F S512x1 .i32) (C : Vec F S32x1x64 .f32) : P F :=
  .op (.load arg0 (Rect.unit (s := S512x256) ![0, 0] S512x256.size inb_S512x256_S512x256_0_0).toLoadRect (View.loadsAt_vmem h_S512x256)) fun x =>
  .op (.load arg4 (Rect.unit (s := S2048x256) ![0, 0] S2048x256.size inb_S2048x256_S2048x256_0_0).toLoadRect (View.loadsAt_vmem h_S2048x256)) fun _ =>
  .op (.store arg4 (Rect.unit (s := S2048x256) ![0, 0] S2048x256.size inb_S2048x256_S2048x256_0_0) (k0_pay13 (keep d0 e C) (place d0 e) x) Finset.univ
    (View.stores_vmem h_S2048x256 (harg4.storeExact_slice rfl _ packedbf16_S2048x256_S2048x256_0_0) (fun _ => rfl)) (.inl rfl)) fun _ =>
  .op (.load arg4 (Rect.unit (s := S2048x256) ![0, 0] S64x256.size inb_S2048x256_S64x256_0_0).toLoadRect (View.loadsAt_vmem h_S64x256)) fun b =>
  .op (.load arg5 (Rect.unit (s := S2048x256) ![0, 0] S64x256.size inb_S2048x256_S64x256_0_0).toLoadRect (View.loadsAt_vmem h_S64x256)) fun _ =>
  .op (.store arg5 (Rect.unit (s := S2048x256) ![0, 0] S64x256.size inb_S2048x256_S64x256_0_0) (k0_pay14 b) Finset.univ
    (View.stores_vmem h_S64x256 (harg5.storeExact_slice rfl _ packedbf16_S2048x256_S64x256_0_0) (fun _ => rfl)) (.inl rfl)) fun _ =>
  tD.foldr (dStep arg4 harg4 arg5 harg5 arg11 arg12) <|
  tail6 arg2 arg3 arg4 harg4 arg5 harg5 arg6 harg6 arg7 harg7 arg8 arg9 arg11 arg12 arg13 arg14 tR (k0_pay12 (keep d0 e C) (place d0 e))

/-- The counts, their copies, and the other devices' counts. -/
def tail2 (d0 : Dev nD) (tC tD tR : List (Fin 31 × Dev nD)) : P F :=
  .op (.load arg1 (Rect.unit (s := S512x1) ![0, 0] S512x1.size inb_S512x1_S512x1_0_0).toLoadRect (View.loadsAt_vmem h_S512x1)) fun e =>
  .op (.load arg8 (Rect.unit (s := S32x1x64) ![0, 0, 0] S1x1x64.size inb_S32x1x64_S1x1x64_0_0_0).toLoadRect (View.loadsAt_vmem h_S1x1x64)) fun _ =>
  .op (.store arg8 (Rect.unit (s := S32x1x64) ![0, 0, 0] S1x1x64.size inb_S32x1x64_S1x1x64_0_0_0) (k0_pay3 e) Finset.univ
    (View.stores_vmem_bits_univ h_S1x1x64 rfl) (.inl rfl)) fun _ =>
  tC.foldr (cStep arg8 arg9 arg10) <| offs.foldr (cWait arg8 arg10) <|
  .op (.load arg8 (Rect.unit (s := S32x1x64) ![0, 0, 0] S32x1x64.size inb_S32x1x64_S32x1x64_0_0_0).toLoadRect (View.loadsAt_vmem h_S32x1x64)) fun C =>
  tail4 arg0 arg2 arg3 arg4 harg4 arg5 harg5 arg6 harg6 arg7 harg7 arg8 arg9 arg11 arg12 arg13 arg14 d0 tD tR e C

/-- The whole kernel from its tables of devices. -/
def prog (d0 : Dev nD) (tB tC tD tR : List (Fin 31 × Dev nD)) : P F :=
  tB.foldr sigStep <| .op (.semWait barS (31#32).toInt) fun _ =>
  tail2 arg0 arg1 arg2 arg3 arg4 harg4 arg5 harg5 arg6 harg6 arg7 harg7 arg8 arg9 arg10 arg11 arg12 arg13 arg14 d0 tC tD tR

set_option maxRecDepth 1000000 in
/-- The printed body is the program of the phases. -/
theorem body_eq :
    cc0_body (F := F) arg0 harg0 arg1 harg1 arg2 harg2 arg3 harg3 arg4 harg4 arg5 harg5 arg6 harg6 arg7 harg7 arg8 harg8 arg9 arg10 arg11 arg12 arg13 arg14
      = .op .deviceId fun d0 => prog arg0 arg1 arg2 arg3 arg4 harg4 arg5 harg5 arg6 harg6 arg7 harg7 arg8 arg9 arg10 arg11 arg12 arg13 arg14
          d0 (tabB d0) (tabC d0) (tabD d0) (tabR d0) := by
  with_unfolding_all rfl

end Phases

end Cert.KernelIdeal.Tidy

end
-- ==== Proof.Protocol.lean ====
/- The protocol the 32 devices follow: the semaphores, what each buffer holds once the kernel has filled it, and
   the schedule of who pays into which semaphore and what each payment hands over.

   * Barrier of device `c`: 31 signals, one from each other device. The signal of `pv c k` hands `c` the three places
     on that device which `c` will copy into: one row of its counts, one chunk of its gathered rows, one chunk of its
     returned results.
   * Counts: `c` copies row 0 of its counts to row `k + 1` on `nb c k`.
   * Gathered rows: `c` copies chunk `k + 1` of what it gathered to chunk `k + 1` on `nb c k`.
   * Results: `c` copies chunk `k + 1` of what it computed to chunk `k + 1` on `pv c k`. -/
module

public import proofs.«01_k».proof.Proof.Gen.KernelIdeal.Frame
public import proofs.«01_k».proof.Proof.Tidy
public import Idealize.ShloMosaic.Lib.ShareLeaves
public import Idealize.ShloMosaic.Lib.ValueIdxCore

@[expose] public section

noncomputable section

namespace Cert.KernelIdeal.Proto

open Cert.KernelIdeal Cert.KernelIdeal.Gen Cert.KernelIdeal.Tidy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ShareLeaves (leaf)

variable {F : FTy → Type} [FloatOps F]

/-- The rounds' own algebra: duties are numbered by offset. -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The buffers and the semaphores -/

abbrev sbM : Memref sig .tc .vmem S2048x256 .bf16 := Memref.whole cc0_scratch0
abbrev abM : Memref sig .tc .vmem S2048x256 .bf16 := Memref.whole cc0_scratch1
abbrev ybM : Memref sig .tc .vmem S2048x512 .bf16 := Memref.whole cc0_scratch2
abbrev rbM : Memref sig .tc .vmem S2048x512 .bf16 := Memref.whole cc0_scratch3
abbrev cM : Memref sig .tc .vmem S32x1x64 .f32 := Memref.whole cc0_scratch4

/-- A device's semaphores: its barrier, and six arrays of 31. -/
abbrev Cell : Type := Option (Fin 6 × Fin 31)

/-- Semaphore `k` of array `a`: 0 counts sent, 1 counts received, 2 rows sent, 3 rows received, 4 results sent, 5 results received. -/
abbrev xsem (a : Fin 6) (k : Fin 31) : DmaSem sig := ⟨4 + (31 * a.val + k.val), by have := a.isLt; have := k.isLt; show _ < 190; omega⟩
abbrev csem : Cell → SemLoc sig
  | none => .reg barS
  | some (a, k) => .dma (xsem a k)
abbrev kcell (ck : Dev nD × Cell) : GSem nD τ sig := ((ck.1 : Thread nD τ), csem ck.2)
abbrev barCell (c : Dev nD) : GSem nD τ sig := kcell (c, none)
abbrev xcell (c : Dev nD) (a : Fin 6) (k : Fin 31) : GSem nD τ sig := kcell (c, some (a, k))

theorem semAt_0 : ∀ k, semAt cc0_scratch5 k = xsem 0 k := by decide
theorem semAt_1 : ∀ k, semAt cc0_scratch6 k = xsem 1 k := by decide
theorem semAt_2 : ∀ k, semAt cc0_scratch7 k = xsem 2 k := by decide
theorem semAt_3 : ∀ k, semAt cc0_scratch8 k = xsem 3 k := by decide
theorem semAt_4 : ∀ k, semAt cc0_scratch9 k = xsem 4 k := by decide
theorem semAt_5 : ∀ k, semAt cc0_scratch10 k = xsem 5 k := by decide

theorem pv_nb : ∀ c k, pv (nb c k) k = c := by decide +kernel
theorem nb_pv : ∀ c k, nb (pv c k) k = c := by decide +kernel
theorem pv_eq_nb_rev : ∀ c k, pv c k = nb c (Fin.rev k) := by decide +kernel

/-- The credit of one copy on array `a`. -/
def credit (a : Fin 6) : ℕ :=
  if a.val < 2 then (row cM 0).view.dmaCredit else if a.val < 4 then (chA sbM 0).view.dmaCredit else (chY ybM 0).view.dmaCredit

theorem credit_pos (a : Fin 6) : 0 < credit a := by
  unfold credit
  split_ifs
  · exact View.dmaCredit_pos _ (by decide)
  · exact View.dmaCredit_pos _ (by decide)
  · exact View.dmaCredit_pos _ (by decide)

/-! ## What each buffer holds -/

/-- The device `n` places before `c`. -/
def back (c : Dev nD) (n : ℕ) : Dev nD := ⟨(c.val + 32 - n % 32) % 32, Nat.mod_lt _ (by decide)⟩
/-- The device `n` places after `c`. -/
def ahead (c : Dev nD) (n : ℕ) : Dev nD := ⟨(c.val + n) % 32, Nat.mod_lt _ (by decide)⟩

/-- The device's tokens. -/
def xs (c : Dev nD) : Vec F S512x256 .bf16 := iblk m c 0 t0_0
/-- The tokens' experts. -/
def es (c : Dev nD) : Vec F S512x1 .i32 := iblk m c 1 t0_0
/-- The device's two experts' weights. -/
def ws (c : Dev nD) : Vec F S2x256x512 .bf16 := iblk m c 2 t0_0

/-- All counts as device `c` ends up holding them: row `k` from the device `k` before it. -/
def CALL (c : Dev nD) : Vec F S32x1x64 .f32 := fun i =>
  k0_pay3 (es m (back c (i 0).val)) (ix3 (⟨0, by decide⟩ : Fin 1) (⟨0, by decide⟩ : Fin 1) (i 2))
def KEEP (c : Dev nD) : IVec S512x1 1 := keep c (es m c) (CALL m c)
def PLACE (c : Dev nD) : IVec S512x1 32 := place (F := F) c (es m c)
/-- The gathered rows. -/
def SB (c : Dev nD) : Vec F S2048x256 .bf16 := k0_pay13 (KEEP m c) (PLACE m c) (xs m c)
/-- The rows device `c` computes on: chunk `k` from the device `k` before it. -/
def AB (c : Dev nD) : Vec F S2048x256 .bf16 := fun i => SB m (back c ((i 0).val / 64)) i
/-- 32 rows of them. -/
def aRows (c : Dev nD) (r : Fin 64) : Vec F S32x256 .bf16 := fun j =>
  AB m c (ix2 (⟨32 * r.val + (j 0).val, by have h : (j 0).val < 32 := (j 0).isLt; have := r.isLt; omega⟩ : Fin 2048) (j 1))
/-- One expert's weights. -/
def wOf (c : Dev nD) (s : Fin 2) : Vec F S1x256x512 .bf16 := fun j => ws m c (ix3 s (j 1) (j 2))
/-- The results device `c` computes. -/
def YB (c : Dev nD) : Vec F S2048x512 .bf16 := fun i =>
  k0_pay15 (aRows m c ⟨(i 0).val / 32, by have h : (i 0).val < 2048 := (i 0).isLt; omega⟩)
    (wOf m c ⟨(i 0).val / 32 % 2, by omega⟩)
    (ix2 (⟨(i 0).val % 32, by omega⟩ : Fin 32) (i 1))
/-- The results that come back: chunk `k` from the device `k` after it. -/
def RB (c : Dev nD) : Vec F S2048x512 .bf16 := fun i => YB m (ahead c ((i 0).val / 64)) i
/-- The kernel's result. -/
def OUT (c : Dev nD) : Vec F S512x512 .f32 := k0_pay94 (k0_pay12 (KEEP m c) (PLACE m c)) (RB m c)

/-! ## Pieces of the buffers -/

def cPts (c : Dev nD) (k : Fin 32) (q : PosShare TreeShare) (f : Buf (Elt F) ((row cM k).view.loc (c : Thread nD τ))) : sProp 𝕄 :=
  (row cM k).view.loc (c : Thread nD τ) ↦[(row cM k).view.set]{q} f
def sPts (c : Dev nD) (k : Fin 32) (f : Buf (Elt F) ((chA sbM k).view.loc (c : Thread nD τ))) : sProp 𝕄 :=
  (chA sbM k).view.loc (c : Thread nD τ) ↦[(chA sbM k).view.set]{fullShare} f
def aPts (c : Dev nD) (k : Fin 32) (f : Buf (Elt F) ((chA abM k).view.loc (c : Thread nD τ))) : sProp 𝕄 :=
  (chA abM k).view.loc (c : Thread nD τ) ↦[(chA abM k).view.set]{fullShare} f
def yPts (c : Dev nD) (k : Fin 32) (f : Buf (Elt F) ((chY ybM k).view.loc (c : Thread nD τ))) : sProp 𝕄 :=
  (chY ybM k).view.loc (c : Thread nD τ) ↦[(chY ybM k).view.set]{fullShare} f
def rPts (c : Dev nD) (k : Fin 32) (f : Buf (Elt F) ((chY rbM k).view.loc (c : Thread nD τ))) : sProp 𝕄 :=
  (chY rbM k).view.loc (c : Thread nD τ) ↦[(chY rbM k).view.set]{fullShare} f

omit [FloatOps F] in
instance cPts_storable (c : Dev nD) (k q f) : BI.Storable (upEmb : UEmb _ 𝕄) (cPts (F := F) c k q f) := by unfold cPts; infer_instance
omit [FloatOps F] in
instance sPts_storable (c : Dev nD) (k f) : BI.Storable (upEmb : UEmb _ 𝕄) (sPts (F := F) c k f) := by unfold sPts; infer_instance
omit [FloatOps F] in
instance aPts_storable (c : Dev nD) (k f) : BI.Storable (upEmb : UEmb _ 𝕄) (aPts (F := F) c k f) := by unfold aPts; infer_instance
omit [FloatOps F] in
instance yPts_storable (c : Dev nD) (k f) : BI.Storable (upEmb : UEmb _ 𝕄) (yPts (F := F) c k f) := by unfold yPts; infer_instance
omit [FloatOps F] in
instance rPts_storable (c : Dev nD) (k f) : BI.Storable (upEmb : UEmb _ 𝕄) (rPts (F := F) c k f) := by unfold rPts; infer_instance

/-! ## The schedule -/

/-- Which share of its row of counts a device lends to its `k`-th copy; the last it keeps. -/
abbrev lent (k : Fin 31) : PosShare TreeShare := leaf 5 fullShare ⟨k.val, by have := k.isLt; omega⟩
abbrev kept : PosShare TreeShare := leaf 5 fullShare ⟨31, by decide⟩

/-- What the signal of `pv c k` hands `c`. -/
def barPay (c : Dev nD) (k : Fin 31) : sProp 𝕄 :=
  iprop((∃ f, cPts (pv c k) (Fin.rev k).succ fullShare f) ∗ (∃ f, aPts (pv c k) (Fin.rev k).succ f) ∗ ∃ f, rPts (pv c k) k.succ f)

/-- What the copy behind semaphore `k` of array `a` hands its owner. -/
def xferPay (c : Dev nD) (a : Fin 6) (k : Fin 31) : sProp 𝕄 :=
  match a with
  | 0 => cPts c 0 (lent k) (CALL m c)
  | 1 => cPts c k.succ fullShare (CALL m c)
  | 2 => sPts c k.succ (SB m c)
  | 3 => aPts c k.succ (AB m c)
  | 4 => yPts c k.succ (YB m c)
  | 5 => rPts c k.succ (RB m c)

omit [FloatOps F] in
instance barPay_storable (c k) : BI.Storable (upEmb : UEmb _ 𝕄) (barPay (F := F) c k) := by unfold barPay; infer_instance
instance xferPay_storable (c a k) : BI.Storable (upEmb : UEmb _ 𝕄) (xferPay (F := F) m c a k) := by
  unfold xferPay; split <;> infer_instance

/-- The array a semaphore belongs to, and its place there. -/
def arrOf (q : DmaSem sig) : Fin 6 := ⟨(q.val - 4) / 31 % 6, Nat.mod_lt _ (by decide)⟩
def posOf (q : DmaSem sig) : Fin 31 := ⟨(q.val - 4) % 31, Nat.mod_lt _ (by decide)⟩
theorem arrOf_xsem (a : Fin 6) (k : Fin 31) : arrOf (xsem a k) = a := Fin.ext (by
  have := a.isLt; have := k.isLt; show (4 + (31 * a.val + k.val) - 4) / 31 % 6 = a.val; omega)
theorem posOf_xsem (a : Fin 6) (k : Fin 31) : posOf (xsem a k) = k := Fin.ext (by
  have := a.isLt; have := k.isLt; show (4 + (31 * a.val + k.val) - 4) % 31 = k.val; omega)

def dutiesOf (s : SemLoc sig) : Finset (Fin 31) :=
  match s with
  | .reg _ => Finset.univ
  | .dma q => if 4 ≤ q.val then {0} else ∅
def amountOf (s : SemLoc sig) : ℕ :=
  match s with
  | .reg _ => 1
  | .dma q => credit (arrOf q)
def payOf (c : Dev nD) (s : SemLoc sig) (d : Fin 31) : sProp 𝕄 :=
  match s with
  | .reg _ => barPay c d
  | .dma q => xferPay m c (arrOf q) (posOf q)

/-- One round: the barrier has a duty of one unit per offset, every other semaphore one duty of its copy's credit. -/
def rd : Rounds.Schedule (GSem nD τ sig) (Fin 31) 𝕄 where
  duties g r := if r = 0 ∧ g.1.2 = .tc then dutiesOf g.2 else ∅
  unitless _ := False
  amount g _ _ := amountOf g.2
  payload g _ d := payOf m g.1.1 g.2 d
  amount_pos g _ _ _ := by
    unfold amountOf; split
    · exact Nat.one_pos
    · exact credit_pos _

instance rd_payload_storable (g : GSem nD τ sig) (r : ℕ) (d : Fin 31) :
    BI.Storable (upEmb : UEmb _ 𝕄) ((rd (F := F) m).payload g r d) := by
  show BI.Storable upEmb (payOf m g.1.1 g.2 d)
  unfold payOf; split <;> infer_instance

theorem duties_bar (c : Dev nD) : (rd (F := F) m).duties (barCell c) 0 = Finset.univ := by
  dsimp only [rd]; rw [if_pos ⟨rfl, rfl⟩]; rfl
theorem duties_x (c : Dev nD) (a k) : (rd (F := F) m).duties (xcell c a k) 0 = {0} := by
  dsimp only [rd]; rw [if_pos ⟨rfl, rfl⟩]; dsimp only [dutiesOf]; exact if_pos (Nat.le_add_right _ _)
theorem duties_later (g : GSem nD τ sig) : ∀ r, 1 ≤ r → (rd (F := F) m).duties g r = ∅ :=
  fun r hr => by dsimp only [rd]; rw [if_neg fun h => by omega]
theorem amount_bar (c : Dev nD) (d) : (rd (F := F) m).amount (barCell c) 0 d = 1 := rfl
theorem amount_x (c : Dev nD) (a k d) : (rd (F := F) m).amount (xcell c a k) 0 d = credit a := by
  show credit (arrOf (xsem a k)) = _; rw [arrOf_xsem]
theorem expect_bar (c : Dev nD) : (rd (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_x (c : Dev nD) (a k) : (rd (F := F) m).expect (xcell c a k) 0 = credit a := by
  unfold Schedule.expect Schedule.amountOf; rw [duties_x, Finset.sum_singleton, amount_x]
theorem payload_bar (c : Dev nD) (d) : (rd (F := F) m).payload (barCell c) 0 d = barPay c d := rfl
theorem payload_x (c : Dev nD) (a k d) : (rd (F := F) m).payload (xcell c a k) 0 d = xferPay m c a k := by
  show xferPay m c (arrOf (xsem a k)) (posOf (xsem a k)) = _; rw [arrOf_xsem, posOf_xsem]
theorem rest_bar (c : Dev nD) : bigSep ((rd (F := F) m).duties (barCell c) 0 \ ∅) (fun d => (rd (F := F) m).payload (barCell c) 0 d)
    = bigSep Finset.univ fun k => barPay c k := by rw [Finset.sdiff_empty, duties_bar]; rfl
theorem rest_x (c : Dev nD) (a k) : bigSep ((rd (F := F) m).duties (xcell c a k) 0 \ ∅) (fun d => (rd (F := F) m).payload (xcell c a k) 0 d)
    = xferPay m c a k := by rw [Finset.sdiff_empty, duties_x, bigSep_singleton, payload_x]

/-! ## What is owed, and the levels that order the waits -/

/-- The barrier signals still to send, over a list of offsets. -/
def OB (c : Dev nD) (js : List (Fin 31)) : CellTallies nD τ sig Unit := (js.map fun k => tallyAt (barCell (nb c k)) () 1).sum
/-- The copies of counts still to make. -/
def OC (c : Dev nD) (js : List (Fin 31)) : CellTallies nD τ sig Unit := (js.map fun k => tallyAt (xcell (nb c k) 1 k) () (credit 1)).sum
/-- The copies of rows still to make. -/
def OD (c : Dev nD) (js : List (Fin 31)) : CellTallies nD τ sig Unit := (js.map fun k => tallyAt (xcell (nb c k) 3 k) () (credit 3)).sum
/-- The copies of results still to make. -/
def OR (c : Dev nD) (js : List (Fin 31)) : CellTallies nD τ sig Unit := (js.map fun k => tallyAt (xcell (pv c k) 5 k) () (credit 5)).sum
/-- All that a device owes at the start. -/
def O₀ (c : Dev nD) : CellTallies nD τ sig Unit := 0 + OR c offs + OD c offs + OC c offs + OB c offs

def L (g : GSem nD τ sig) : Finset Unit := if g.1.2 = .tc then {()} else ∅
/-- Barriers at 1, counts received at 2, rows received at 3, results received at 4, all else at 0. -/
def lvOf (s : SemLoc sig) : ℕ :=
  match s with
  | .reg _ => 1
  | .dma q => if 4 ≤ q.val then (match arrOf q with | 1 => 2 | 3 => 3 | 5 => 4 | _ => 0) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_x (c : Dev nD) (a : Fin 6) (k) (u) : lv (xcell c a k) u = (match a with | 1 => 2 | 3 => 3 | 5 => 4 | _ => 0) := by
  dsimp only [lv, lvOf, kcell, csem]; rw [if_pos (Nat.le_add_right _ _), arrOf_xsem]

/-- A sum of tallies is positive only at one of its cells. -/
theorem sum_pos {js : List (Fin 31)} {cell : Fin 31 → GSem nD τ sig} {n : ℕ} {g : GSem nD τ sig} {u : Unit}
    (h : 0 < (js.map fun k => tallyAt (cell k) () n : List (CellTallies nD τ sig Unit)).sum g u) : ∃ k, g = cell k := by
  induction js with
  | nil => exact absurd h (Nat.lt_irrefl 0)
  | cons j js ih =>
    rw [List.map_cons, List.sum_cons, Pi.add_apply, Finsupp.add_apply, tallyAt_apply] at h
    by_cases hg : g = cell j ∧ u = ()
    · exact ⟨j, hg.1⟩
    · rw [if_neg hg, Nat.zero_add] at h; exact ih h

/-- A tally all of whose cells are receive cells above level `n`. -/
def Above (n : ℕ) (O : CellTallies nD τ sig Unit) : Prop := ∀ g u, 0 < O g u → g.1.2 = .tc ∧ n < lv g u

theorem above_zero (n) : Above n 0 := fun g u h => absurd h (Nat.lt_irrefl 0)
theorem above_add {n O O'} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_OB (c js) {n} (hn : n < 1) : Above n (OB c js) := fun g u hg => by
  obtain ⟨k, rfl⟩ := sum_pos hg; exact ⟨rfl, hn⟩
theorem above_OC (c js) {n} (hn : n < 2) : Above n (OC c js) := fun g u hg => by
  obtain ⟨k, rfl⟩ := sum_pos hg; exact ⟨rfl, by rw [lv_x]; exact hn⟩
theorem above_OD (c js) {n} (hn : n < 3) : Above n (OD c js) := fun g u hg => by
  obtain ⟨k, rfl⟩ := sum_pos hg; exact ⟨rfl, by rw [lv_x]; exact hn⟩
theorem above_OR (c js) {n} (hn : n < 4) : Above n (OR c js) := fun g u hg => by
  obtain ⟨k, rfl⟩ := sum_pos hg; exact ⟨rfl, by rw [lv_x]; exact hn⟩
theorem above_O₀ (c) : Above 0 (O₀ c) :=
  above_add (above_add (above_add (above_add (above_zero _) (above_OR c _ (by decide))) (above_OD c _ (by decide))) (above_OC c _ (by decide))) (above_OB c _ (by decide))

omit [FloatOps F] in
/-- A device may wait on a semaphore below all that it owes. -/
theorem mayWait (c : Dev nD) (s : SemLoc sig) {n : ℕ} (hs : lvOf s ≤ n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by have h : L g = {()} := if_pos (hO g u hg).1; rw [h]; exact Finset.mem_singleton_self _)
    (fun p hp => by rw [Finset.mem_singleton.mp hp]; exact hs)
    (fun g u hg => (hO g u hg).2)

end Cert.KernelIdeal.Proto

end
-- ==== Proof.Pieces.lean ====
/- The buffers row by row and chunk by chunk: a whole buffer is its 32 pieces, and what a copy or a store leaves on
   a piece is what the protocol says the piece holds. -/
module

public import proofs.«01_k».proof.Proof.Protocol
public import Idealize.ShloMosaic.Lib.Pipeline.Value

@[expose] public section

noncomputable section

namespace Cert.KernelIdeal.Proto

open Cert.KernelIdeal Cert.KernelIdeal.Gen Cert.KernelIdeal.Tidy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Which elements a piece has -/

theorem mem_row (k : Fin 32) (i : S32x1x64.Idx) : i ∈ (row cM k).view.set ↔ (i 0).val = k.val := by
  rw [show (row cM k).view.set = (Rect.unit (s := S32x1x64) ![k.val, 0, 0] S1x1x64.size (inbRow k)).set from by
    simp only [row, Memref.squeeze, Memref.slice]; first | rfl | simp]
  rw [Rect.mem_set_unit]
  have h1 : (i 1).val < 1 := (i 1).isLt
  have h2 : (i 2).val < 64 := (i 2).isLt
  constructor
  · intro h; have := h 0; simp at this; omega
  · intro h a; fin_cases a <;> simp <;> omega

theorem mem_unit2 {n d k l : ℕ} {i : (⟨2, ![n, d]⟩ : Shape).Idx} {h : ∀ a, (![k, 0] : Fin 2 → ℕ) a + (![l, d] : Fin 2 → ℕ) a ≤ (⟨2, ![n, d]⟩ : Shape).size a} :
    i ∈ (Rect.unit (s := ⟨2, ![n, d]⟩) ![k, 0] ![l, d] h).set ↔ k ≤ (i 0).val ∧ (i 0).val < k + l := by
  rw [Rect.mem_set_unit]
  have h1 : (i 1).val < d := (i 1).isLt
  constructor
  · intro h; have := h 0; simpa using this
  · intro h a; fin_cases a <;> simp <;> omega

theorem mem_chS (k : Fin 32) (i : S2048x256.Idx) : i ∈ (chA sbM k).view.set ↔ (i 0).val / 64 = k.val := by
  rw [show (chA sbM k).view.set = (Rect.unit (s := S2048x256) ![64 * k.val, 0] S64x256.size (inbA k)).set from View.set_slice_whole _ _]
  exact mem_unit2.trans (by omega)
theorem mem_chAb (k : Fin 32) (i : S2048x256.Idx) : i ∈ (chA abM k).view.set ↔ (i 0).val / 64 = k.val := by
  rw [show (chA abM k).view.set = (Rect.unit (s := S2048x256) ![64 * k.val, 0] S64x256.size (inbA k)).set from View.set_slice_whole _ _]
  exact mem_unit2.trans (by omega)
theorem mem_chYb (k : Fin 32) (i : S2048x512.Idx) : i ∈ (chY ybM k).view.set ↔ (i 0).val / 64 = k.val := by
  rw [show (chY ybM k).view.set = (Rect.unit (s := S2048x512) ![64 * k.val, 0] S64x512.size (inbY k)).set from View.set_slice_whole _ _]
  exact mem_unit2.trans (by omega)
theorem mem_chRb (k : Fin 32) (i : S2048x512.Idx) : i ∈ (chY rbM k).view.set ↔ (i 0).val / 64 = k.val := by
  rw [show (chY rbM k).view.set = (Rect.unit (s := S2048x512) ![64 * k.val, 0] S64x512.size (inbY k)).set from View.set_slice_whole _ _]
  exact mem_unit2.trans (by omega)

/-! ## Whole buffers -/

section
variable {M : Type} [URA M]

theorem bigSep_succ {n : ℕ} (Φ : Fin (n + 1) → sProp M) :
    bigSep Finset.univ Φ = iprop(Φ 0 ∗ bigSep Finset.univ fun k : Fin n => Φ k.succ) := by
  rw [Fin.univ_succ, Finset.cons_eq_insert, BI.bigSep_insert (by simp), BI.bigSep_map]; rfl
theorem bigSep_last {n : ℕ} (Φ : Fin (n + 1) → sProp M) :
    bigSep Finset.univ Φ = iprop(Φ (Fin.last n) ∗ bigSep Finset.univ fun k : Fin n => Φ k.castSucc) := by
  rw [Fin.univ_castSuccEmb, Finset.cons_eq_insert, BI.bigSep_insert (by simp), BI.bigSep_map]; rfl
/-- Reversing the offsets. -/
theorem bigSep_rev (Φ : Fin 31 → sProp M) : bigSep Finset.univ (fun k => Φ (Fin.rev k)) = bigSep Finset.univ Φ :=
  (bigSep_univ_equiv Fin.revPerm Φ).symm
end

omit [FloatOps F] in
/-- A buffer held whole is its 32 pieces: the first, and the 31 others. -/
theorem pieces {ℓ : Loc nD τ sig} {q : PosShare TreeShare} (S : Fin 32 → Finset (Idx ℓ)) (key : Idx ℓ → Fin 32)
    (hS : ∀ k i, i ∈ S k ↔ key i = k) (f : Buf (Elt F) ℓ) :
    (ℓ ↦{q} f : sProp 𝕄) = iprop((ℓ ↦[S 0]{q} f) ∗ bigSep Finset.univ fun k : Fin 31 => ℓ ↦[S k.succ]{q} f) := by
  rw [Idealize.ShloMosaic.Ring.pointsTo_blocks S (fun b b' hb => Finset.disjoint_left.mpr fun i h h' => hb (((hS b i).mp h).symm.trans ((hS b' i).mp h')))
    (Finset.eq_univ_iff_forall.mpr fun i => Finset.mem_biUnion.mpr ⟨key i, Finset.mem_univ _, (hS _ i).mpr rfl⟩) f, bigSep_succ]

omit [FloatOps F] in
theorem c_pieces (c : Dev nD) (q) (f : Buf (Elt F) ((c : Thread nD τ).loc cc0_scratch4)) :
    (((c : Thread nD τ).loc cc0_scratch4) ↦{q} f : sProp 𝕄) = iprop(cPts c 0 q f ∗ bigSep Finset.univ fun k : Fin 31 => cPts c k.succ q f) := by
  have h := pieces (F := F) (ℓ := ((c : Thread nD τ).loc cc0_scratch4)) (q := q) (fun k => (row cM k).view.set)
    (fun (i : S32x1x64.Idx) => (⟨(i 0).val, (i 0).isLt⟩ : Fin 32)) (fun k i => (mem_row k i).trans ⟨fun h => Fin.ext h, fun h => congrArg Fin.val h⟩) f
  exact h
omit [FloatOps F] in
theorem s_pieces (c : Dev nD) (f : Buf (Elt F) ((c : Thread nD τ).loc cc0_scratch0)) :
    (((c : Thread nD τ).loc cc0_scratch0) ↦{fullShare} f : sProp 𝕄) = iprop(sPts c 0 f ∗ bigSep Finset.univ fun k : Fin 31 => sPts c k.succ f) := by
  have h := pieces (F := F) (ℓ := ((c : Thread nD τ).loc cc0_scratch0)) (q := fullShare) (fun k => (chA sbM k).view.set)
    (fun (i : S2048x256.Idx) => (⟨(i 0).val / 64, by have h : (i 0).val < 2048 := (i 0).isLt; omega⟩ : Fin 32)) (fun k i => (mem_chS k i).trans ⟨fun h => Fin.ext h, fun h => congrArg Fin.val h⟩) f
  exact h
omit [FloatOps F] in
theorem a_pieces (c : Dev nD) (f : Buf (Elt F) ((c : Thread nD τ).loc cc0_scratch1)) :
    (((c : Thread nD τ).loc cc0_scratch1) ↦{fullShare} f : sProp 𝕄) = iprop(aPts c 0 f ∗ bigSep Finset.univ fun k : Fin 31 => aPts c k.succ f) := by
  have h := pieces (F := F) (ℓ := ((c : Thread nD τ).loc cc0_scratch1)) (q := fullShare) (fun k => (chA abM k).view.set)
    (fun (i : S2048x256.Idx) => (⟨(i 0).val / 64, by have h : (i 0).val < 2048 := (i 0).isLt; omega⟩ : Fin 32)) (fun k i => (mem_chAb k i).trans ⟨fun h => Fin.ext h, fun h => congrArg Fin.val h⟩) f
  exact h
omit [FloatOps F] in
theorem y_pieces (c : Dev nD) (f : Buf (Elt F) ((c : Thread nD τ).loc cc0_scratch2)) :
    (((c : Thread nD τ).loc cc0_scratch2) ↦{fullShare} f : sProp 𝕄) = iprop(yPts c 0 f ∗ bigSep Finset.univ fun k : Fin 31 => yPts c k.succ f) := by
  have h := pieces (F := F) (ℓ := ((c : Thread nD τ).loc cc0_scratch2)) (q := fullShare) (fun k => (chY ybM k).view.set)
    (fun (i : S2048x512.Idx) => (⟨(i 0).val / 64, by have h : (i 0).val < 2048 := (i 0).isLt; omega⟩ : Fin 32)) (fun k i => (mem_chYb k i).trans ⟨fun h => Fin.ext h, fun h => congrArg Fin.val h⟩) f
  exact h
omit [FloatOps F] in
theorem r_pieces (c : Dev nD) (f : Buf (Elt F) ((c : Thread nD τ).loc cc0_scratch3)) :
    (((c : Thread nD τ).loc cc0_scratch3) ↦{fullShare} f : sProp 𝕄) = iprop(rPts c 0 f ∗ bigSep Finset.univ fun k : Fin 31 => rPts c k.succ f) := by
  have h := pieces (F := F) (ℓ := ((c : Thread nD τ).loc cc0_scratch3)) (q := fullShare) (fun k => (chY rbM k).view.set)
    (fun (i : S2048x512.Idx) => (⟨(i 0).val / 64, by have h : (i 0).val < 2048 := (i 0).isLt; omega⟩ : Fin 32)) (fun k i => (mem_chRb k i).trans ⟨fun h => Fin.ext h, fun h => congrArg Fin.val h⟩) f
  exact h

omit [FloatOps F] in
/-- A row of counts held in full is the share kept and the 31 shares lent. -/
theorem c_shares (c : Dev nD) (k : Fin 32) (f) :
    (cPts c k fullShare f : sProp 𝕄) = iprop(cPts c k kept f ∗ bigSep Finset.univ fun j : Fin 31 => cPts c k (lent j) f) := by
  unfold cPts
  rw [ShareLeaves.pointsTo_leaves _ _ 5 fullShare]
  exact bigSep_last (n := 31) _

/-! ## What lands -/

theorem back_nb : ∀ c k, back (nb c k) k.succ.val = c := by decide +kernel
theorem ahead_pv : ∀ c k, ahead (pv c k) k.succ.val = c := by decide +kernel
theorem back_zero : ∀ c, back c 0 = c := by decide +kernel
theorem ahead_zero : ∀ c, ahead c 0 = c := by decide +kernel

/-- The counts of `c` landed on `nb c k` are what that device holds in row `k + 1`. -/
theorem land_c (c : Dev nD) (k : Fin 31) (fd) :
    ((row cM k.succ).view.loc (nb c k : Thread nD τ) ↦[(row cM k.succ).view.set]{fullShare}
      (row cM k.succ).view.write (Elt F) fd ((row cM 0).view.read (Elt F) (CALL m c)) Finset.univ : sProp 𝕄) = cPts (nb c k) k.succ fullShare (CALL m (nb c k)) := by
  unfold cPts
  refine pointsTo_congr fun i hi => ?_
  obtain ⟨x, -, rfl⟩ := Finset.mem_map.mp hi
  rw [View.write_emb_of_mem _ _ (Finset.mem_univ x)]
  have h1 : ((row cM k.succ).view.emb x 0).val = k.succ.val := (mem_row _ _).mp (View.emb_mem_set _ x)
  have h0 : ((row cM 0).view.emb x 0).val = 0 := (mem_row 0 _).mp (View.emb_mem_set _ x)
  have e1 : CALL m (nb c k) ((row cM k.succ).view.emb x) = k0_pay3 (es m c) (ix3 (⟨0, by decide⟩ : Fin 1) (⟨0, by decide⟩ : Fin 1) ((row cM k.succ).view.emb x 2)) := by
    unfold CALL; rw [h1, back_nb]
  have e0 : CALL m c ((row cM 0).view.emb x) = k0_pay3 (es m c) (ix3 (⟨0, by decide⟩ : Fin 1) (⟨0, by decide⟩ : Fin 1) ((row cM 0).view.emb x 2)) := by
    unfold CALL; rw [h0, back_zero]
  refine Eq.trans ?_ e1.symm
  exact e0

/-- The rows of `c` landed on `nb c k`. -/
theorem land_a (c : Dev nD) (k : Fin 31) (fd) :
    ((chA abM k.succ).view.loc (nb c k : Thread nD τ) ↦[(chA abM k.succ).view.set]{fullShare}
      (chA abM k.succ).view.write (Elt F) fd ((chA sbM k.succ).view.read (Elt F) (SB m c)) Finset.univ : sProp 𝕄) = aPts (nb c k) k.succ (AB m (nb c k)) := by
  unfold aPts
  refine pointsTo_congr fun i hi => ?_
  obtain ⟨x, -, rfl⟩ := Finset.mem_map.mp hi
  rw [View.write_emb_of_mem _ _ (Finset.mem_univ x)]
  have h1 : ((chA abM k.succ).view.emb x 0).val / 64 = k.succ.val := (mem_chAb _ _).mp (View.emb_mem_set _ x)
  have e1 : AB m (nb c k) ((chA abM k.succ).view.emb x) = SB m c ((chA abM k.succ).view.emb x) := by unfold AB; rw [h1, back_nb]
  exact Eq.trans rfl e1.symm

/-- The results of `c` landed on `pv c k`. -/
theorem land_r (c : Dev nD) (k : Fin 31) (fd) :
    ((chY rbM k.succ).view.loc (pv c k : Thread nD τ) ↦[(chY rbM k.succ).view.set]{fullShare}
      (chY rbM k.succ).view.write (Elt F) fd ((chY ybM k.succ).view.read (Elt F) (YB m c)) Finset.univ : sProp 𝕄) = rPts (pv c k) k.succ (RB m (pv c k)) := by
  unfold rPts
  refine pointsTo_congr fun i hi => ?_
  obtain ⟨x, -, rfl⟩ := Finset.mem_map.mp hi
  rw [View.write_emb_of_mem _ _ (Finset.mem_univ x)]
  have h1 : ((chY rbM k.succ).view.emb x 0).val / 64 = k.succ.val := (mem_chRb _ _).mp (View.emb_mem_set _ x)
  have e1 : RB m (pv c k) ((chY rbM k.succ).view.emb x) = YB m c ((chY rbM k.succ).view.emb x) := by unfold RB; rw [h1, ahead_pv]
  exact Eq.trans rfl e1.symm

/-! ## What a store leaves -/

abbrev cRect : Rect S32x1x64 := Rect.unit (s := S32x1x64) ![0, 0, 0] S1x1x64.size inb_S32x1x64_S1x1x64_0_0_0
theorem c_access : (cM.access cRect).set = (row cM 0).view.set := by
  ext i; rw [mem_row]
  rw [show (cM.access cRect).set = cRect.set from View.set_slice_whole _ _, Rect.mem_set_unit]
  have h1 : (i 1).val < 1 := (i 1).isLt
  have h2 : (i 2).val < 64 := (i 2).isLt
  constructor
  · intro h; have := h 0; simp at this; simpa using this
  · intro h a; fin_cases a <;> simp_all <;> omega

/-- The device's own counts, stored in row 0. -/
theorem store_c (c : Dev nD) (f) :
    ((cM.access cRect).loc (c : Thread nD τ) ↦[(row cM 0).view.set]{fullShare} (cM.access cRect).write (Elt F) f (k0_pay3 (es m c)) Finset.univ : sProp 𝕄)
      = cPts c 0 fullShare (CALL m c) := by
  unfold cPts
  refine pointsTo_congr fun i hi => ?_
  rw [← c_access] at hi
  obtain ⟨x, -, rfl⟩ := Finset.mem_map.mp hi
  rw [View.write_emb_of_mem _ _ (Finset.mem_univ x)]
  have h0 : ((cM.access cRect).emb x 0).val = 0 := (mem_row 0 _).mp (c_access ▸ View.emb_mem_set _ x)
  have e0 : CALL m c ((cM.access cRect).emb x) = k0_pay3 (es m c) (ix3 (⟨0, by decide⟩ : Fin 1) (⟨0, by decide⟩ : Fin 1) ((cM.access cRect).emb x 2)) := by
    unfold CALL; rw [h0, back_zero]
  refine Eq.trans ?_ e0.symm
  show k0_pay3 (es m c) x = _
  congr 1
  funext a
  apply Fin.ext
  have hx0 : (x 0).val < 1 := (x 0).isLt
  have hx1 : (x 1).val < 1 := (x 1).isLt
  match a with
  | ⟨0, _⟩ => show (x 0).val = 0; omega
  | ⟨1, _⟩ => show (x 1).val = 0; omega
  | ⟨2, _⟩ => show (x 2).val = 0 + 1 * (x 2).val; omega

abbrev aRect : Rect S2048x256 := Rect.unit (s := S2048x256) ![0, 0] S64x256.size inb_S2048x256_S64x256_0_0
abbrev yRect : Rect S2048x512 := Rect.unit (s := S2048x512) ![0, 0] S64x512.size inb_S2048x512_S64x512_0_0
theorem s_access : (sbM.access aRect).set = (chA sbM 0).view.set := by
  ext i; rw [mem_chS, show (sbM.access aRect).set = aRect.set from View.set_slice_whole _ _]
  exact mem_unit2.trans (by show _ ↔ _ = 0; omega)
theorem a_access : (abM.access aRect).set = (chA abM 0).view.set := by
  ext i; rw [mem_chAb, show (abM.access aRect).set = aRect.set from View.set_slice_whole _ _]
  exact mem_unit2.trans (by show _ ↔ _ = 0; omega)
theorem y_access : (ybM.access yRect).set = (chY ybM 0).view.set := by
  ext i; rw [mem_chYb, show (ybM.access yRect).set = yRect.set from View.set_slice_whole _ _]
  exact mem_unit2.trans (by show _ ↔ _ = 0; omega)
theorem r_access : (rbM.access yRect).set = (chY rbM 0).view.set := by
  ext i; rw [mem_chRb, show (rbM.access yRect).set = yRect.set from View.set_slice_whole _ _]
  exact mem_unit2.trans (by show _ ↔ _ = 0; omega)

/-- The device's own gathered rows, stored in chunk 0. -/
theorem store_a (c : Dev nD) (f) :
    ((abM.access aRect).loc (c : Thread nD τ) ↦[(chA abM 0).view.set]{fullShare}
        (abM.access aRect).write (Elt F) f (k0_pay14 ((sbM.access aRect).read (Elt F) (SB m c))) Finset.univ : sProp 𝕄)
      = aPts c 0 (AB m c) := by
  unfold aPts
  refine pointsTo_congr fun i hi => ?_
  rw [← a_access] at hi
  obtain ⟨x, -, rfl⟩ := Finset.mem_map.mp hi
  rw [View.write_emb_of_mem _ _ (Finset.mem_univ x)]
  have h0 : ((abM.access aRect).emb x 0).val / 64 = 0 := (mem_chAb 0 _).mp (a_access ▸ View.emb_mem_set _ x)
  have e0 : AB m c ((abM.access aRect).emb x) = SB m c ((abM.access aRect).emb x) := by unfold AB; rw [h0, back_zero]
  refine Eq.trans ?_ e0.symm
  unfold k0_pay14
  rw [Idealize.ShloMosaic.shapeCast_self]
  rfl

/-- The device's own results, stored in chunk 0. -/
theorem store_r (c : Dev nD) (f) :
    ((rbM.access yRect).loc (c : Thread nD τ) ↦[(chY rbM 0).view.set]{fullShare}
        (rbM.access yRect).write (Elt F) f (k0_pay18 ((ybM.access yRect).read (Elt F) (YB m c))) Finset.univ : sProp 𝕄)
      = rPts c 0 (RB m c) := by
  unfold rPts
  refine pointsTo_congr fun i hi => ?_
  rw [← r_access] at hi
  obtain ⟨x, -, rfl⟩ := Finset.mem_map.mp hi
  rw [View.write_emb_of_mem _ _ (Finset.mem_univ x)]
  have h0 : ((rbM.access yRect).emb x 0).val / 64 = 0 := (mem_chRb 0 _).mp (r_access ▸ View.emb_mem_set _ x)
  have e0 : RB m c ((rbM.access yRect).emb x) = YB m c ((rbM.access yRect).emb x) := by unfold RB; rw [h0, ahead_zero]
  refine Eq.trans ?_ e0.symm
  unfold k0_pay18
  rw [Idealize.ShloMosaic.shapeCast_self]
  rfl

/-! ## A region of the compute -/

abbrev wM : Memref sig .tc .vmem S2x256x512 .bf16 := Memref.whole cc0_stg2_0
abbrev hARect (k : Fin 32) (s : Fin 2) : Rect S2048x256 := Rect.unit (s := S2048x256) ![64 * k.val + 32 * s.val, 0] S32x256.size (inbHA k s)
abbrev hYRect (k : Fin 32) (s : Fin 2) : Rect S2048x512 := Rect.unit (s := S2048x512) ![64 * k.val + 32 * s.val, 0] S32x512.size (inbHY k s)
abbrev wRect (s : Fin 2) : Rect S2x256x512 := Rect.unit (s := S2x256x512) ![s.val, 0, 0] S1x256x512.size (inbW s)
/-- The number of a half of a chunk among the 64 halves. -/
abbrev hidx (k : Fin 32) (s : Fin 2) : Fin 64 := ⟨2 * k.val + s.val, by have := k.isLt; have := s.isLt; omega⟩

theorem hA_subset (k : Fin 32) (s : Fin 2) : abM.view.setOn (hARect k s).toLoadRect.set ⊆ (chA abM k).view.set := by
  have hs := s.isLt
  intro i hi
  rw [mem_chAb]
  have hi' : i ∈ (hARect k s).set := by
    obtain ⟨a, ha, rfl⟩ := Finset.mem_map.mp hi
    exact ha
  have := mem_unit2.mp hi'
  omega
theorem mem_hY (k : Fin 32) (s : Fin 2) (i : S2048x512.Idx) : i ∈ (ybM.access (hYRect k s)).set ↔ (i 0).val / 32 = 2 * k.val + s.val := by
  rw [show (ybM.access (hYRect k s)).set = (hYRect k s).set from View.set_slice_whole _ _]
  exact mem_unit2.trans (by omega)
theorem hY_subset (k : Fin 32) (s : Fin 2) : (ybM.access (hYRect k s)).set ⊆ (chY ybM k).view.set := by
  have hs := s.isLt
  intro i hi
  rw [mem_chYb]
  have := (mem_hY k s i).mp hi
  omega
theorem hY_subset' (k : Fin 32) (s : Fin 2) : ybM.view.setOn (hYRect k s).toLoadRect.set ⊆ (chY ybM k).view.set := by
  intro i hi
  refine hY_subset k s ?_
  rw [show (ybM.access (hYRect k s)).set = (hYRect k s).set from View.set_slice_whole _ _]
  obtain ⟨a, ha, rfl⟩ := Finset.mem_map.mp hi
  exact ha

/-- What the load of half a chunk of rows reads. -/
theorem read_hA (c : Dev nD) (k : Fin 32) (s : Fin 2) :
    abM.view.readAt (Elt F) (hARect k s).toLoadRect (AB m c) = aRows m c (hidx k s) := by
  funext x
  show AB m c _ = AB m c _
  congr 1
  funext a
  apply Fin.ext
  match a with
  | ⟨0, _⟩ => show 64 * k.val + 32 * s.val + 1 * (x 0).val = 32 * (2 * k.val + s.val) + (x 0).val; omega
  | ⟨1, _⟩ => show 0 + 1 * (x 1).val = (x 1).val; omega

/-- What the load of one expert's weights reads. -/
theorem read_w (c : Dev nD) (s : Fin 2) : wM.view.readAt (Elt F) (wRect s).toLoadRect (ws m c) = wOf m c s := by
  funext x
  show ws m c _ = ws m c _
  congr 1
  funext a
  apply Fin.ext
  have h0 : (x 0).val < 1 := (x 0).isLt
  match a with
  | ⟨0, _⟩ => show s.val + 1 * (x 0).val = s.val; omega
  | ⟨1, _⟩ => show 0 + 1 * (x 1).val = (x 1).val; omega
  | ⟨2, _⟩ => show 0 + 1 * (x 2).val = (x 2).val; omega

/-- The results at a place given by its half chunk and its place there. -/
theorem YB_at (c : Dev nD) (k : Fin 32) (s : Fin 2) (i : S2048x512.Idx) (x : S32x512.Idx)
    (e0 : (i 0).val = 64 * k.val + 32 * s.val + (x 0).val) (e1 : (i 1).val = (x 1).val) :
    YB m c i = k0_pay15 (aRows m c (hidx k s)) (wOf m c s) x := by
  have hs := s.isLt
  have hx : (x 0).val < 32 := (x 0).isLt
  have ha : (⟨(i 0).val / 32, by have h : (i 0).val < 2048 := (i 0).isLt; omega⟩ : Fin 64) = hidx k s := Fin.ext (by show (i 0).val / 32 = _; rw [e0]; show _ = 2 * k.val + s.val; omega)
  have hw : (⟨(i 0).val / 32 % 2, by omega⟩ : Fin 2) = s := Fin.ext (by show (i 0).val / 32 % 2 = _; rw [e0]; omega)
  have hj : (ix2 (⟨(i 0).val % 32, by omega⟩ : Fin 32) (i 1) : S32x512.Idx) = x := by
    funext a
    apply Fin.ext
    match a with
    | ⟨0, _⟩ => show (i 0).val % 32 = (x 0).val; rw [e0]; omega
    | ⟨1, _⟩ => exact e1
  show k0_pay15 (aRows m c ⟨(i 0).val / 32, _⟩) (wOf m c ⟨(i 0).val / 32 % 2, _⟩) (ix2 (⟨(i 0).val % 32, _⟩ : Fin 32) (i 1)) = _
  rw [ha, hw, hj]

/-- A store of half a chunk of results leaves that half as it should be, -/
theorem write_hY (c : Dev nD) (k : Fin 32) (s : Fin 2) (f) (i : S2048x512.Idx) (hi : (i 0).val / 32 = 2 * k.val + s.val) :
    (ybM.access (hYRect k s)).write (Elt F) f (k0_pay15 (aRows m c (hidx k s)) (wOf m c s)) Finset.univ i = YB m c i := by
  have hm := (mem_hY k s i).mpr hi
  rw [View.set, Finset.mem_map] at hm
  obtain ⟨x, -, hx⟩ := hm
  have e0 : (i 0).val = 64 * k.val + 32 * s.val + (x 0).val := by
    rw [← hx]; show 64 * k.val + 32 * s.val + 1 * (x 0).val = _; omega
  have e1 : (i 1).val = (x 1).val := by rw [← hx]; show 0 + 1 * (x 1).val = _; omega
  rw [YB_at m c k s i x e0 e1, ← hx]
  exact View.write_emb_of_mem _ _ (Finset.mem_univ x)

/-- and both halves the whole chunk. -/
theorem store_y (c : Dev nD) (k : Fin 32) (f) :
    ((ybM.access (hYRect k 1)).loc (c : Thread nD τ) ↦[(chY ybM k).view.set]{fullShare}
      (ybM.access (hYRect k 1)).write (Elt F) ((ybM.access (hYRect k 0)).write (Elt F) f (k0_pay15 (aRows m c (hidx k 0)) (wOf m c 0)) Finset.univ)
        (k0_pay15 (aRows m c (hidx k 1)) (wOf m c 1)) Finset.univ : sProp 𝕄) = yPts c k (YB m c) := by
  unfold yPts
  refine pointsTo_congr fun i hi => ?_
  have hk : (i 0).val / 64 = k.val := (mem_chYb k i).mp hi
  rcases Nat.mod_two_eq_zero_or_one ((i 0).val / 32) with h | h
  · have h0 : (i 0).val / 32 = 2 * k.val + (0 : Fin 2).val := by show _ = 2 * k.val + 0; omega
    refine (View.write_of_not_mem (v := ybM.access (hYRect k 1)) (Val := Elt F) _ _ _ (fun hm => ?_)).trans (write_hY m c k 0 f i h0)
    have := (mem_hY k 1 i).mp hm
    have h1 : (1 : Fin 2).val = 1 := rfl
    omega
  · exact write_hY m c k 1 _ i (by show _ = 2 * k.val + 1; omega)

end Cert.KernelIdeal.Proto

end
-- ==== Proof.Steps.lean ====
/- One step of each phase at a symbolic offset, and the rule that runs a whole phase of 31 steps. -/
module

public import proofs.«01_k».proof.Proof.Pieces
public import Idealize.ShloMosaic.Lib.Pipeline.BigSepL

@[expose] public section

noncomputable section

namespace Cert.KernelIdeal.Proto

open Cert.KernelIdeal Cert.KernelIdeal.Gen Cert.KernelIdeal.Tidy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

abbrev 𝒱₀ : Variants := Variants.none

/-- What the rest of a program of device `c` needs to run to `Q`. -/
abbrev Wp (c : Dev nD) (p : P F) (Q : PUnit → sProp 𝕄) : sProp 𝕄 :=
  wp frame (wpE (defs₀ (F := F)) 𝒱₀ (c : Thread nD τ) none) Set.univ p Q

/-! ## What every device knows -/

/-- Every semaphore's invariant, that every semaphore is at its round 0, and the levels. -/
def known : sProp 𝕄 :=
  iprop((bigSep Finset.univ fun ck : Dev nD × Cell => cellInv ER (rd m) (K ck) (kcell ck))
    ∗ (bigSep Finset.univ fun ck : Dev nD × Cell => reached ER (kcell ck) 0) ∗ (levAts L lv : sProp 𝕄))

instance known_persistent : BI.Persistent (known (F := F) m K) := by unfold known; infer_instance

theorem known_inv (ck : Dev nD × Cell) : known (F := F) m K ⊢ cellInv ER (rd m) (K ck) (kcell ck) := by
  unfold known
  iintro ⟨#H, -, -⟩
  have h : (bigSep Finset.univ fun ck : Dev nD × Cell => (cellInv ER (rd m) (K ck) (kcell ck) : sProp 𝕄)) ⊢ cellInv ER (rd m) (K ck) (kcell ck) :=
    bigSep_elim (Finset.mem_univ ck)
  iapply h; iexact H
theorem known_reached (ck : Dev nD × Cell) : known (F := F) m K ⊢ reached ER (kcell ck) 0 := by
  unfold known
  iintro ⟨-, #H, -⟩
  have h : (bigSep Finset.univ fun ck : Dev nD × Cell => (reached ER (kcell ck) 0 : sProp 𝕄)) ⊢ reached ER (kcell ck) 0 :=
    bigSep_elim (Finset.mem_univ ck)
  iapply h; iexact H
/-- A device may wait on a semaphore below all that it owes. -/
theorem known_mayWait (c : Dev nD) (sl : SemLoc sig) {n : ℕ} (hs : lvOf sl ≤ n) {O : CellTallies nD τ sig Unit} (hO : Above n O) :
    known (F := F) m K ⊢ (MayWait (c : Thread nD τ) sl () O : sProp 𝕄) := by
  unfold known
  iintro ⟨-, -, #H⟩
  iapply (mayWait (F := F) c sl hs hO); iexact H

/-- The device owes `O`, whatever it has waited on so far. -/
def owing (c : Dev nD) (O : CellTallies nD τ sig Unit) : sProp 𝕄 := iprop(∃ W, owes (c : Thread nD τ) O W)

/-! ## A phase -/

/-- A phase of like steps: if each step turns its own `Φ j` into `Ψ j` and moves the running state on, the whole list does. -/
theorem fold_list (c : Dev nD) {Q : PUnit → sProp 𝕄} (Φ Ψ : Fin 31 → sProp 𝕄) (S : List (Fin 31) → sProp 𝕄) (step : Fin 31 → P F → P F)
    (h : ∀ j js rest, iprop(Φ j ∗ S (j :: js)) ⊢ iprop(((Ψ j ∗ S js) -∗ Wp c rest Q) -∗ Wp c (step j rest) Q)) (rest : P F) (js : List (Fin 31)) :
    iprop(bigSepL js Φ ∗ S js) ⊢ iprop(((bigSepL js Ψ ∗ S []) -∗ Wp c rest Q) -∗ Wp c (js.foldr step rest) Q) := by
  induction js with
  | nil =>
    iintro ⟨He, HS⟩ Hk
    iapply Hk
    isplitl [He]; · iexact He
    iexact HS
  | cons j js ih =>
    rw [bigSepL_cons', bigSepL_cons']
    iintro ⟨⟨Hj, Hjs⟩, HS⟩ Hk
    iapply (h j js (js.foldr step rest)) $$ [Hj HS]
    · isplitl [Hj]; · iexact Hj
      iexact HS
    iintro ⟨Hj, HS⟩
    iapply ih $$ [Hjs HS]
    · isplitl [Hjs]; · iexact Hjs
      iexact HS
    iintro ⟨Hjs, HS⟩
    iapply Hk
    isplitr [HS]
    · isplitl [Hj]; · iexact Hj
      iexact Hjs
    · iexact HS

/-- All 31 offsets. -/
theorem fold_offs (c : Dev nD) {Q : PUnit → sProp 𝕄} (Φ Ψ : Fin 31 → sProp 𝕄) (S : List (Fin 31) → sProp 𝕄) (step : Fin 31 → P F → P F)
    (h : ∀ j js rest, iprop(Φ j ∗ S (j :: js)) ⊢ iprop(((Ψ j ∗ S js) -∗ Wp c rest Q) -∗ Wp c (step j rest) Q)) (rest : P F) :
    iprop(bigSep Finset.univ Φ ∗ S offs) ⊢ iprop(((bigSep Finset.univ Ψ ∗ S []) -∗ Wp c rest Q) -∗ Wp c (offs.foldr step rest) Q) := by
  rw [bigSep_univ_eq_bigSepL offs (by decide) (by decide) Φ, bigSep_univ_eq_bigSepL offs (by decide) (by decide) Ψ]
  exact fold_list c Φ Ψ S step h rest offs

/-! ## Signals -/

theorem peel (B t X : CellTallies nD τ sig Unit) : B + (t + X) = B + X + t := by rw [add_comm t X, add_assoc]

/-- One signal of the barrier hands the device it addresses its three places. -/
theorem step_sig (c : Dev nD) {Q : PUnit → sProp 𝕄} (B : CellTallies nD τ sig Unit) (j : Fin 31) (js : List (Fin 31)) (rest : P F) :
    iprop((dutyTok ER (barCell (nb c j)) 0 j ∗ barPay (nb c j) j) ∗ (known m K ∗ owing c (B + OB c (j :: js))))
      ⊢ iprop(((emp ∗ (known m K ∗ owing c (B + OB c js))) -∗ Wp c rest Q) -∗ Wp c (sigStep (j, nb c j) rest) Q) := by
  unfold owing sigStep
  iintro ⟨⟨Ht, Hp⟩, #Hg, ⟨%W, HO⟩⟩ Hk
  iapply (Rounds.wp_signal 𝒱₀ ER (rd m) (c : Thread nD τ) none (dst := (nb c j : Thread nD τ)) (κ := K (nb c j, none))
      (d := j) (by rw [duties_bar]; exact Finset.mem_univ _) ((amount_bar m (nb c j) j).trans (by decide)) () (B + OB c js) (peel _ _ _))
    $$ [HO Ht Hp]
  · isplitr; · iapply (known_inv m K (nb c j, none)); iexact Hg
    isplitl [HO]; · iexact HO
    isplitl [Ht]; · iexact Ht
    isplitl [Hp]; · rw [payload_bar]; iexact Hp
    iapply (known_reached m K (nb c j, none)); iexact Hg
  iintro HO
  iapply Hk
  isplitr; · iempintro
  isplitr; · iexact Hg
  iexists W; iexact HO

/-! ## Waits -/

/-- A wait for all of a copy's credit brings its payload, and the semaphore's counter at zero. -/
theorem wait_x (c : Dev nD) {Q : PUnit → sProp 𝕄} (a : Fin 6) (k : Fin 31) {w : TpuEff nD τ sig (Elt F) Λ₀ .tc PUnit} {n : ℕ} (hn : n = credit a)
    (hw : ∀ X : PUnit → sProp 𝕄, wpE (defs₀ (F := F)) 𝒱₀ (c : Thread nD τ) none Set.univ w X = waitSpec (c : Thread nD τ) Set.univ (.dma (xsem a k)) n X)
    {l : ℕ} (hl : lvOf (csem (some (a, k))) ≤ l) {O : CellTallies nD τ sig Unit} (hO : Above l O) (rest : P F) :
    iprop(known m K ∗ owing c O ∗ cred (tallyAt (xcell c a k) () (credit a)) ∗ atPos ER (xcell c a k) 0 ∅ 0)
      ⊢ iprop(((owing c O ∗ xferPay m c a k ∗ semVal (xcell c a k) 0) -∗ Wp c rest Q) -∗ Wp c (.op w fun _ => rest) Q) := by
  subst hn
  have hmay : known (F := F) m K ⊢ MayWait (c : Thread nD τ) (csem (some (a, k))) () O :=
    known_mayWait m K c (csem (some (a, k))) hl hO
  unfold owing
  iintro ⟨#Hg, ⟨%W, HO⟩, Hc, Ha⟩ Hk
  iapply (Rounds.wp_wait_rest_token 𝒱₀ ER (rd m) (c : Thread nD τ) none (κ := K (c, some (a, k)))
      hw (Set.mem_univ _) () (O := O) (W := W) (R := 0) (m := 0) (T := ∅)
      (by rw [Nat.zero_add]; exact (expect_x m c a k).symm)) $$ [Hc HO Ha]
  · isplitr; · iapply (known_inv m K (c, some (a, k))); iexact Hg
    isplitl [Hc]; · iexact Hc
    isplitl [HO]; · iexact HO
    isplitr
    · iapply hmay; iexact Hg
    iexact Ha
  iintro ⟨HO, Ha, -, Hp⟩
  ihave Hp := (Entails.of_eq (rest_x m c a k)) $$ Hp
  imod (Rounds.cell_close ER (rd m) (Set.mem_univ (K (c, some (a, k)))) (fun h => h) (R := 0 + 1) (duties_later m (xcell c a k))) $$ [Ha] with Hz
  · isplitr; · iapply (known_inv m K (c, some (a, k))); iexact Hg
    iexact Ha
  iapply Hk
  isplitl [HO]; · iexists _; iexact HO
  isplitl [Hp]; · iexact Hp
  iexact Hz

/-- What a step that only waits takes and gives. -/
abbrev waitPre (c : Dev nD) (a : Fin 6) (k : Fin 31) : sProp 𝕄 :=
  iprop(cred (tallyAt (xcell c a k) () (credit a)) ∗ atPos ER (xcell c a k) 0 ∅ 0)
abbrev waitPost (c : Dev nD) (a : Fin 6) (k : Fin 31) : sProp 𝕄 := iprop(xferPay m c a k ∗ semVal (xcell c a k) 0)

/-- A step that only waits, in the shape a phase takes. -/
theorem step_wait (c : Dev nD) {Q : PUnit → sProp 𝕄} (a : Fin 6) (k : Fin 31) {w : TpuEff nD τ sig (Elt F) Λ₀ .tc PUnit} {n : ℕ} (hn : n = credit a)
    (hw : ∀ X : PUnit → sProp 𝕄, wpE (defs₀ (F := F)) 𝒱₀ (c : Thread nD τ) none Set.univ w X = waitSpec (c : Thread nD τ) Set.univ (.dma (xsem a k)) n X)
    {l : ℕ} (hl : lvOf (csem (some (a, k))) ≤ l) {O : CellTallies nD τ sig Unit} (hO : Above l O) (rest : P F) :
    iprop(waitPre c a k ∗ (known m K ∗ owing c O))
      ⊢ iprop(((waitPost m c a k ∗ (known m K ∗ owing c O)) -∗ Wp c rest Q) -∗ Wp c (.op w fun _ => rest) Q) := by
  iintro ⟨⟨Hc, Ha⟩, #Hg, HO⟩ Hk
  iapply (wait_x m K c a k hn hw hl hO rest) $$ [Hc Ha HO]
  · isplitr; · iexact Hg
    isplitl [HO]; · iexact HO
    isplitl [Hc]; · iexact Hc
    iexact Ha
  iintro ⟨HO, Hp, Hz⟩
  iapply Hk
  isplitl [Hp Hz]
  · isplitl [Hp]; · iexact Hp
    iexact Hz
  isplitr; · iexact Hg
  iexact HO

theorem lvOf_x (a : Fin 6) (k : Fin 31) : lvOf (csem (some (a, k))) = (match a with | 1 => 2 | 3 => 3 | 5 => 4 | _ => 0) := lv_x (0 : Dev nD) a k ()

theorem step_cWait (c : Dev nD) {Q : PUnit → sProp 𝕄} {O : CellTallies nD τ sig Unit} (hO : Above 2 O) (k : Fin 31) (rest : P F) :
    iprop(waitPre c 1 k ∗ (known m K ∗ owing c O))
      ⊢ iprop(((waitPost m c 1 k ∗ (known m K ∗ owing c O)) -∗ Wp c rest Q) -∗ Wp c (cWait cM cc0_scratch6 k rest) Q) := by
  unfold cWait
  rw [semAt_1]
  exact step_wait m K c 1 k (by unfold credit; rfl) (wpE_waitDma2_eq 𝒱₀ (c : Thread nD τ) none Set.univ) (lvOf_x 1 k).le hO rest
theorem step_rWait (c : Dev nD) {Q : PUnit → sProp 𝕄} (k : Fin 31) (rest : P F) :
    iprop(waitPre c 5 k ∗ (known m K ∗ owing c 0))
      ⊢ iprop(((waitPost m c 5 k ∗ (known m K ∗ owing c 0)) -∗ Wp c rest Q)
        -∗ Wp c (rWait ybM (Memref.isWhole_whole _) rbM (Memref.isWhole_whole _) cc0_scratch10 k rest) Q) := by
  unfold rWait
  rw [semAt_5]
  exact step_wait m K c 5 k (by unfold credit; rfl) (wpE_waitDma2_eq 𝒱₀ (c : Thread nD τ) none Set.univ) le_rfl (above_zero _) rest
theorem step_cSent (c : Dev nD) {Q : PUnit → sProp 𝕄} (k : Fin 31) (rest : P F) :
    iprop(waitPre c 0 k ∗ (known m K ∗ owing c 0))
      ⊢ iprop(((waitPost m c 0 k ∗ (known m K ∗ owing c 0)) -∗ Wp c rest Q) -∗ Wp c (cSent cM cc0_scratch5 k rest) Q) := by
  unfold cSent
  rw [semAt_0]
  exact step_wait m K c 0 k (by unfold credit; rfl) (wpE_waitDma2_eq 𝒱₀ (c : Thread nD τ) none Set.univ) le_rfl (above_zero _) rest
theorem step_dSent (c : Dev nD) {Q : PUnit → sProp 𝕄} (k : Fin 31) (rest : P F) :
    iprop(waitPre c 2 k ∗ (known m K ∗ owing c 0))
      ⊢ iprop(((waitPost m c 2 k ∗ (known m K ∗ owing c 0)) -∗ Wp c rest Q)
        -∗ Wp c (dSent sbM (Memref.isWhole_whole _) abM (Memref.isWhole_whole _) cc0_scratch7 k rest) Q) := by
  unfold dSent
  rw [semAt_2]
  exact step_wait m K c 2 k (by unfold credit; rfl) (wpE_waitDma2_eq 𝒱₀ (c : Thread nD τ) none Set.univ) le_rfl (above_zero _) rest
theorem step_rSent (c : Dev nD) {Q : PUnit → sProp 𝕄} (k : Fin 31) (rest : P F) :
    iprop(waitPre c 4 k ∗ (known m K ∗ owing c 0))
      ⊢ iprop(((waitPost m c 4 k ∗ (known m K ∗ owing c 0)) -∗ Wp c rest Q)
        -∗ Wp c (rSent ybM (Memref.isWhole_whole _) rbM (Memref.isWhole_whole _) cc0_scratch9 k rest) Q) := by
  unfold rSent
  rw [semAt_4]
  exact step_wait m K c 4 k (by unfold credit; rfl) (wpE_waitDma2_eq 𝒱₀ (c : Thread nD τ) none Set.univ) le_rfl (above_zero _) rest

/-! ## Copies -/

/-- What a copy takes besides its two buffers: its duties. -/
abbrev sendToks (c c' : Dev nD) (a a' : Fin 6) (k : Fin 31) : sProp 𝕄 :=
  iprop(dutyTok ER (xcell c a k) 0 0 ∗ dutyTok ER (xcell c' a' k) 0 0)

/-- A copy pays its two duties and brings the right to wait for its own leaving. -/
theorem send_x (c c' : Dev nD) {Q : PUnit → sProp 𝕄} (a a' : Fin 6) (k : Fin 31) (hc : credit a = credit a')
    {sp sp' : Space} {s : Shape} {e : EltTy} {src : Memref sig .tc sp s e} {dst : Memref sig .tc sp' s e} {hsc : dst.view.ref.isScScratch = false}
    {qS q : DmaSem sig} (hqS : qS = xsem a k) (hq : q = xsem a' k)
    {hsrc : src.view.WordExact} {hdst : dst.view.WordExact} {hsem : DmaTarget.Typed sp (.dma q) (.remote (Dev.tc c' : Thread nD τ) dst (.dma qS) hsc)}
    {qs : PosShare TreeShare} {fs : Buf (Elt F) (src.view.loc (c : Thread nD τ))} {fd : Buf (Elt F) (dst.view.loc (c' : Thread nD τ))}
    (hN : dst.view.dmaCredit = credit a')
    (h₁ : (src.view.loc (c : Thread nD τ) ↦[src.view.set]{qs} fs : sProp 𝕄) ⊢ xferPay m c a k)
    (h₂ : (dst.view.loc (c' : Thread nD τ) ↦[dst.view.set]{fullShare} (dst.view.write (Elt F) fd (src.view.read (Elt F) fs) Finset.univ) : sProp 𝕄)
      ⊢ xferPay m c' a' k)
    (O : CellTallies nD τ sig Unit) (rest : P F) :
    iprop(known m K ∗ sendToks c c' a a' k ∗ (src.view.loc (c : Thread nD τ) ↦[src.view.set]{qs} fs)
        ∗ (dst.view.loc (c' : Thread nD τ) ↦[dst.view.set]{fullShare} fd) ∗ owing c (O + tallyAt (xcell c' a' k) () (credit a')))
      ⊢ iprop(((cred (tallyAt (xcell c a k) () (credit a)) ∗ owing c O) -∗ Wp c rest Q)
        -∗ Wp c (.op (.enqueueDma src (.remote (Dev.tc c' : Thread nD τ) dst (.dma qS) hsc) (.dma q) hsrc hdst hsem) fun _ => rest) Q) := by
  subst hqS hq
  unfold owing
  iintro ⟨#Hg, ⟨Ht, Ht'⟩, Hs, Hd, ⟨%W, HO⟩⟩ Hk
  iapply (Rounds.wp_send_pointsTo 𝒱₀ ER (rd m) (c : Thread nD τ) none (κ₁ := K (c, some (a, k))) (κ₂ := K (c', some (a', k)))
    (r₁ := 0) (r₂ := 0) (d₁ := 0) (d₂ := 0) (fd := fd) (fs := fs) (q := qs)
    (by rw [duties_x]; exact Finset.mem_singleton_self _) (by rw [duties_x]; exact Finset.mem_singleton_self _)
    () () (credit a') (show dst.view.amount (.dma (xsem a' k)) = credit a' from hN) ((amount_x m c a k 0).trans hc) (amount_x m c' a' k 0) O rfl (W := W)
    (by rw [payload_x]; exact h₁) (by rw [payload_x]; exact h₂)) $$ [Ht Ht' Hs Hd HO]
  · isplitr; · iapply (known_inv m K (c, some (a, k))); iexact Hg
    isplitr; · iapply (known_inv m K (c', some (a', k))); iexact Hg
    isplitl [Hs]; · iexact Hs
    isplitl [Hd]; · iexact Hd
    isplitl [HO]; · iexact HO
    isplitl [Ht]; · iexact Ht
    isplitr; · iapply (known_reached m K (c, some (a, k))); iexact Hg
    isplitl [Ht']; · iexact Ht'
    iapply (known_reached m K (c', some (a', k))); iexact Hg
  rw [hc]
  iintro ⟨Hc, HO⟩
  iapply Hk
  isplitl [Hc]; · iexact Hc
  iexists W; iexact HO

/-- One copy of the counts. -/
theorem step_c (c : Dev nD) {Q : PUnit → sProp 𝕄} (B : CellTallies nD τ sig Unit) (k : Fin 31) (js : List (Fin 31)) (rest : P F) :
    iprop((sendToks c (nb c k) 0 1 k ∗ cPts c 0 (lent k) (CALL m c) ∗ ∃ f, cPts (nb c k) k.succ fullShare f) ∗ (known m K ∗ owing c (B + OC c (k :: js))))
      ⊢ iprop(((cred (tallyAt (xcell c 0 k) () (credit 0)) ∗ (known m K ∗ owing c (B + OC c js))) -∗ Wp c rest Q)
        -∗ Wp c (cStep cM cc0_scratch5 cc0_scratch6 (k, nb c k) rest) Q) := by
  unfold cStep
  rw [show OC c (k :: js) = tallyAt (xcell (nb c k) 1 k) () (credit 1) + OC c js from rfl, peel]
  unfold cPts
  iintro ⟨⟨Ht, Hs, ⟨%f, Hd⟩⟩, #Hg, HO⟩ Hk
  iapply (send_x m K c (nb c k) 0 1 k rfl (semAt_0 k) (semAt_1 k) (by unfold credit; rfl)
    (by show _ ⊢ cPts c 0 (lent k) (CALL m c); unfold cPts; exact .rfl)
    (Entails.of_eq (land_c m c k f)) (B + OC c js) rest) $$ [Ht Hs Hd HO]
  · isplitr; · iexact Hg
    isplitl [Ht]; · iexact Ht
    isplitl [Hs]; · iexact Hs
    isplitl [Hd]; · iexact Hd
    iexact HO
  iintro ⟨Hc, HO⟩
  iapply Hk
  isplitl [Hc]; · iexact Hc
  isplitr; · iexact Hg
  iexact HO

/-- One copy of the gathered rows. -/
theorem step_d (c : Dev nD) {Q : PUnit → sProp 𝕄} (B : CellTallies nD τ sig Unit) (k : Fin 31) (js : List (Fin 31)) (rest : P F) :
    iprop((sendToks c (nb c k) 2 3 k ∗ sPts c k.succ (SB m c) ∗ ∃ f, aPts (nb c k) k.succ f) ∗ (known m K ∗ owing c (B + OD c (k :: js))))
      ⊢ iprop(((cred (tallyAt (xcell c 2 k) () (credit 2)) ∗ (known m K ∗ owing c (B + OD c js))) -∗ Wp c rest Q)
        -∗ Wp c (dStep sbM (Memref.isWhole_whole _) abM (Memref.isWhole_whole _) cc0_scratch7 cc0_scratch8 (k, nb c k) rest) Q) := by
  unfold dStep
  rw [show OD c (k :: js) = tallyAt (xcell (nb c k) 3 k) () (credit 3) + OD c js from rfl, peel]
  unfold sPts aPts
  iintro ⟨⟨Ht, Hs, ⟨%f, Hd⟩⟩, #Hg, HO⟩ Hk
  iapply (send_x m K c (nb c k) 2 3 k rfl (semAt_2 k) (semAt_3 k) (by unfold credit; rfl)
    (by show _ ⊢ sPts c k.succ (SB m c); unfold sPts; exact .rfl)
    (Entails.of_eq (land_a m c k f)) (B + OD c js) rest) $$ [Ht Hs Hd HO]
  · isplitr; · iexact Hg
    isplitl [Ht]; · iexact Ht
    isplitl [Hs]; · iexact Hs
    isplitl [Hd]; · iexact Hd
    iexact HO
  iintro ⟨Hc, HO⟩
  iapply Hk
  isplitl [Hc]; · iexact Hc
  isplitr; · iexact Hg
  iexact HO

/-! ## A region of the compute -/

/-- The staged weights, held whole. -/
def wPts (c : Dev nD) : sProp 𝕄 := ((c : Thread nD τ).loc cc0_stg2_0) ↦{fullShare} ws m c

/-- One half of a region: from any contents of its chunk of results to those contents with its half stored. -/
theorem step_half (c : Dev nD) {Q : PUnit → sProp 𝕄} (k : Fin 32) (s : Fin 2) (f) (rest : P F) :
    iprop(aPts c k (AB m c) ∗ wPts m c ∗ yPts c k f)
      ⊢ iprop(((aPts c k (AB m c) ∗ wPts m c
          ∗ yPts c k ((ybM.access (hYRect k s)).write (Elt F) f (k0_pay15 (aRows m c (hidx k s)) (wOf m c s)) Finset.univ)) -∗ Wp c rest Q)
        -∗ Wp c (half wM abM ybM (Memref.isWhole_whole _) k s rest) Q) := by
  unfold half wPts aPts yPts
  iintro ⟨Ha, Hw, Hy⟩ Hk
  iapply (wp_load 𝒱₀ (c : Thread nD τ) none Set.univ (m := abM) (hA_subset k s)) $$ Ha; iintro Ha
  rw [read_hA]
  iapply (wp_load 𝒱₀ (c : Thread nD τ) none Set.univ (m := wM) (Finset.subset_univ _)) $$ Hw; iintro Hw
  rw [read_w]
  iapply (wp_load 𝒱₀ (c : Thread nD τ) none Set.univ (m := ybM) (hY_subset' k s)) $$ Hy; iintro Hy
  iapply (wp_store 𝒱₀ (c : Thread nD τ) none Set.univ (m := ybM) (r := hYRect k s) (Mk := Finset.univ) (hY_subset k s)) $$ Hy; iintro Hy
  iapply Hk
  isplitl [Ha]; · iexact Ha
  isplitl [Hw]; · iexact Hw
  iexact Hy

/-- A region fills its chunk of results. -/
theorem step_region (c : Dev nD) {Q : PUnit → sProp 𝕄} (k : Fin 32) (rest : P F) :
    iprop(aPts c k (AB m c) ∗ wPts m c ∗ ∃ f, yPts c k f)
      ⊢ iprop(((aPts c k (AB m c) ∗ wPts m c ∗ yPts c k (YB m c)) -∗ Wp c rest Q)
        -∗ Wp c (region wM abM ybM (Memref.isWhole_whole _) k rest) Q) := by
  unfold region
  iintro ⟨Ha, Hw, ⟨%f, Hy⟩⟩ Hk
  iapply (step_half m c k 0 f _) $$ [Ha Hw Hy]
  · isplitl [Ha]; · iexact Ha
    isplitl [Hw]; · iexact Hw
    iexact Hy
  iintro ⟨Ha, Hw, Hy⟩
  iapply (step_half m c k 1 _ rest) $$ [Ha Hw Hy]
  · isplitl [Ha]; · iexact Ha
    isplitl [Hw]; · iexact Hw
    iexact Hy
  iintro ⟨Ha, Hw, Hy⟩
  iapply Hk
  isplitl [Ha]; · iexact Ha
  isplitl [Hw]; · iexact Hw
  ihave Hy := (show (yPts c k _ : sProp 𝕄) ⊢ yPts c k (YB m c) from (by
    refine Entails.of_eq ?_; rw [← store_y m c k f]; rfl)) $$ Hy
  iexact Hy

/-- Wait for a chunk of rows, compute on it, copy the results back. -/
theorem step_r (c : Dev nD) {Q : PUnit → sProp 𝕄} (B : CellTallies nD τ sig Unit) (hB : Above 3 B) (k : Fin 31) (js : List (Fin 31)) (rest : P F) :
    iprop((waitPre c 3 k ∗ sendToks c (pv c k) 4 5 k ∗ (∃ f, yPts c k.succ f) ∗ ∃ f, rPts (pv c k) k.succ f)
        ∗ (known m K ∗ wPts m c ∗ owing c (B + OR c (k :: js))))
      ⊢ iprop((((cred (tallyAt (xcell c 4 k) () (credit 4)) ∗ aPts c k.succ (AB m c) ∗ semVal (xcell c 3 k) 0)
            ∗ (known m K ∗ wPts m c ∗ owing c (B + OR c js))) -∗ Wp c rest Q)
        -∗ Wp c (rStep wM sbM (Memref.isWhole_whole _) abM (Memref.isWhole_whole _) ybM (Memref.isWhole_whole _) rbM (Memref.isWhole_whole _)
            cc0_scratch8 cc0_scratch9 cc0_scratch10 (k, pv c k) rest) Q) := by
  unfold rStep
  rw [show semAt cc0_scratch8 (k, pv c k).1 = xsem 3 k from semAt_3 k]
  iintro ⟨⟨⟨Hcr, Hat⟩, Ht, Hy, ⟨%f, Hd⟩⟩, #Hg, Hw, HO⟩ Hk
  iapply (wait_x m K c 3 k (by unfold credit; rfl) (wpE_waitDma2_eq 𝒱₀ (c : Thread nD τ) none Set.univ) (l := 3) (lvOf_x 3 k).le
    (above_add hB (above_OR c (k :: js) (by decide))) _) $$ [Hcr Hat HO]
  · isplitr; · iexact Hg
    isplitl [HO]; · iexact HO
    isplitl [Hcr]; · iexact Hcr
    iexact Hat
  iintro ⟨HO, Ha, Hz⟩
  ihave Ha := (show xferPay m c 3 k ⊢ aPts c k.succ (AB m c) from .rfl) $$ Ha
  iapply (step_region m c k.succ _) $$ [Ha Hw Hy]
  · isplitl [Ha]; · iexact Ha
    isplitl [Hw]; · iexact Hw
    iexact Hy
  iintro ⟨Ha, Hw, Hy⟩
  rw [show OR c (k :: js) = tallyAt (xcell (pv c k) 5 k) () (credit 5) + OR c js from rfl, peel]
  unfold yPts rPts
  iapply (send_x m K c (pv c k) 4 5 k rfl (semAt_4 k) (semAt_5 k) (by unfold credit; rfl)
    (by show _ ⊢ yPts c k.succ (YB m c); unfold yPts; exact .rfl)
    (Entails.of_eq (land_r m c k f)) (B + OR c js) rest) $$ [Ht Hy Hd HO]
  · isplitr; · iexact Hg
    isplitl [Ht]; · iexact Ht
    isplitl [Hy]; · iexact Hy
    isplitl [Hd]; · iexact Hd
    iexact HO
  iintro ⟨Hc, HO⟩
  iapply Hk
  isplitl [Hc Ha Hz]
  · isplitl [Hc]; · iexact Hc
    isplitl [Ha]; · iexact Ha
    iexact Hz
  isplitr; · iexact Hg
  isplitl [Hw]; · iexact Hw
  iexact HO

end Cert.KernelIdeal.Proto

end
-- ==== Proof.Body.lean ====
/- The whole body of one device, phase by phase, from what the launch hands it to the result. -/
module

public import proofs.«01_k».proof.Proof.Steps

@[expose] public section

noncomputable section

namespace Cert.KernelIdeal.Proto

open Cert.KernelIdeal Cert.KernelIdeal.Gen Cert.KernelIdeal.Tidy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- Over all 31 offsets. -/
abbrev all (Φ : Fin 31 → sProp 𝕄) : sProp 𝕄 := bigSep Finset.univ Φ

omit [FloatOps F] in
theorem all_sep (Φ Ψ : Fin 31 → sProp 𝕄) : (all fun k => iprop(Φ k ∗ Ψ k)) = iprop(all Φ ∗ all Ψ) := bigSep_sep _ Φ Ψ

/-! ## The phases of copies and waits -/

/-- A phase of waits. -/
theorem phase_wait (c : Dev nD) {Q : PUnit → sProp 𝕄} (a : Fin 6) {O : CellTallies nD τ sig Unit} (step : Fin 31 → P F → P F)
    (h : ∀ k rest, iprop(waitPre c a k ∗ (known m K ∗ owing c O)) ⊢ iprop(((waitPost m c a k ∗ (known m K ∗ owing c O)) -∗ Wp c rest Q) -∗ Wp c (step k rest) Q))
    (rest : P F) :
    iprop((all fun k => waitPre c a k) ∗ (known m K ∗ owing c O))
      ⊢ iprop((((all fun k => xferPay m c a k) ∗ (all fun k => semVal (xcell c a k) 0)) ∗ (known m K ∗ owing c O) -∗ Wp c rest Q)
        -∗ Wp c (offs.foldr step rest) Q) := by
  rw [← all_sep]
  exact fold_offs c _ _ (fun _ => iprop(known m K ∗ owing c O)) step (fun j js rest => h j rest) rest

/-- All the barrier's signals. -/
theorem phase_sig (c : Dev nD) {Q : PUnit → sProp 𝕄} (B : CellTallies nD τ sig Unit) (rest : P F) :
    iprop(((all fun k => dutyTok ER (barCell (nb c k)) 0 k) ∗ all fun k => barPay (nb c k) k) ∗ (known m K ∗ owing c (B + OB c offs)))
      ⊢ iprop(((known m K ∗ owing c B) -∗ Wp c rest Q) -∗ Wp c ((tabB c).foldr sigStep rest) Q) := by
  rw [← all_sep, tabB_eq, List.foldr_map]
  iintro H Hk
  iapply (fold_offs c _ (fun _ => iprop(emp)) (fun js => iprop(known m K ∗ owing c (B + OB c js))) _ (fun j js rest => step_sig m K c B j js rest) rest) $$ H
  iintro ⟨-, Hg, HO⟩
  iapply Hk
  isplitl [Hg]; · iexact Hg
  rw [show OB c [] = 0 from rfl, add_zero]
  iexact HO

/-- All the copies of counts. -/
theorem phase_c (c : Dev nD) {Q : PUnit → sProp 𝕄} (B : CellTallies nD τ sig Unit) (rest : P F) :
    iprop(((all fun k => sendToks c (nb c k) 0 1 k) ∗ (all fun k => cPts c 0 (lent k) (CALL m c)) ∗ all fun k => iprop(∃ f, cPts (nb c k) k.succ fullShare f))
        ∗ (known m K ∗ owing c (B + OC c offs)))
      ⊢ iprop((((all fun k => cred (tallyAt (xcell c 0 k) () (credit 0))) ∗ (known m K ∗ owing c B)) -∗ Wp c rest Q)
        -∗ Wp c ((tabC c).foldr (cStep cM cc0_scratch5 cc0_scratch6) rest) Q) := by
  rw [← all_sep, ← all_sep, tabC_eq, List.foldr_map]
  iintro H Hk
  iapply (fold_offs c _ (fun k => cred (tallyAt (xcell c 0 k) () (credit 0))) (fun js => iprop(known m K ∗ owing c (B + OC c js))) _
    (fun j js rest => step_c m K c B j js rest) rest) $$ H
  iintro ⟨Hc, Hg, HO⟩
  iapply Hk
  isplitl [Hc]; · iexact Hc
  isplitl [Hg]; · iexact Hg
  rw [show OC c [] = 0 from rfl, add_zero]
  iexact HO

/-- All the copies of gathered rows. -/
theorem phase_d (c : Dev nD) {Q : PUnit → sProp 𝕄} (B : CellTallies nD τ sig Unit) (rest : P F) :
    iprop(((all fun k => sendToks c (nb c k) 2 3 k) ∗ (all fun k => sPts c k.succ (SB m c)) ∗ all fun k => iprop(∃ f, aPts (nb c k) k.succ f))
        ∗ (known m K ∗ owing c (B + OD c offs)))
      ⊢ iprop((((all fun k => cred (tallyAt (xcell c 2 k) () (credit 2))) ∗ (known m K ∗ owing c B)) -∗ Wp c rest Q)
        -∗ Wp c ((tabD c).foldr (dStep sbM (Memref.isWhole_whole _) abM (Memref.isWhole_whole _) cc0_scratch7 cc0_scratch8) rest) Q) := by
  rw [← all_sep, ← all_sep, tabD_eq, List.foldr_map]
  iintro H Hk
  iapply (fold_offs c _ (fun k => cred (tallyAt (xcell c 2 k) () (credit 2))) (fun js => iprop(known m K ∗ owing c (B + OD c js))) _
    (fun j js rest => step_d m K c B j js rest) rest) $$ H
  iintro ⟨Hc, Hg, HO⟩
  iapply Hk
  isplitl [Hc]; · iexact Hc
  isplitl [Hg]; · iexact Hg
  rw [show OD c [] = 0 from rfl, add_zero]
  iexact HO

/-- All the regions of the other devices' rows. -/
theorem phase_r (c : Dev nD) {Q : PUnit → sProp 𝕄} (rest : P F) :
    iprop(((all fun k => waitPre c 3 k) ∗ (all fun k => sendToks c (pv c k) 4 5 k) ∗ (all fun k => iprop(∃ f, yPts c k.succ f)) ∗ all fun k => iprop(∃ f, rPts (pv c k) k.succ f))
        ∗ (known m K ∗ wPts m c ∗ owing c (0 + OR c offs)))
      ⊢ iprop(((((all fun k => cred (tallyAt (xcell c 4 k) () (credit 4))) ∗ (all fun k => aPts c k.succ (AB m c)) ∗ all fun k => semVal (xcell c 3 k) 0)
            ∗ (known m K ∗ wPts m c ∗ owing c 0)) -∗ Wp c rest Q)
        -∗ Wp c ((tabR c).foldr (rStep wM sbM (Memref.isWhole_whole _) abM (Memref.isWhole_whole _) ybM (Memref.isWhole_whole _) rbM (Memref.isWhole_whole _)
            cc0_scratch8 cc0_scratch9 cc0_scratch10) rest) Q) := by
  rw [← all_sep, ← all_sep, ← all_sep, ← all_sep, ← all_sep, tabR_eq, List.foldr_map]
  iintro H Hk
  iapply (fold_offs c _ _ (fun js => iprop(known m K ∗ wPts m c ∗ owing c (0 + OR c js))) _
    (fun j js rest => step_r m K c 0 (above_zero _) j js rest) rest) $$ H
  iintro ⟨Hc, Hg, Hw, HO⟩
  iapply Hk
  isplitl [Hc]; · iexact Hc
  isplitl [Hg]; · iexact Hg
  isplitl [Hw]; · iexact Hw
  rw [show OR c [] = 0 from rfl, add_zero]
  iexact HO

/-! ## The end -/

theorem tail9_run (c : Dev nD) {Q : PUnit → sProp 𝕄} :
    iprop((all fun k => waitPre c 0 k) ∗ (all fun k => waitPre c 2 k) ∗ (all fun k => waitPre c 4 k) ∗ known m K ∗ owing c 0)
      ⊢ iprop(((((all fun k => xferPay m c 0 k) ∗ (all fun k => semVal (xcell c 0 k) 0)) ∗ ((all fun k => xferPay m c 2 k) ∗ (all fun k => semVal (xcell c 2 k) 0))
          ∗ ((all fun k => xferPay m c 4 k) ∗ (all fun k => semVal (xcell c 4 k) 0)) ∗ owing c 0) -∗ Q ⟨⟩)
        -∗ Wp c (tail9 sbM (Memref.isWhole_whole _) abM (Memref.isWhole_whole _) ybM (Memref.isWhole_whole _) rbM (Memref.isWhole_whole _) cM
            cc0_scratch5 cc0_scratch7 cc0_scratch9) Q) := by
  unfold tail9
  iintro ⟨H0, H2, H4, Hg, HO⟩ Hk
  iapply (phase_wait m K c 0 (O := 0) _ (fun k rest => step_cSent m K c k rest) _) $$ [H0 Hg HO]
  · isplitl [H0]; · iexact H0
    isplitl [Hg]; · iexact Hg
    iexact HO
  iintro ⟨H0, Hg, HO⟩
  iapply (phase_wait m K c 2 (O := 0) _ (fun k rest => step_dSent m K c k rest) _) $$ [H2 Hg HO]
  · isplitl [H2]; · iexact H2
    isplitl [Hg]; · iexact Hg
    iexact HO
  iintro ⟨H2, Hg, HO⟩
  iapply (phase_wait m K c 4 (O := 0) _ (fun k rest => step_rSent m K c k rest) _) $$ [H4 Hg HO]
  · isplitl [H4]; · iexact H4
    isplitl [Hg]; · iexact Hg
    iexact HO
  iintro ⟨H4, Hg, HO⟩
  unfold Wp; rw [wp_ret]; imodintro
  iapply Hk
  isplitl [H0]; · iexact H0
  isplitl [H2]; · iexact H2
  isplitl [H4]; · iexact H4
  iexact HO

abbrev outM : Memref sig .tc .vmem S512x512 .f32 := Memref.whole cc0_stg3_0
abbrev outR : Rect S512x512 := Rect.unit (s := S512x512) ![0, 0] S512x512.size inb_S512x512_S512x512_0_0
abbrev sbR : Rect S2048x256 := Rect.unit (s := S2048x256) ![0, 0] S2048x256.size inb_S2048x256_S2048x256_0_0
abbrev xM : Memref sig .tc .vmem S512x256 .bf16 := Memref.whole cc0_stg0_0
abbrev eM : Memref sig .tc .vmem S512x1 .i32 := Memref.whole cc0_stg1_0

theorem hz2 : (![0, 0] : Fin 2 → Nat) = fun _ => 0 := funext fun a => by fin_cases a <;> rfl
theorem hz3 : (![0, 0, 0] : Fin 3 → Nat) = fun _ => 0 := funext fun a => by fin_cases a <;> rfl

omit [FloatOps F] in
theorem write_out (f w) : (outM.access outR).write (Elt F) f w Finset.univ = w :=
  Memref.write_access_unit_zero_univ (Elt F) cc0_stg3_0 hz2 inb_S512x512_S512x512_0_0 f w
omit [FloatOps F] in
theorem write_sb (f w) : (sbM.access sbR).write (Elt F) f w Finset.univ = w :=
  Memref.write_access_unit_zero_univ (Elt F) cc0_scratch0 hz2 inb_S2048x256_S2048x256_0_0 f w

/-- The result's staging buffer holding the kernel's result. -/
def outPts (c : Dev nD) : sProp 𝕄 := ((c : Thread nD τ).loc cc0_stg3_0) ↦{fullShare} OUT m c

/-- The end of the body: every semaphore at zero, and all that was lent back. -/
def ended (c : Dev nD) : sProp 𝕄 :=
  iprop(((all fun k => xferPay m c 0 k) ∗ (all fun k => semVal (xcell c 0 k) 0)) ∗ ((all fun k => xferPay m c 2 k) ∗ (all fun k => semVal (xcell c 2 k) 0))
          ∗ ((all fun k => xferPay m c 4 k) ∗ (all fun k => semVal (xcell c 4 k) 0)) ∗ owing c 0)

theorem tail8_run (c : Dev nD) {Q : PUnit → sProp 𝕄} :
    iprop((all fun k => waitPre c 5 k) ∗ rPts c 0 (RB m c) ∗ (∃ f, ((c : Thread nD τ).loc cc0_stg3_0) ↦{fullShare} f)
        ∗ (all fun k => waitPre c 0 k) ∗ (all fun k => waitPre c 2 k) ∗ (all fun k => waitPre c 4 k) ∗ known m K ∗ owing c 0)
      ⊢ iprop((((((c : Thread nD τ).loc cc0_scratch3) ↦{fullShare} RB m c) ∗ (all fun k => semVal (xcell c 5 k) 0) ∗ outPts m c ∗ ended m c) -∗ Q ⟨⟩)
        -∗ Wp c (tail8 outM sbM (Memref.isWhole_whole _) abM (Memref.isWhole_whole _) ybM (Memref.isWhole_whole _) rbM (Memref.isWhole_whole _) cM
            cc0_scratch5 cc0_scratch7 cc0_scratch9 cc0_scratch10 (k0_pay12 (KEEP m c) (PLACE (F := F) m c))) Q) := by
  unfold tail8
  iintro ⟨H5, Hr, ⟨%f, Hout⟩, H0, H2, H4, Hg, HO⟩ Hk
  iapply (phase_wait m K c 5 (O := 0) _ (fun k rest => step_rWait m K c k rest) _) $$ [H5 Hg HO]
  · isplitl [H5]; · iexact H5
    isplitl [Hg]; · iexact Hg
    iexact HO
  iintro ⟨⟨Hrs, Hz⟩, Hg, HO⟩
  ihave Hr := (Entails.of_eq (r_pieces c (RB m c)).symm) $$ [Hr Hrs]
  · isplitl [Hr]; · iexact Hr
    iexact Hrs
  iapply (wp_load 𝒱₀ (c : Thread nD τ) none Set.univ (m := rbM) (Finset.subset_univ _)) $$ Hr; iintro Hr
  rw [show rbM.view.readAt (Elt F) _ (RB m c) = RB m c from Memref.readAt_unit_zero (Elt F) cc0_scratch3 hz2 _ _]
  iapply (wp_load 𝒱₀ (c : Thread nD τ) none Set.univ (m := outM) (Finset.subset_univ _)) $$ Hout; iintro Hout
  iapply (wp_store 𝒱₀ (c : Thread nD τ) none Set.univ (m := outM) (r := outR) (Mk := Finset.univ) (Finset.subset_univ _)) $$ Hout; iintro Hout
  ihave Hout := (show _ ⊢ outPts m c from Entails.of_eq (by
    rw [write_out]; rfl)) $$ Hout
  iapply (tail9_run m K c) $$ [H0 H2 H4 Hg HO]
  · isplitl [H0]; · iexact H0
    isplitl [H2]; · iexact H2
    isplitl [H4]; · iexact H4
    isplitl [Hg]; · iexact Hg
    iexact HO
  iintro Hend
  iapply Hk
  isplitl [Hr]; · iexact Hr
  isplitl [Hz]; · iexact Hz
  isplitl [Hout]; · iexact Hout
  unfold ended; iexact Hend

/-! ## The device's own row and chunks -/

omit [FloatOps F] in
theorem own_c_sub : cM.view.setOn cRect.toLoadRect.set ⊆ (row cM 0).view.set := by
  rw [← c_access, show (cM.access cRect).set = cRect.set from View.set_slice_whole _ _]
  intro i hi; obtain ⟨a, ha, rfl⟩ := Finset.mem_map.mp hi; exact ha
omit [FloatOps F] in
theorem own_a_sub : abM.view.setOn aRect.toLoadRect.set ⊆ (chA abM 0).view.set := by
  rw [← a_access, show (abM.access aRect).set = aRect.set from View.set_slice_whole _ _]
  intro i hi; obtain ⟨a, ha, rfl⟩ := Finset.mem_map.mp hi; exact ha
omit [FloatOps F] in
theorem own_y_sub : ybM.view.setOn yRect.toLoadRect.set ⊆ (chY ybM 0).view.set := by
  rw [← y_access, show (ybM.access yRect).set = yRect.set from View.set_slice_whole _ _]
  intro i hi; obtain ⟨a, ha, rfl⟩ := Finset.mem_map.mp hi; exact ha
omit [FloatOps F] in
theorem own_r_sub : rbM.view.setOn yRect.toLoadRect.set ⊆ (chY rbM 0).view.set := by
  rw [← r_access, show (rbM.access yRect).set = yRect.set from View.set_slice_whole _ _]
  intro i hi; obtain ⟨a, ha, rfl⟩ := Finset.mem_map.mp hi; exact ha

/-- The device's own chunk of results, copied into its chunk 0. -/
theorem own_r (c : Dev nD) {Q : PUnit → sProp 𝕄} (rest : P F) :
    iprop(yPts c 0 (YB m c) ∗ ∃ f, rPts c 0 f)
      ⊢ iprop(((yPts c 0 (YB m c) ∗ rPts c 0 (RB m c)) -∗ Wp c rest Q)
        -∗ Wp c (.op (.load ybM yRect.toLoadRect (View.loadsAt_vmem h_S64x512)) fun y =>
          .op (.load rbM yRect.toLoadRect (View.loadsAt_vmem h_S64x512)) fun _ =>
          .op (.store rbM yRect (k0_pay18 y) Finset.univ
            (View.stores_vmem h_S64x512 ((Memref.isWhole_whole cc0_scratch3).storeExact_slice rfl _ packedbf16_S2048x512_S64x512_0_0) (fun _ => rfl)) (.inl rfl)) fun _ => rest) Q) := by
  unfold yPts
  iintro ⟨Hy, ⟨%fr, Hr⟩⟩ Hk
  unfold rPts
  iapply (wp_load 𝒱₀ (c : Thread nD τ) none Set.univ (m := ybM) own_y_sub) $$ Hy; iintro Hy
  iapply (wp_load 𝒱₀ (c : Thread nD τ) none Set.univ (m := rbM) own_r_sub) $$ Hr; iintro Hr
  iapply (wp_store 𝒱₀ (c : Thread nD τ) none Set.univ (m := rbM) (r := yRect) (Mk := Finset.univ) (show _ ⊆ (chY rbM 0).view.set from r_access.subset)) $$ Hr; iintro Hr
  iapply Hk
  isplitl [Hy]; · iexact Hy
  rw [show ybM.view.readAt (Elt F) yRect.toLoadRect (YB m c) = (ybM.access yRect).read (Elt F) (YB m c) from rfl]
  ihave Hr := (Entails.of_eq (store_r m c fr)) $$ Hr
  unfold rPts; iexact Hr

/-- The device's own gathered rows, copied into its chunk 0. -/
theorem own_a (c : Dev nD) {Q : PUnit → sProp 𝕄} (rest : P F) :
    iprop((((c : Thread nD τ).loc cc0_scratch0) ↦{fullShare} SB m c) ∗ ∃ f, aPts c 0 f)
      ⊢ iprop((((((c : Thread nD τ).loc cc0_scratch0) ↦{fullShare} SB m c) ∗ aPts c 0 (AB m c)) -∗ Wp c rest Q)
        -∗ Wp c (.op (.load sbM aRect.toLoadRect (View.loadsAt_vmem h_S64x256)) fun b =>
          .op (.load abM aRect.toLoadRect (View.loadsAt_vmem h_S64x256)) fun _ =>
          .op (.store abM aRect (k0_pay14 b) Finset.univ
            (View.stores_vmem h_S64x256 ((Memref.isWhole_whole cc0_scratch1).storeExact_slice rfl _ packedbf16_S2048x256_S64x256_0_0) (fun _ => rfl)) (.inl rfl)) fun _ => rest) Q) := by
  unfold aPts
  iintro ⟨Hs, ⟨%fr, Ha⟩⟩ Hk
  iapply (wp_load 𝒱₀ (c : Thread nD τ) none Set.univ (m := sbM) (Finset.subset_univ _)) $$ Hs; iintro Hs
  iapply (wp_load 𝒱₀ (c : Thread nD τ) none Set.univ (m := abM) own_a_sub) $$ Ha; iintro Ha
  iapply (wp_store 𝒱₀ (c : Thread nD τ) none Set.univ (m := abM) (r := aRect) (Mk := Finset.univ) (show _ ⊆ (chA abM 0).view.set from a_access.subset)) $$ Ha; iintro Ha
  iapply Hk
  isplitl [Hs]; · iexact Hs
  rw [show sbM.view.readAt (Elt F) aRect.toLoadRect (SB m c) = (sbM.access aRect).read (Elt F) (SB m c) from rfl]
  ihave Ha := (Entails.of_eq (store_a m c fr)) $$ Ha
  unfold aPts; iexact Ha

/-- The staged tokens. -/
def xPts (c : Dev nD) : sProp 𝕄 := ((c : Thread nD τ).loc cc0_stg0_0) ↦{fullShare} xs m c
/-- The staged experts of the tokens. -/
def ePts (c : Dev nD) : sProp 𝕄 := ((c : Thread nD τ).loc cc0_stg1_0) ↦{fullShare} es m c

/-- The gathered rows, stored from the staged tokens. -/
theorem own_s (c : Dev nD) {Q : PUnit → sProp 𝕄} (rest : P F) :
    iprop(xPts m c ∗ ∃ f, ((c : Thread nD τ).loc cc0_scratch0) ↦{fullShare} f)
      ⊢ iprop(((xPts m c ∗ (((c : Thread nD τ).loc cc0_scratch0) ↦{fullShare} SB m c)) -∗ Wp c rest Q)
        -∗ Wp c (.op (.load xM (Rect.unit (s := S512x256) ![0, 0] S512x256.size inb_S512x256_S512x256_0_0).toLoadRect (View.loadsAt_vmem h_S512x256)) fun x =>
          .op (.load sbM sbR.toLoadRect (View.loadsAt_vmem h_S2048x256)) fun _ =>
          .op (.store sbM sbR (k0_pay13 (KEEP m c) (PLACE (F := F) m c) x) Finset.univ
            (View.stores_vmem h_S2048x256 ((Memref.isWhole_whole cc0_scratch0).storeExact_slice rfl _ packedbf16_S2048x256_S2048x256_0_0) (fun _ => rfl)) (.inl rfl)) fun _ => rest) Q) := by
  unfold xPts
  iintro ⟨Hx, ⟨%f, Hs⟩⟩ Hk
  iapply (wp_load 𝒱₀ (c : Thread nD τ) none Set.univ (m := xM) (Finset.subset_univ _)) $$ Hx; iintro Hx
  rw [show xM.view.readAt (Elt F) _ (xs m c) = xs m c from Memref.readAt_unit_zero (Elt F) cc0_stg0_0 hz2 _ _]
  iapply (wp_load 𝒱₀ (c : Thread nD τ) none Set.univ (m := sbM) (Finset.subset_univ _)) $$ Hs; iintro Hs
  iapply (wp_store 𝒱₀ (c : Thread nD τ) none Set.univ (m := sbM) (r := sbR) (Mk := Finset.univ) (Finset.subset_univ _)) $$ Hs; iintro Hs
  ihave Hs := (show _ ⊢ (((c : Thread nD τ).loc cc0_scratch0) ↦{fullShare} SB m c : sProp 𝕄) from Entails.of_eq (by
    rw [write_sb]; rfl)) $$ Hs
  iapply Hk
  isplitl [Hx]; · iexact Hx
  iexact Hs

/-- The device's own counts, stored from the staged experts. -/
theorem own_c (c : Dev nD) {Q : PUnit → sProp 𝕄} (rest : Vec F S512x1 .i32 → P F) :
    iprop(ePts m c ∗ ∃ f, cPts c 0 fullShare f)
      ⊢ iprop(((ePts m c ∗ cPts c 0 fullShare (CALL m c)) -∗ Wp c (rest (es m c)) Q)
        -∗ Wp c (.op (.load eM (Rect.unit (s := S512x1) ![0, 0] S512x1.size inb_S512x1_S512x1_0_0).toLoadRect (View.loadsAt_vmem h_S512x1)) fun e =>
          .op (.load cM cRect.toLoadRect (View.loadsAt_vmem h_S1x1x64)) fun _ =>
          .op (.store cM cRect (k0_pay3 e) Finset.univ (View.stores_vmem_bits_univ h_S1x1x64 rfl) (.inl rfl)) fun _ => rest e) Q) := by
  unfold ePts cPts
  iintro ⟨He, ⟨%f, Hc⟩⟩ Hk
  iapply (wp_load 𝒱₀ (c : Thread nD τ) none Set.univ (m := eM) (Finset.subset_univ _)) $$ He; iintro He
  rw [show eM.view.readAt (Elt F) _ (es m c) = es m c from Memref.readAt_unit_zero (Elt F) cc0_stg1_0 hz2 _ _]
  iapply (wp_load 𝒱₀ (c : Thread nD τ) none Set.univ (m := cM) own_c_sub) $$ Hc; iintro Hc
  iapply (wp_store 𝒱₀ (c : Thread nD τ) none Set.univ (m := cM) (r := cRect) (Mk := Finset.univ) (show _ ⊆ (row cM 0).view.set from c_access.subset)) $$ Hc; iintro Hc
  iapply Hk
  isplitl [He]; · iexact He
  ihave Hc := (Entails.of_eq (store_c m c f)) $$ Hc
  unfold cPts; iexact Hc

theorem tail6_run (c : Dev nD) {Q : PUnit → sProp 𝕄} :
    iprop(aPts c 0 (AB m c) ∗ wPts m c ∗ (∃ f, yPts c 0 f) ∗ (∃ f, rPts c 0 f)
        ∗ ((all fun k => waitPre c 3 k) ∗ (all fun k => sendToks c (pv c k) 4 5 k) ∗ (all fun k => iprop(∃ f, yPts c k.succ f)) ∗ all fun k => iprop(∃ f, rPts (pv c k) k.succ f))
        ∗ (all fun k => waitPre c 5 k) ∗ (∃ f, ((c : Thread nD τ).loc cc0_stg3_0) ↦{fullShare} f)
        ∗ (all fun k => waitPre c 0 k) ∗ (all fun k => waitPre c 2 k) ∗ (all fun k => atPos ER (xcell c 4 k) 0 ∅ 0) ∗ known m K ∗ owing c (0 + OR c offs))
      ⊢ iprop(((aPts c 0 (AB m c) ∗ (all fun k => aPts c k.succ (AB m c)) ∗ wPts m c ∗ yPts c 0 (YB m c) ∗ (all fun k => semVal (xcell c 3 k) 0)
            ∗ (((c : Thread nD τ).loc cc0_scratch3) ↦{fullShare} RB m c) ∗ (all fun k => semVal (xcell c 5 k) 0) ∗ outPts m c ∗ ended m c) -∗ Q ⟨⟩)
        -∗ Wp c (tail6 wM outM sbM (Memref.isWhole_whole _) abM (Memref.isWhole_whole _) ybM (Memref.isWhole_whole _) rbM (Memref.isWhole_whole _) cM
            cc0_scratch5 cc0_scratch7 cc0_scratch8 cc0_scratch9 cc0_scratch10 (tabR c) (k0_pay12 (KEEP m c) (PLACE (F := F) m c))) Q) := by
  unfold tail6
  iintro ⟨Ha, Hw, Hy, Hr, HR, H5, Hout, H0, H2, Hp4, Hg, HO⟩ Hk
  iapply (step_region m c 0 _) $$ [Ha Hw Hy]
  · isplitl [Ha]; · iexact Ha
    isplitl [Hw]; · iexact Hw
    iexact Hy
  iintro ⟨Ha, Hw, Hy⟩
  iapply (own_r m c _) $$ [Hy Hr]
  · isplitl [Hy]; · iexact Hy
    iexact Hr
  iintro ⟨Hy, Hr⟩
  iapply (phase_r m K c _) $$ [HR Hg Hw HO]
  · isplitl [HR]; · iexact HR
    isplitl [Hg]; · iexact Hg
    isplitl [Hw]; · iexact Hw
    iexact HO
  iintro ⟨⟨Hc4, Has, Hz3⟩, Hg, Hw, HO⟩
  iapply (tail8_run m K c) $$ [H5 Hr Hout H0 H2 Hc4 Hp4 Hg HO]
  · isplitl [H5]; · iexact H5
    isplitl [Hr]; · iexact Hr
    isplitl [Hout]; · iexact Hout
    isplitl [H0]; · iexact H0
    isplitl [H2]; · iexact H2
    isplitl [Hc4 Hp4]
    · unfold waitPre; rw [all_sep]
      isplitl [Hc4]; · iexact Hc4
      iexact Hp4
    isplitl [Hg]; · iexact Hg
    iexact HO
  iintro ⟨Hr, Hz5, Hout, Hend⟩
  iapply Hk
  isplitl [Ha]; · iexact Ha
  isplitl [Has]; · iexact Has
  isplitl [Hw]; · iexact Hw
  isplitl [Hy]; · iexact Hy
  isplitl [Hz3]; · iexact Hz3
  isplitl [Hr]; · iexact Hr
  isplitl [Hz5]; · iexact Hz5
  isplitl [Hout]; · iexact Hout
  iexact Hend

/-! ## From the gathered rows on, from the counts on, and the whole -/

/-- What the phases from the gathered rows on still need. -/
def pre4 (c : Dev nD) : sProp 𝕄 :=
  iprop((∃ f, ((c : Thread nD τ).loc cc0_scratch0) ↦{fullShare} f) ∗ (∃ f, aPts c 0 f) ∗ (∃ f, ((c : Thread nD τ).loc cc0_scratch2) ↦{fullShare} f) ∗ (∃ f, rPts c 0 f)
    ∗ ((all fun k => sendToks c (nb c k) 2 3 k) ∗ all fun k => iprop(∃ f, aPts (nb c k) k.succ f))
    ∗ ((all fun k => waitPre c 3 k) ∗ (all fun k => sendToks c (pv c k) 4 5 k) ∗ all fun k => iprop(∃ f, rPts (pv c k) k.succ f))
    ∗ (all fun k => waitPre c 5 k) ∗ (∃ f, ((c : Thread nD τ).loc cc0_stg3_0) ↦{fullShare} f)
    ∗ (all fun k => atPos ER (xcell c 2 k) 0 ∅ 0) ∗ (all fun k => atPos ER (xcell c 4 k) 0 ∅ 0))

/-- What they leave. -/
def post4 (c : Dev nD) : sProp 𝕄 :=
  iprop(sPts c 0 (SB m c) ∗ (aPts c 0 (AB m c) ∗ (all fun k => aPts c k.succ (AB m c)) ∗ wPts m c ∗ yPts c 0 (YB m c) ∗ (all fun k => semVal (xcell c 3 k) 0)
    ∗ (((c : Thread nD τ).loc cc0_scratch3) ↦{fullShare} RB m c) ∗ (all fun k => semVal (xcell c 5 k) 0) ∗ outPts m c ∗ ended m c))

theorem tail4_run (c : Dev nD) {Q : PUnit → sProp 𝕄} :
    iprop(pre4 c ∗ xPts m c ∗ wPts m c ∗ (all fun k => waitPre c 0 k) ∗ known m K ∗ owing c (0 + OR c offs + OD c offs))
      ⊢ iprop(((post4 m c ∗ xPts m c) -∗ Q ⟨⟩)
        -∗ Wp c (tail4 xM wM outM sbM (Memref.isWhole_whole _) abM (Memref.isWhole_whole _) ybM (Memref.isWhole_whole _) rbM (Memref.isWhole_whole _) cM
            cc0_scratch5 cc0_scratch7 cc0_scratch8 cc0_scratch9 cc0_scratch10 c (tabD c) (tabR c) (es m c) (CALL m c)) Q) := by
  unfold tail4 pre4
  iintro ⟨⟨Hs, Ha, ⟨%fy, Hy⟩, Hr, ⟨Htd, Hda⟩, ⟨H3, Htr, Hdr⟩, H5, Hout, Hp2, Hp4⟩, Hx, Hw, H0, #Hg, HO⟩ Hk
  iapply (own_s m c _) $$ [Hx Hs]
  · isplitl [Hx]; · iexact Hx
    iexact Hs
  iintro ⟨Hx, Hs⟩
  iapply (own_a m c _) $$ [Hs Ha]
  · isplitl [Hs]; · iexact Hs
    iexact Ha
  iintro ⟨Hs, Ha⟩
  ihave ⟨Hs0, Hs⟩ := (Entails.of_eq (s_pieces c (SB m c))) $$ Hs
  iapply (phase_d m K c _ _) $$ [Htd Hs Hda HO]
  · isplitl [Htd Hs Hda]
    · isplitl [Htd]; · iexact Htd
      isplitl [Hs]; · iexact Hs
      iexact Hda
    isplitl []; · iexact Hg
    iexact HO
  iintro ⟨Hc2, -, HO⟩
  ihave ⟨Hy0, Hys⟩ := (Entails.of_eq (y_pieces c fy)) $$ Hy
  iapply (tail6_run m K c) $$ [Ha Hw Hy0 Hr H3 Htr Hys Hdr H5 Hout H0 Hc2 Hp2 Hp4 HO]
  · isplitl [Ha]; · iexact Ha
    isplitl [Hw]; · iexact Hw
    isplitl [Hy0]; · iexists fy; iexact Hy0
    isplitl [Hr]; · iexact Hr
    isplitl [H3 Htr Hys Hdr]
    · isplitl [H3]; · iexact H3
      isplitl [Htr]; · iexact Htr
      isplitl [Hys]
      · have h : (all fun k => yPts c k.succ fy : sProp 𝕄) ⊢ all fun k => iprop(∃ f, yPts c k.succ f) :=
          bigSep_mono fun k _ =>
            show (yPts c k.succ fy : sProp 𝕄) ⊢ iprop(∃ f, yPts c k.succ f) from by iintro H; iexists fy; iexact H
        iapply h; iexact Hys
      iexact Hdr
    isplitl [H5]; · iexact H5
    isplitl [Hout]; · iexact Hout
    isplitl [H0]; · iexact H0
    isplitl [Hc2 Hp2]
    · unfold waitPre; rw [all_sep]
      isplitl [Hc2]; · iexact Hc2
      iexact Hp2
    isplitl [Hp4]; · iexact Hp4
    isplitl []; · iexact Hg
    iexact HO
  iintro H
  iapply Hk
  unfold post4
  isplitl [Hs0 H]
  · isplitl [Hs0]; · iexact Hs0
    iexact H
  iexact Hx

/-- What the phase of the counts needs. -/
def pre2 (c : Dev nD) : sProp 𝕄 :=
  iprop((∃ f, cPts c 0 fullShare f) ∗ ((all fun k => sendToks c (nb c k) 0 1 k) ∗ all fun k => iprop(∃ f, cPts (nb c k) k.succ fullShare f))
    ∗ (all fun k => waitPre c 1 k) ∗ (all fun k => atPos ER (xcell c 0 k) 0 ∅ 0))

/-- What it leaves. -/
def post2 (c : Dev nD) : sProp 𝕄 :=
  iprop(cPts c 0 kept (CALL m c) ∗ (all fun k => cPts c k.succ fullShare (CALL m c)) ∗ all fun k => semVal (xcell c 1 k) 0)

theorem tail2_run (c : Dev nD) {Q : PUnit → sProp 𝕄} :
    iprop(pre2 c ∗ pre4 c ∗ ePts m c ∗ xPts m c ∗ wPts m c ∗ known m K ∗ owing c (0 + OR c offs + OD c offs + OC c offs))
      ⊢ iprop(((post2 m c ∗ post4 m c ∗ ePts m c ∗ xPts m c) -∗ Q ⟨⟩)
        -∗ Wp c (tail2 xM eM wM outM sbM (Memref.isWhole_whole _) abM (Memref.isWhole_whole _) ybM (Memref.isWhole_whole _) rbM (Memref.isWhole_whole _) cM
            cc0_scratch5 cc0_scratch6 cc0_scratch7 cc0_scratch8 cc0_scratch9 cc0_scratch10 c (tabC c) (tabD c) (tabR c)) Q) := by
  unfold tail2 pre2
  iintro ⟨⟨Hc, ⟨Htc, Hdc⟩, H1, Hp0⟩, Hpre, He, Hx, Hw, #Hg, HO⟩ Hk
  iapply (own_c m c _) $$ [He Hc]
  · isplitl [He]; · iexact He
    iexact Hc
  iintro ⟨He, Hc⟩
  ihave ⟨Hc, Hcl⟩ := (Entails.of_eq (c_shares c 0 (CALL m c))) $$ Hc
  iapply (phase_c m K c _ _) $$ [Htc Hcl Hdc HO]
  · isplitl [Htc Hcl Hdc]
    · isplitl [Htc]; · iexact Htc
      isplitl [Hcl]; · iexact Hcl
      iexact Hdc
    isplitl []; · iexact Hg
    iexact HO
  iintro ⟨Hc0, -, HO⟩
  iapply (phase_wait m K c 1 _ (fun k rest => step_cWait m K c (above_add (above_add (above_zero _) (above_OR _ _ (by decide))) (above_OD _ _ (by decide))) k rest) _) $$ [H1 HO]
  · isplitl [H1]; · iexact H1
    isplitl []; · iexact Hg
    iexact HO
  iintro ⟨⟨Hcs, Hz1⟩, -, HO⟩
  have hsh : iprop(all fun k => xferPay m c 1 k) ⊢ iprop((all fun k => cPts c k.succ kept (CALL m c)) ∗ all fun k => iprop(bigSep Finset.univ fun j => cPts c k.succ (lent j) (CALL m c))) :=
    Entails.of_eq (by rw [← all_sep]; exact bigSep_congr fun k _ => c_shares c k.succ (CALL m c))
  ihave ⟨Hcs, Hcls⟩ := hsh $$ Hcs
  ihave HC := (Entails.of_eq (c_pieces c kept (CALL m c)).symm) $$ [Hc Hcs]
  · isplitl [Hc]; · iexact Hc
    iexact Hcs
  iapply (wp_load 𝒱₀ (c : Thread nD τ) none Set.univ (m := cM) (Finset.subset_univ _)) $$ HC; iintro HC
  rw [show cM.view.readAt (Elt F) _ (CALL m c) = CALL m c from Memref.readAt_unit_zero (Elt F) cc0_scratch4 hz3 _ _]
  ihave ⟨Hc, Hcs⟩ := (Entails.of_eq (c_pieces c kept (CALL m c))) $$ HC
  have hsh' : iprop((all fun k => cPts c k.succ kept (CALL m c)) ∗ all fun k => iprop(bigSep Finset.univ fun j => cPts c k.succ (lent j) (CALL m c))) ⊢ (all fun k => cPts c k.succ fullShare (CALL m c) : sProp 𝕄) :=
    Entails.of_eq (by rw [← all_sep]; exact bigSep_congr fun k _ => (c_shares c k.succ (CALL m c)).symm)
  ihave Hcs := hsh' $$ [Hcs Hcls]
  · isplitl [Hcs]; · iexact Hcs
    iexact Hcls
  iapply (tail4_run m K c) $$ [Hpre Hx Hw Hc0 Hp0 HO]
  · isplitl [Hpre]; · iexact Hpre
    isplitl [Hx]; · iexact Hx
    isplitl [Hw]; · iexact Hw
    isplitl [Hc0 Hp0]
    · unfold waitPre; rw [all_sep]
      isplitl [Hc0]; · iexact Hc0
      iexact Hp0
    isplitl []; · iexact Hg
    iexact HO
  iintro ⟨Hpost, Hx⟩
  iapply Hk
  isplitl [Hc Hcs Hz1]
  · unfold post2
    isplitl [Hc]; · iexact Hc
    isplitl [Hcs]; · iexact Hcs
    iexact Hz1
  isplitl [Hpost]; · iexact Hpost
  isplitl [He]; · iexact He
  iexact Hx

/-! ## The barrier -/

/-- The wait for the 31 signals of the device's own barrier brings the 31 devices' places for this one's copies. -/
theorem wait_bar (c : Dev nD) {Q : PUnit → sProp 𝕄} {O : CellTallies nD τ sig Unit} (hO : Above 1 O) (rest : P F) :
    iprop(known m K ∗ owing c O ∗ cred (tallyAt (barCell c) () 31) ∗ atPos ER (barCell c) 0 ∅ 0)
      ⊢ iprop(((owing c O ∗ (all fun k => barPay c k) ∗ semVal (barCell c) 0) -∗ Wp c rest Q) -∗ Wp c (.op (.semWait barS (31#32).toInt) fun _ => rest) Q) := by
  have hmay : known (F := F) m K ⊢ MayWait (c : Thread nD τ) (csem none) () O :=
    known_mayWait m K c (csem none) (show lvOf (csem none) ≤ 1 from le_rfl) hO
  unfold owing
  iintro ⟨#Hg, ⟨%W, HO⟩, Hc, Ha⟩ Hk
  iapply (Rounds.wp_wait_rest_token 𝒱₀ ER (rd m) (c : Thread nD τ) none (κ := K (c, none))
      (wpE_semWait_eq 𝒱₀ (c : Thread nD τ) none Set.univ) (Set.mem_univ _) () (O := O) (W := W) (R := 0) (m := 0) (T := ∅)
      (by rw [Nat.zero_add]; exact (show _ = 31 by decide).trans (expect_bar m c).symm)) $$ [Hc HO Ha]
  · isplitr; · iapply (known_inv m K (c, none)); iexact Hg
    isplitl [Hc]; · iexact Hc
    isplitl [HO]; · iexact HO
    isplitr
    · iapply hmay; iexact Hg
    iexact Ha
  iintro ⟨HO, Ha, -, Hp⟩
  ihave Hp := (Entails.of_eq (rest_bar m c)) $$ Hp
  imod (Rounds.cell_close ER (rd m) (Set.mem_univ (K (c, none))) (fun h => h) (R := 0 + 1) (duties_later m (barCell c))) $$ [Ha] with Hz
  · isplitr; · iapply (known_inv m K (c, none)); iexact Hg
    iexact Ha
  iapply Hk
  isplitl [HO]; · iexists _; iexact HO
  isplitl [Hp]; · iexact Hp
  iexact Hz

omit [FloatOps F] in
/-- A device's places, each handed to the device that will write it, are what its signals carry. -/
theorem hand_over (c : Dev nD) (fc : Buf (Elt F) ((c : Thread nD τ).loc cc0_scratch4)) (fa : Buf (Elt F) ((c : Thread nD τ).loc cc0_scratch1)) (fr : Buf (Elt F) ((c : Thread nD τ).loc cc0_scratch3)) :
    iprop((all fun k => cPts c k.succ fullShare fc) ∗ (all fun k => aPts c k.succ fa) ∗ all fun k => rPts c k.succ fr)
      ⊢ (all fun k => barPay (nb c k) k : sProp 𝕄) := by
  have h1 : (all fun k => cPts c k.succ fullShare fc : sProp 𝕄) = all fun k => cPts c (Fin.rev k).succ fullShare fc :=
    (bigSep_rev fun k => (cPts c k.succ fullShare fc : sProp 𝕄)).symm
  have h2 : (all fun k => aPts c k.succ fa : sProp 𝕄) = all fun k => aPts c (Fin.rev k).succ fa :=
    (bigSep_rev fun k => (aPts c k.succ fa : sProp 𝕄)).symm
  rw [h1, h2, ← all_sep, ← all_sep]
  refine bigSep_mono fun k _ => ?_
  unfold barPay
  rw [pv_nb]
  show iprop(cPts c (Fin.rev k).succ fullShare fc ∗ aPts c (Fin.rev k).succ fa ∗ rPts c k.succ fr) ⊢ _
  iintro ⟨H1, H2, H3⟩
  isplitl [H1]; · iexists fc; iexact H1
  isplitl [H2]; · iexists fa; iexact H2
  iexists fr; iexact H3

omit [FloatOps F] in
/-- What a device's barrier brings, by the copies it is for. -/
theorem handed (c : Dev nD) :
    (all fun k => barPay c k : sProp 𝕄)
      ⊢ iprop((all fun k => iprop(∃ f, cPts (nb c k) k.succ fullShare f)) ∗ (all fun k => iprop(∃ f, aPts (nb c k) k.succ f)) ∗ all fun k => iprop(∃ f, rPts (pv c k) k.succ f)) := by
  have h1 : (all fun k => iprop(∃ f, cPts (nb c k) k.succ fullShare f) : sProp 𝕄) = all fun k => iprop(∃ f, cPts (nb c (Fin.rev k)) (Fin.rev k).succ fullShare f) :=
    (bigSep_rev fun k => (iprop(∃ f, cPts (nb c k) k.succ fullShare f) : sProp 𝕄)).symm
  have h2 : (all fun k => iprop(∃ f, aPts (nb c k) k.succ f) : sProp 𝕄) = all fun k => iprop(∃ f, aPts (nb c (Fin.rev k)) (Fin.rev k).succ f) :=
    (bigSep_rev fun k => (iprop(∃ f, aPts (nb c k) k.succ f) : sProp 𝕄)).symm
  rw [h1, h2, ← all_sep, ← all_sep]
  refine bigSep_mono fun k _ => ?_
  unfold barPay
  show iprop((∃ f, cPts (pv c k) (Fin.rev k).succ fullShare f) ∗ (∃ f, aPts (pv c k) (Fin.rev k).succ f) ∗ ∃ f, rPts (pv c k) k.succ f)
    ⊢ iprop((∃ f, cPts (nb c (Fin.rev k)) (Fin.rev k).succ fullShare f) ∗ (∃ f, aPts (nb c (Fin.rev k)) (Fin.rev k).succ f) ∗ ∃ f, rPts (pv c k) k.succ f)
  rw [← pv_eq_nb_rev]

/-! ## The whole body -/

/-- The five scratch buffers, whatever they hold. -/
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f))
/-- What a device may wait for, from the start. -/
def creds (c : Dev nD) : sProp 𝕄 :=
  iprop(cred (tallyAt (barCell c) () 31) ∗ (all fun k => cred (tallyAt (xcell c 1 k) () (credit 1)))
    ∗ (all fun k => cred (tallyAt (xcell c 3 k) () (credit 3))) ∗ all fun k => cred (tallyAt (xcell c 5 k) () (credit 5)))
/-- Where the device stands on each of its semaphores. -/
def marks (c : Dev nD) : sProp 𝕄 :=
  iprop(atPos ER (barCell c) 0 ∅ 0 ∗ (all fun k => atPos ER (xcell c 0 k) 0 ∅ 0) ∗ (all fun k => atPos ER (xcell c 1 k) 0 ∅ 0)
    ∗ (all fun k => atPos ER (xcell c 2 k) 0 ∅ 0) ∗ (all fun k => atPos ER (xcell c 3 k) 0 ∅ 0)
    ∗ (all fun k => atPos ER (xcell c 4 k) 0 ∅ 0) ∗ all fun k => atPos ER (xcell c 5 k) 0 ∅ 0)
/-- The duties the device's signals and copies pay. -/
def toks (c : Dev nD) : sProp 𝕄 :=
  iprop((all fun k => dutyTok ER (barCell (nb c k)) 0 k) ∗ (all fun k => sendToks c (nb c k) 0 1 k) ∗ (all fun k => sendToks c (nb c k) 2 3 k)
    ∗ all fun k => sendToks c (pv c k) 4 5 k)
/-- All of the device's semaphores at zero. -/
def zeros (c : Dev nD) : sProp 𝕄 :=
  iprop(semVal (barCell c) 0 ∗ (all fun k => semVal (xcell c 0 k) 0) ∗ (all fun k => semVal (xcell c 1 k) 0) ∗ (all fun k => semVal (xcell c 2 k) 0)
    ∗ (all fun k => semVal (xcell c 3 k) 0) ∗ (all fun k => semVal (xcell c 4 k) 0) ∗ all fun k => semVal (xcell c 5 k) 0)

/-- What the phases left, put together again. -/
theorem gather (c : Dev nD) :
    iprop(post2 m c ∗ post4 m c ∗ semVal (barCell c) 0) ⊢ iprop(scr c ∗ zeros c ∗ wPts m c ∗ outPts m c ∗ owing c 0) := by
  unfold post2 post4 ended scr zeros
  iintro ⟨⟨Hc0, Hcs, Hz1⟩, ⟨Hs0, Ha0, Has, Hw, Hy0, Hz3, Hr, Hz5, Hout, ⟨Hcl, Hz0⟩, ⟨Hss, Hz2⟩, ⟨Hys, Hz4⟩, HO⟩, HzB⟩
  ihave Hc0 := (Entails.of_eq (c_shares c 0 (CALL m c)).symm) $$ [Hc0 Hcl]
  · isplitl [Hc0]; · iexact Hc0
    iexact Hcl
  ihave Hc := (Entails.of_eq (c_pieces c fullShare (CALL m c)).symm) $$ [Hc0 Hcs]
  · isplitl [Hc0]; · iexact Hc0
    iexact Hcs
  ihave Hs := (Entails.of_eq (s_pieces c (SB m c)).symm) $$ [Hs0 Hss]
  · isplitl [Hs0]; · iexact Hs0
    iexact Hss
  ihave Ha := (Entails.of_eq (a_pieces c (AB m c)).symm) $$ [Ha0 Has]
  · isplitl [Ha0]; · iexact Ha0
    iexact Has
  ihave Hy := (Entails.of_eq (y_pieces c (YB m c)).symm) $$ [Hy0 Hys]
  · isplitl [Hy0]; · iexact Hy0
    iexact Hys
  isplitl [Hs Ha Hy Hr Hc]
  · isplitl [Hs]; · iexists _; iexact Hs
    isplitl [Ha]; · iexists _; iexact Ha
    isplitl [Hy]; · iexists _; iexact Hy
    isplitl [Hr]; · iexists _; iexact Hr
    iexists _; iexact Hc
  isplitl [HzB Hz0 Hz1 Hz2 Hz3 Hz4 Hz5]
  · isplitl [HzB]; · iexact HzB
    isplitl [Hz0]; · iexact Hz0
    isplitl [Hz1]; · iexact Hz1
    isplitl [Hz2]; · iexact Hz2
    isplitl [Hz3]; · iexact Hz3
    isplitl [Hz4]; · iexact Hz4
    iexact Hz5
  isplitl [Hw]; · iexact Hw
  isplitl [Hout]; · iexact Hout
  iexact HO

/-- The whole kernel on device `c`: from its staged inputs and what it was handed, to the staged result, its scratch buffers back and every
    semaphore at zero. -/
theorem prog_run (c : Dev nD) {Q : PUnit → sProp 𝕄} :
    iprop(known m K ∗ owing c (O₀ c) ∗ scr c ∗ creds c ∗ marks c ∗ toks c ∗ ePts m c ∗ xPts m c ∗ wPts m c ∗ (∃ f, ((c : Thread nD τ).loc cc0_stg3_0) ↦{fullShare} f))
      ⊢ iprop(((scr c ∗ zeros c ∗ ePts m c ∗ xPts m c ∗ wPts m c ∗ outPts m c ∗ owing c 0) -∗ Q ⟨⟩)
        -∗ Wp c (prog xM eM wM outM sbM (Memref.isWhole_whole _) abM (Memref.isWhole_whole _) ybM (Memref.isWhole_whole _) rbM (Memref.isWhole_whole _) cM
            cc0_scratch5 cc0_scratch6 cc0_scratch7 cc0_scratch8 cc0_scratch9 cc0_scratch10 c (tabB c) (tabC c) (tabD c) (tabR c)) Q) := by
  unfold prog scr creds marks toks O₀
  iintro ⟨#Hg, HO, ⟨Hs, ⟨%fa, Ha⟩, Hy, ⟨%fr, Hr⟩, ⟨%fc, Hc⟩⟩, ⟨HcB, Hc1, Hc3, Hc5⟩, ⟨HpB, Hp0, Hp1, Hp2, Hp3, Hp4, Hp5⟩, ⟨HtB, Htc, Htd, Htr⟩, He, Hx, Hw, Hout⟩ Hk
  ihave ⟨Hc0, Hcs⟩ := (Entails.of_eq (c_pieces c fullShare fc)) $$ Hc
  ihave ⟨Ha0, Has⟩ := (Entails.of_eq (a_pieces c fa)) $$ Ha
  ihave ⟨Hr0, Hrs⟩ := (Entails.of_eq (r_pieces c fr)) $$ Hr
  ihave Hpay := (hand_over c fc fa fr) $$ [Hcs Has Hrs]
  · isplitl [Hcs]; · iexact Hcs
    isplitl [Has]; · iexact Has
    iexact Hrs
  iapply (phase_sig m K c _ _) $$ [HtB Hpay HO]
  · isplitl [HtB Hpay]
    · isplitl [HtB]; · iexact HtB
      iexact Hpay
    isplitl []; · iexact Hg
    iexact HO
  iintro ⟨-, HO⟩
  iapply (wait_bar m K c (above_add (above_add (above_add (above_zero _) (above_OR _ _ (by decide))) (above_OD _ _ (by decide))) (above_OC _ _ (by decide))) _)
    $$ [HO HcB HpB]
  · isplitl []; · iexact Hg
    isplitl [HO]; · iexact HO
    isplitl [HcB]; · iexact HcB
    iexact HpB
  iintro ⟨HO, Hpay, HzB⟩
  ihave ⟨Hdc, Hda, Hdr⟩ := (handed c) $$ Hpay
  iapply (tail2_run m K c) $$ [Hc0 Htc Hdc Hc1 Hp1 Hp0 Hs Ha0 Hy Hr0 Htd Hda Hc3 Hp3 Htr Hdr Hc5 Hp5 Hout Hp2 Hp4 He Hx Hw HO]
  · isplitl [Hc0 Htc Hdc Hc1 Hp1 Hp0]
    · unfold pre2
      isplitl [Hc0]; · iexists fc; iexact Hc0
      isplitl [Htc Hdc]
      · isplitl [Htc]; · iexact Htc
        iexact Hdc
      isplitl [Hc1 Hp1]
      · unfold waitPre; rw [all_sep]
        isplitl [Hc1]; · iexact Hc1
        iexact Hp1
      iexact Hp0
    isplitl [Hs Ha0 Hy Hr0 Htd Hda Hc3 Hp3 Htr Hdr Hc5 Hp5 Hout Hp2 Hp4]
    · unfold pre4
      isplitl [Hs]; · iexact Hs
      isplitl [Ha0]; · iexists fa; iexact Ha0
      isplitl [Hy]; · iexact Hy
      isplitl [Hr0]; · iexists fr; iexact Hr0
      isplitl [Htd Hda]
      · isplitl [Htd]; · iexact Htd
        iexact Hda
      isplitl [Hc3 Hp3 Htr Hdr]
      · isplitl [Hc3 Hp3]
        · unfold waitPre; rw [all_sep]
          isplitl [Hc3]; · iexact Hc3
          iexact Hp3
        isplitl [Htr]; · iexact Htr
        iexact Hdr
      isplitl [Hc5 Hp5]
      · unfold waitPre; rw [all_sep]
        isplitl [Hc5]; · iexact Hc5
        iexact Hp5
      isplitl [Hout]; · iexact Hout
      isplitl [Hp2]; · iexact Hp2
      iexact Hp4
    isplitl [He]; · iexact He
    isplitl [Hx]; · iexact Hx
    isplitl [Hw]; · iexact Hw
    isplitl []; · iexact Hg
    iexact HO
  iintro ⟨Hpost2, Hpost4, He, Hx⟩
  ihave ⟨Hscr, Hz, Hw, Hout, HO⟩ := (gather m c) $$ [Hpost2 Hpost4 HzB]
  · isplitl [Hpost2]; · iexact Hpost2
    isplitl [Hpost4]; · iexact Hpost4
    iexact HzB
  iapply Hk
  isplitl [Hscr]; · unfold scr; iexact Hscr
  isplitl [Hz]; · iexact Hz
  isplitl [He]; · iexact He
  isplitl [Hx]; · iexact Hx
  isplitl [Hw]; · iexact Hw
  isplitl [Hout]; · iexact Hout
  iexact HO

end Cert.KernelIdeal.Proto

end
-- ==== Proof.Launch.lean ====
/- The launch: the pipeline's proof data, the semaphores' invariants allocated and their duties dealt among the devices,
   and the run of the whole program. -/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

noncomputable section

namespace Cert.KernelIdeal.Proto

open Cert.KernelIdeal Cert.KernelIdeal.Gen Cert.KernelIdeal.Tidy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- Every semaphore's invariant and that it is at its round 0. -/
def records (K : Dev nD × Cell → ℕ) : sProp 𝕄 :=
  iprop((bigSep Finset.univ fun ck : Dev nD × Cell => cellInv ER (rd m) (K ck) (kcell ck))
    ∗ bigSep Finset.univ fun ck : Dev nD × Cell => reached ER (kcell ck) 0)

instance records_persistent (K : Dev nD × Cell → ℕ) : BI.Persistent (records (F := F) m K) := by unfold records; infer_instance

/-- What the allocation of the semaphores leaves device `c`. -/
def G' (c : Dev nD) : sProp 𝕄 := iprop(∃ K, records m K ∗ marks c ∗ toks c)
/-- What the body of device `c` starts from, besides its buffers. -/
def start (c : Dev nD) : sProp 𝕄 := iprop(G' m c ∗ creds c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => es m c
    | ⟨2, _⟩ => ws m c
    | ⟨3, _⟩ => OUT m c
  Φ t := match t with
    | ⟨0, _⟩ => iprop(start m c ∗ scr c)
    | ⟨_ + 1, _⟩ => iprop(scr c ∗ zeros c)
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scr c) ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def bodyPost (c : Dev nD) : sProp 𝕄 :=
  iprop((scr c ∗ zeros c) ∗ (dats m ρ 0 c).owesAt () t0_0.succ
    ∗ stg c cc0_stg0_0 (xs m c) ∗ stg c cc0_stg1_0 (es m c) ∗ stg c cc0_stg2_0 (ws m c) ∗ stg c cc0_stg3_0 (OUT m c))

/-- The body from what the pipeline hands it to what it takes back. -/
theorem sound_body (c : Dev nD) :
    bodyPre m ρ c ⊢ Wp c (cc0_body (F := F) xM (Memref.isWhole_whole _) eM (Memref.isWhole_whole _) wM (Memref.isWhole_whole _) outM (Memref.isWhole_whole _)
      sbM (Memref.isWhole_whole _) abM (Memref.isWhole_whole _) ybM (Memref.isWhole_whole _) rbM (Memref.isWhole_whole _) cM (Memref.isWhole_whole _)
      cc0_scratch5 cc0_scratch6 cc0_scratch7 cc0_scratch8 cc0_scratch9 cc0_scratch10) (fun _ => bodyPost m ρ c) := by
  rw [body_eq]
  unfold Wp
  rw [wp_deviceId]
  unfold bodyPre start G'
  iintro ⟨⟨⟨⟨%K, Hrec, Hmk, Htk⟩, Hcr, Hlev⟩, Hscr⟩, Ho, ⟨%d0, %g0, %hg0, Hx⟩, ⟨%d1, %g1, %hg1, He⟩, ⟨%d2, %g2, %hg2, Hw⟩, ⟨%d3, %g3, %hg3, Hout⟩⟩
  have hx : g0 = xs m c := by rw [hg0]; unfold Dat.before; rw [if_pos (fetch0_0 t0_0)]; rfl
  have he : g1 = es m c := by rw [hg1]; unfold Dat.before; rw [if_pos (fetch0_1 t0_0)]; rfl
  have hw : g2 = ws m c := by rw [hg2]; unfold Dat.before; rw [if_pos (fetch0_2 t0_0)]; rfl
  subst hx he hw
  unfold Dat.owesAt Pipeline.owesWithin
  icases Ho with ⟨%W, %hW, HO⟩
  rw [show (dats m ρ 0 c).owed t0_0.castSucc = O₀ c from rfl]
  iapply (prog_run m K c) $$ [Hrec Hmk Htk Hcr Hlev Hscr HO Hx He Hw Hout]
  · isplitl [Hrec Hlev]
    · unfold known records
      icases Hrec with ⟨H1, H2⟩
      isplitl [H1]; · iexact H1
      isplitl [H2]; · iexact H2
      iexact Hlev
    isplitl [HO]; · unfold owing; iexists W; iexact HO
    isplitl [Hscr]; · iexact Hscr
    isplitl [Hcr]; · iexact Hcr
    isplitl [Hmk]; · iexact Hmk
    isplitl [Htk]; · iexact Htk
    isplitl [He]; · unfold ePts; iexact He
    isplitl [Hx]; · unfold xPts; iexact Hx
    isplitl [Hw]; · unfold wPts; iexact Hw
    iexists g3; iexact Hout
  unfold ePts xPts wPts outPts owing
  iintro ⟨Hscr, Hz, He, Hx, Hw, Hout, ⟨%W', HO⟩⟩
  unfold bodyPost Dat.owesAt Pipeline.owesWithin
  rw [show (dats m ρ 0 c).owed t0_0.succ = 0 from rfl]
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    iexact Hx
  isplitl [He]
  · iexists _; isplitr; · (ipureintro; rfl)
    iexact He
  isplitl [Hw]
  · iexists _; isplitr; · (ipureintro; rfl)
    iexact Hw
  iexists _; isplitr; · (ipureintro; rfl)
  iexact Hout

set_option maxRecDepth 100000 in
/-- The pipeline's obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ wp frame (wpE (defs₀ (F := F)) 𝒱₀ c none) Set.univ (cc0_body (F := F) xM (Memref.isWhole_whole _) eM (Memref.isWhole_whole _) wM (Memref.isWhole_whole _) outM (Memref.isWhole_whole _)
      sbM (Memref.isWhole_whole _) abM (Memref.isWhole_whole _) ybM (Memref.isWhole_whole _) rbM (Memref.isWhole_whole _) cM (Memref.isWhole_whole _)
      cc0_scratch5 cc0_scratch6 cc0_scratch7 cc0_scratch8 cc0_scratch9 cc0_scratch10) (fun _ => bodyPost m ρ c)
  exact sound_body m ρ c

end Cert.KernelIdeal.Proto

end
-- ==== Proof.Deal.lean ====
/- What the launch deals: every semaphore's invariant allocated, the duties carried from the device that owns a semaphore
   to the device that pays it, and the credits of the waits. -/
module

public import proofs.«01_k».proof.Proof.Launch

@[expose] public section

noncomputable section

namespace Cert.KernelIdeal.Proto

open Cert.KernelIdeal Cert.KernelIdeal.Gen Cert.KernelIdeal.Tidy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over a device's semaphores -/

omit [FloatOps F] in
theorem over6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem over_option {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by
    ext x; cases x <;> simp, bigSep_insert (by simp), bigSep_map]
  rfl

omit [FloatOps F] in
/-- Over the six arrays of semaphores. -/
theorem over_x (Φ : Fin 6 → Fin 31 → sProp 𝕄) :
    (bigSep Finset.univ fun ak : Fin 6 × Fin 31 => Φ ak.1 ak.2) = iprop((all fun k => Φ 0 k) ∗ (all fun k => Φ 1 k) ∗ (all fun k => Φ 2 k) ∗ (all fun k => Φ 3 k) ∗ (all fun k => Φ 4 k) ∗ all fun k => Φ 5 k) := by
  rw [bigSep_univ_prod, over6]

omit [FloatOps F] in
/-- Over all of a device's semaphores. -/
theorem over_cells (Φ : Cell → sProp 𝕄) :
    bigSep Finset.univ Φ = iprop(Φ none ∗ (all fun k => Φ (some (0, k))) ∗ (all fun k => Φ (some (1, k))) ∗ (all fun k => Φ (some (2, k))) ∗ (all fun k => Φ (some (3, k))) ∗ (all fun k => Φ (some (4, k))) ∗ all fun k => Φ (some (5, k))) := by
  rw [over_option, ← over_x fun a k => Φ (some (a, k))]

/-- The kernel's own semaphores. -/
def osem : Fin 6 × Fin 31 → SemLoc sig := fun ak => .dma (xsem ak.1 ak.2)

theorem csem_injective : Function.Injective csem := by
  rintro (_ | ⟨a, k⟩) (_ | ⟨a', k'⟩) h
  · rfl
  · cases h
  · cases h
  · have h1 : 4 + (31 * a.val + k.val) = 4 + (31 * a'.val + k'.val) := congrArg (fun s : SemLoc sig => match s with | .dma q => q.val | .reg _ => 0) h
    have := k.isLt; have := k'.isLt
    have e1 : a = a' := Fin.ext (by omega)
    have e2 : k = k' := Fin.ext (by omega)
    rw [e1, e2]

theorem ownSemFacts : Pipeline.OwnSemFacts cfg0.spec osem where
  isScoped := by decide +kernel
  inj := fun x y h => by
    have := csem_injective (a₁ := some x) (a₂ := some y) h
    exact Option.some.inj this
  disj := by decide +kernel

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

def kCells : Finset (GSem nD τ sig) := Finset.univ.map ⟨kcell, kcell_injective⟩

/-- The duties of a device's own semaphores: one per offset on its barrier, one on each other semaphore. -/
def tokOf (x : Dev nD × (Option (Fin 6) × Fin 31)) : GSem nD τ sig × ℕ × Fin 31 :=
  match x.2.1 with
  | none => (barCell x.1, 0, x.2.2)
  | some a => (xcell x.1 a x.2.2, 0, 0)

theorem tokOf_injective : Function.Injective tokOf := by
  rintro ⟨c, a, k⟩ ⟨c', a', k'⟩ h
  rcases a with _ | a <;> rcases a' with _ | a'
  · have h1 := kcell_injective (congrArg Prod.fst h)
    have h2 : k = k' := congrArg (fun x : GSem nD τ sig × ℕ × Fin 31 => x.2.2) h
    have h3 : c = c' := congrArg Prod.fst h1
    rw [h2, h3]
  · have h1 := kcell_injective (congrArg Prod.fst h); cases congrArg Prod.snd h1
  · have h1 := kcell_injective (congrArg Prod.fst h); cases congrArg Prod.snd h1
  · have h1 := kcell_injective (congrArg Prod.fst h)
    have h3 : c = c' := congrArg Prod.fst h1
    have h4 : (a, k) = (a', k') := Option.some.inj (congrArg Prod.snd h1)
    have h5 : a = a' := congrArg Prod.fst h4
    have h6 : k = k' := congrArg Prod.snd h4
    rw [h3, h5, h6]

def kToks : Finset (GSem nD τ sig × ℕ × Fin 31) := Finset.univ.map ⟨tokOf, tokOf_injective⟩

def u₀ : UU :=
  (initOf (Pipeline.cells cfgs cellOf_inj) (Pipeline.launchToks cfgs cellOf_inj), initOf kCells kToks)

/-- The duties of device `c`'s own semaphores. -/
def ownToks (c : Dev nD) : sProp 𝕄 :=
  iprop((all fun k => dutyTok ER (barCell c) 0 k) ∗ (all fun k => dutyTok ER (xcell c 0 k) 0 0) ∗ (all fun k => dutyTok ER (xcell c 1 k) 0 0)
    ∗ (all fun k => dutyTok ER (xcell c 2 k) 0 0) ∗ (all fun k => dutyTok ER (xcell c 3 k) 0 0) ∗ (all fun k => dutyTok ER (xcell c 4 k) 0 0)
    ∗ all fun k => dutyTok ER (xcell c 5 k) 0 0)

/-- What the launch deals device `c`. -/
def G (c : Dev nD) : sProp 𝕄 :=
  iprop((bigSep Finset.univ fun k : Cell => roundState ER (rd m) (kcell (c, k)) 0)
    ∗ (bigSep Finset.univ fun k : Cell => iprop(atPos ER (kcell (c, k)) 0 ∅ 0 ∗ reached ER (kcell (c, k)) 0)) ∗ ownToks c)

theorem fund : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : Cell => Φ (kcell (c, k)) := by
    unfold kCells; rw [bigSep_map, bigSep_univ_prod]; rfl
  have hT : bigSep kToks (fun x => (dutyTok ER x.1 x.2.1 x.2.2 : sProp 𝕄)) = bigSep Finset.univ fun c : Dev nD => ownToks c := by
    unfold kToks; rw [bigSep_map, bigSep_univ_prod]
    refine bigSep_congr fun c _ => ?_
    rw [bigSep_univ_prod, over_option, over6]; rfl
  iintro HX
  imod (Rounds.fund ER (rd m) kCells kToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores' counters -/

omit [FloatOps F] in
theorem unscopedSems0_eq (c : Dev nD) : (unscopedSems0 c : sProp 𝕄) = semVal (barCell c) 0 := by
  unfold unscopedSems0
  rw [bigSep_eq_bigSepL_of_eq [SemLoc.reg barS] (by decide +kernel) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((all fun k => semVal (xcell c 0 k) 0) ∗ (all fun k => semVal (xcell c 1 k) 0) ∗ (all fun k => semVal (xcell c 2 k) 0)
      ∗ (all fun k => semVal (xcell c 3 k) 0) ∗ (all fun k => semVal (xcell c 4 k) 0) ∗ all fun k => semVal (xcell c 5 k) 0) :=
  over_x fun a k => semVal (xcell c a k) 0

omit [FloatOps F] in
/-- Counters at zero, as the launch has them and as the body leaves them. -/
theorem sems0_eq (c : Dev nD) :
    iprop(unscopedSems0 c ∗ Pipeline.ownSems0 (Ix := Unit) (Name := ℕ) (U := UU) (Lvl := ℕ) (Val := Elt F) (τ := τ) osem c) = (zeros c : sProp 𝕄) := by
  rw [ownSems0_eq, unscopedSems0_eq]; rfl

omit [FloatOps F] in
theorem zeros_eq (c : Dev nD) : (zeros c : sProp 𝕄) = bigSep Finset.univ fun k : Cell => semVal (kcell (c, k)) 0 := by
  rw [over_cells]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (rd m) κ (kcell (c, k))))
          ∗ (bigSep Finset.univ fun k : Cell => iprop(atPos ER (kcell (c, k)) 0 ∅ 0 ∗ reached ER (kcell (c, k)) 0)) ∗ ownToks c) := by
  unfold G
  iintro ⟨Hos, Hus, Hst, Hat, Htok⟩
  ihave Hv := (Entails.of_eq ((sems0_eq (F := F) c).trans (zeros_eq c))) $$ [Hos Hus]
  · isplitl [Hus] <;> iassumption
  imod (show iprop((bigSep Finset.univ fun k : Cell => semVal (kcell (c, k)) 0) ∗ bigSep Finset.univ fun k : Cell => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt to the devices that pay them -/

/-- Going `k + 1` devices on. -/
def turn (k : Fin 31) : Dev nD ≃ Dev nD := ⟨fun c => nb c k, fun c => pv c k, fun c => pv_nb c k, fun c => nb_pv c k⟩

omit [FloatOps F] in
theorem over_comm (Φ : Dev nD → Fin 31 → sProp 𝕄) : (bigSep Finset.univ fun c => all (Φ c)) = all fun k => bigSep Finset.univ fun c => Φ c k := by
  rw [← bigSep_univ_prod (fun ck : Dev nD × Fin 31 => Φ ck.1 ck.2), bigSep_univ_equiv (Equiv.prodComm (Fin 31) (Dev nD)), bigSep_univ_prod]
  rfl

omit [FloatOps F] in
theorem around (σ : Fin 31 → Dev nD ≃ Dev nD) (Φ : Dev nD → Fin 31 → sProp 𝕄) :
    (bigSep Finset.univ fun c => all (Φ c)) = bigSep Finset.univ fun c => all fun k => Φ (σ k c) k := by
  rw [over_comm, over_comm]
  exact bigSep_congr fun k _ => bigSep_univ_equiv (σ k) _

omit [FloatOps F] in
theorem toks_around : (bigSep Finset.univ fun c : Dev nD => (ownToks c : sProp 𝕄)) ⊢ bigSep Finset.univ fun c : Dev nD => toks c := by
  unfold ownToks toks
  simp only [all_sep]
  simp only [bigSep_sep']
  rw [around turn fun c k => (dutyTok ER (barCell c) 0 k : sProp 𝕄), around turn fun c k => (dutyTok ER (xcell c 1 k) 0 0 : sProp 𝕄),
    around turn fun c k => (dutyTok ER (xcell c 3 k) 0 0 : sProp 𝕄), around (fun k => (turn k).symm) fun c k => (dutyTok ER (xcell c 5 k) 0 0 : sProp 𝕄)]
  iintro ⟨HB, H0, H1, H2, H3, H4, H5⟩
  isplitl [HB]; · iexact HB
  isplitl [H0 H1]
  · isplitl [H0]; · iexact H0
    iexact H1
  isplitl [H2 H3]
  · isplitl [H2]; · iexact H2
    iexact H3
  isplitl [H4]; · iexact H4
  iexact H5

omit [FloatOps F] in
theorem over_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Cell → ℕ) (c : Dev nD) : iprop(records m K ∗ (marks c ∗ toks c)) ⊢ G' m c := by
  unfold G'
  iintro ⟨H1, H2, H3⟩
  iexists K
  isplitl [H1]; · iexact H1
  isplitl [H2]; · iexact H2
  iexact H3

theorem regroup :
    (bigSep Finset.univ fun c : Dev nD => iprop((bigSep Finset.univ fun k : Cell => iprop(∃ κ : ℕ, cellInv ER (rd m) κ (kcell (c, k))))
          ∗ (bigSep Finset.univ fun k : Cell => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Cell => iprop(∃ κ : ℕ, cellInv ER (rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (rd m) κ (kcell ck) : sProp 𝕄))) $$ HI
  icases HK with ⟨%K, #HI⟩
  ihave Htk := (toks_around (F := F)) $$ Htok
  iapply (over_with_persistent (R := records m K) fun c _ => G'_intro m K c)
  isplitr
  · unfold records; isplitl; · iexact HI
    iexact HR
  · iapply ((Entails.of_eq (bigSep_sep' Finset.univ (fun c : Dev nD => bigSep Finset.univ fun k : Cell => (atPos ER (kcell (c, k)) 0 ∅ 0 : sProp 𝕄)) toks).symm).trans
      (bigSep_mono fun c _ => show _ ⊢ iprop(marks c ∗ toks c) from Entails.of_eq (by unfold marks; rw [over_cells])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What all devices owe one semaphore each, a turn away, is that much credit on every device's own. -/
theorem launch_one (σ : Dev nD ≃ Dev nD) (x : Cell) (n : ℕ) (c : Dev nD) :
    (Pipeline.launchCred (fun d => tallyAt (kcell (σ d, x)) () n) c : sProp 𝕄) ⊢ cred (tallyAt (kcell (c, x)) () n) := by
  refine (Pipeline.launchCred_elim _ c (csem x)).trans (Entails.of_eq ?_)
  congr 1
  unfold tallyAt
  refine congrArg _ (Finsupp.ext fun u => ?_); cases u
  rw [Pipeline.launchCredit_owing, Finsupp.single_eq_same, Finset.sum_eq_single (σ.symm c)]
  · rw [Equiv.apply_symm_apply]
    show (tallyAt (kcell (c, x)) () n : CellTallies nD τ sig Unit) (kcell (c, x)) () = n
    rw [tallyAt_apply, if_pos ⟨rfl, rfl⟩]
  · intro d _ hd
    show (tallyAt (kcell (σ d, x)) () n : CellTallies nD τ sig Unit) (kcell (c, x)) () = 0
    rw [tallyAt_apply, if_neg]
    rintro ⟨h, -⟩
    have h1 : c = σ d := congrArg Prod.fst (kcell_injective h)
    exact hd (by rw [h1, Equiv.symm_apply_apply])
  · exact fun h => absurd (Finset.mem_univ _) h

omit [FloatOps F] in
theorem launch_all (σ : Fin 31 → Dev nD ≃ Dev nD) (x : Fin 31 → Cell) (n : ℕ) (c : Dev nD) :
    (Pipeline.launchCred (fun d => (offs.map fun k => tallyAt (kcell (σ k d, x k)) () n : List (CellTallies nD τ sig Unit)).sum) c : sProp 𝕄)
      ⊢ all fun k => cred (tallyAt (kcell (c, x k)) () n) := by
  have h (d : Dev nD) : (offs.map fun k => tallyAt (kcell (σ k d, x k)) () n : List (CellTallies nD τ sig Unit)).sum = ∑ k ∈ Finset.univ, tallyAt (kcell (σ k d, x k)) () n :=
    (Fin.sum_univ_def _).symm
  rw [show (fun d : Dev nD => (offs.map fun k => tallyAt (kcell (σ k d, x k)) () n : List (CellTallies nD τ sig Unit)).sum)
    = fun d => ∑ k ∈ Finset.univ, (fun (k : Fin 31) (d : Dev nD) => (tallyAt (kcell (σ k d, x k)) () n : CellTallies nD τ sig Unit)) k d from funext h, Pipeline.launchCred_sum]
  exact bigSep_mono fun k _ => launch_one (σ k) (x k) n c

omit [FloatOps F] in
theorem tallyAt_mul (g : GSem nD τ sig) (n : ℕ) : n • (tallyAt g () 1 : CellTallies nD τ sig Unit) = tallyAt g () n := by
  induction n with
  | zero => rw [zero_nsmul]; exact (tallyAt_zero _ _).symm
  | succ n ih => rw [succ_nsmul, ih, tallyAt_add]

omit [FloatOps F] in
theorem launch_creds (c : Dev nD) : (Pipeline.launchCred O₀ c : sProp 𝕄) ⊢ creds c := by
  have hB : (all fun k => cred (tallyAt (barCell c) () 1) : sProp 𝕄) = cred (tallyAt (barCell c) () 31) := by
    have h : (tallyAt (barCell c) () 31 : CellTallies nD τ sig Unit) = ∑ k : Fin 31, tallyAt (barCell c) () 1 := by
      rw [Finset.sum_const, Finset.card_univ, Fintype.card_fin, tallyAt_mul]
    rw [h, Pipeline.cred_finsetSum]
  have h1 : (Pipeline.launchCred (fun d => OB d offs) c : sProp 𝕄) ⊢ all fun k => cred (tallyAt (barCell c) () 1) := launch_all turn (fun _ => none) 1 c
  have h2 : (Pipeline.launchCred (fun d => OC d offs) c : sProp 𝕄) ⊢ all fun k => cred (tallyAt (xcell c 1 k) () (credit 1)) := launch_all turn (fun k => some (1, k)) (credit 1) c
  have h3 : (Pipeline.launchCred (fun d => OD d offs) c : sProp 𝕄) ⊢ all fun k => cred (tallyAt (xcell c 3 k) () (credit 3)) := launch_all turn (fun k => some (3, k)) (credit 3) c
  have h4 : (Pipeline.launchCred (fun d => OR d offs) c : sProp 𝕄) ⊢ all fun k => cred (tallyAt (xcell c 5 k) () (credit 5)) :=
    launch_all (fun k => (turn k).symm) (fun k => some (5, k)) (credit 5) c
  have hO : (O₀ : Dev nD → CellTallies nD τ sig Unit) = fun d => (((fun _ => 0) d + OR d offs) + OD d offs + OC d offs) + OB d offs := rfl
  rw [hO, Pipeline.launchCred_add, Pipeline.launchCred_add, Pipeline.launchCred_add, Pipeline.launchCred_add]
  unfold creds
  iintro ⟨⟨⟨⟨-, HR⟩, HD⟩, HC⟩, HB⟩
  isplitl [HB]
  · ihave HB := h1 $$ HB
    iapply (Entails.of_eq hB); iexact HB
  isplitl [HC]
  · iapply h2; iexact HC
  isplitl [HD]
  · iapply h3; iexact HD
  iapply h4; iexact HR

end Cert.KernelIdeal.Proto

end
-- ==== Proof.Run.lean ====
/- The run of the whole program, over any float values: the result on every device, the arguments unchanged, every
   semaphore at zero. -/
module

public import proofs.«01_k».proof.Proof.Deal

@[expose] public section

noncomputable section

namespace Cert.KernelIdeal.Proto

open Cert.KernelIdeal Cert.KernelIdeal.Gen Cert.KernelIdeal.Tidy

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- The router's weights, which the kernel never touches. -/
def idlePts (c : Dev nD) : sProp 𝕄 := ((c : Thread nD τ).loc main_arg1) ↦{fullShare} m ((c : Thread nD τ).loc main_arg1)

/-- What the router's weights hold is read off the points-to. -/
theorem idle_read (c : Dev nD) (s' : Phys nD τ sig (Elt F)) :
    iprop(idlePts m c ∗ SI s')
      ⊢ iprop(⌜s'.mem.mem ((c : Thread nD τ).loc main_arg1) = m ((c : Thread nD τ).loc main_arg1)⌝ ∗ SI s') := by
  have h := pointsTo_read_all (Ix := Unit) (Name := ℕ) (U := UU) (Lvl := ℕ) {()} (fun _ : Unit => (c : Thread nD τ).loc main_arg1)
    (fun _ => m ((c : Thread nD τ).loc main_arg1)) s'
  rw [bigSep_singleton] at h
  unfold idlePts
  iintro H
  ihave H := h $$ H
  icases H with ⟨%hm, HS⟩
  isplitr [HS]
  · ipureintro; exact hm () (Finset.mem_singleton_self _)
  · iexact HS

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ idlePts m c) := by
  rw [Pipeline.unscopedRestP_none, unscopedRest0_eq]
  iintro ⟨Hidle, Hlev, Hcr, -, HG⟩
  ihave Hc := (launch_creds (F := F) c) $$ Hcr
  imodintro
  unfold start idlePts
  isplitr [Hidle]
  · isplitl [HG]; · iexact HG
    isplitl [Hc]; · iexact Hc
    iexact Hlev
  · iexact Hidle

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scopedRest0_eq]
  unfold scr
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr c ∗ zeros c) from rfl, scopedRest0_eq, ← sems0_eq]
  unfold scr
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait (F := F) c _ (n := 0) (by fin_cases w <;> fin_cases s <;> decide) (by
      rcases t with ⟨_ | _, ht⟩
      · exact above_O₀ c
      · exact above_zero _)

def finalA (c : Dev nD) (w : Fin cfg0.W) : Buf (Elt F) ((cfg0.win w).arr.view.loc (c : Thread nD τ)) := (dats m ρ 0 c).arrAt w cfg0.N

/-- What a window's array holds after the run, and the router's weights. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 200000 in
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := idlePts m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hz, HSI⟩
      icases (idle_read m c s') $$ [Hz HSI] with ⟨%hm, HSI⟩
      · isplitl [Hz] <;> iassumption
      imod (Pipeline.unscopedSems0_read (X := unscopedSems0 c) (c := c) fupd_intro s') $$ [Hu HSI] with ⟨%h, HSI⟩
      · isplitl [Hu] <;> iassumption
      imodintro
      isplitr; · ipureintro; exact ⟨h, hm⟩
      iexact HSI)
    (hQ := fun _ h hs => ⟨fun c => ⟨fun w => (h c).1 w, (h c).2.2.2⟩, sem_eq_zero hs fun c => (h c).2.2.1⟩)

/-- Each window is on its whole array: what the blocks read is the arrays as launched. -/
theorem xs_eq (m : (ℓ : Loc nD τ sig) → Buf (Elt F) ℓ) (c : Dev nD) : xs m c = m ((c : Thread nD τ).loc main_arg0) := by
  show ((cfg0.win 0).blk t0_0).view.read (Elt F) (m ((c : Thread nD τ).loc main_arg0)) = _
  exact Memref.read_access_unit_zero (Elt F) main_arg0 (off := fun a => (win0_0.index t0_0) a * main_arg0.ty.shape.size a)
    (funext fun a => by fin_cases a <;> rfl) (fun a => by fin_cases a <;> decide) _
theorem es_eq (m : (ℓ : Loc nD τ sig) → Buf (Elt F) ℓ) (c : Dev nD) : es m c = m ((c : Thread nD τ).loc main_arg2) := by
  show ((cfg0.win 1).blk t0_0).view.read (Elt F) (m ((c : Thread nD τ).loc main_arg2)) = _
  exact Memref.read_access_unit_zero (Elt F) main_arg2 (off := fun a => (win0_1.index t0_0) a * main_arg2.ty.shape.size a)
    (funext fun a => by fin_cases a <;> rfl) (fun a => by fin_cases a <;> decide) _
theorem ws_eq (m : (ℓ : Loc nD τ sig) → Buf (Elt F) ℓ) (c : Dev nD) : ws m c = m ((c : Thread nD τ).loc main_arg3) := by
  show ((cfg0.win 2).blk t0_0).view.read (Elt F) (m ((c : Thread nD τ).loc main_arg3)) = _
  exact Memref.read_access_unit_zero (Elt F) main_arg3 (off := fun a => (win0_2.index t0_0) a * main_arg3.ty.shape.size a)
    (funext fun a => by fin_cases a <;> rfl) (fun a => by fin_cases a <;> decide) _

/-- The result's array after the run holds the combined tokens. -/
theorem finalA_out (m : (ℓ : Loc nD τ sig) → Buf (Elt F) ℓ) (ρ : Dev nD → PrngReg) (c : Dev nD) : (finalA m ρ c 3 : Vec F S512x512 .f32) = OUT m c := by
  have h : (((cfg0.win 3).blk t0_0).view.read (Elt F) (finalA m ρ c 3) : Vec F S512x512 .f32) = OUT m c := by
    unfold finalA
    rw [show cfg0.N = (t0_0 : Fin cfg0.N).val + 1 from rfl, (dats m ρ 0 c).arrAt_succ 3 t0_0]
    rw [if_pos (flush0_3 t0_0)]
    exact View.read_write_univ _ _
  refine Eq.trans ?_ h
  exact (Memref.read_access_unit_zero (Elt F) main_v1 (off := fun a => (win0_3.index t0_0) a * main_v1.ty.shape.size a)
    (funext fun a => by fin_cases a <;> rfl) (fun a => by fin_cases a <;> decide) _).symm

/-- The run of the whole program: every device's result is the combined tokens of its block, no argument changes and
    every semaphore is at zero again. -/
theorem run_main : θ_run defs (onTc (τ := τ) (main (F := F))) (s₀ m ρ) (fun r =>
    (∀ c : Dev nD, r.2.mem ((c : Thread nD τ).loc main_v1) = OUT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine (θ_run defs _ _).mono (fun r h => ?_) (run_windows m ρ)
  refine ⟨fun c => ?_, h.2⟩
  obtain ⟨hw, hi⟩ := h.1 c
  refine ⟨(hw 3).trans (finalA_out m ρ c), ?_, hi, ?_, ?_⟩
  · exact (hw 0).trans ((dats m ρ 0 c).arrAt_in 0 rfl _)
  · exact (hw 1).trans ((dats m ρ 0 c).arrAt_in 1 rfl _)
  · exact (hw 2).trans ((dats m ρ 0 c).arrAt_in 2 rfl _)

/-- The same run with the values dropped: no argument changes and every semaphore is at zero again. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => (h.1 c).2, h.2⟩) (run_main m ρ)

end Cert.KernelIdeal.Proto

end
-- ==== Proof.Frames.lean ====
/- The claims on the arguments and the semaphores: of the program, of its idealization and of the reference. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The program and its idealization are one text: their tables of kernel bodies are one, -/
theorem bodies_eq : (Cert.Kernel.defs₀ (F := Bits)) = (Cert.KernelIdeal.defs₀ (F := Bits)) := by
  unfold Cert.Kernel.defs₀ Cert.KernelIdeal.defs₀
  refine congrArg Defs.onTc (funext fun l => ?_)
  match l with
  | 0 => exact funext fun x => rfl

/-- and so are the tables with the pipeline. -/
theorem defs_eq : (Cert.Kernel.defs (F := Bits)) = (Cert.KernelIdeal.defs (F := Bits)) :=
  congrArg (Pipeline.defs Cert.KernelIdeal.pcfgs) bodies_eq

/-- The program ends with its arguments unchanged and its semaphores at zero. -/
theorem frame_kernel : Cert.quiescent_Kernel := fun m ρ _ => by
  have h := Cert.KernelIdeal.Proto.run_frame (F := Bits) m ρ
  rw [← defs_eq] at h
  exact h

/-- So does its idealization. -/
theorem frame_ideal : Cert.quiescent_KernelIdeal := fun m ρ _ => Cert.KernelIdeal.Proto.run_frame (F := Ideal) m ρ

/-- The reference ends with its arguments unchanged and no semaphore raised. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Counts.lean ====
/- What the kernel counts, at the ideal values: the one-hot rows, how many tokens of a device name each expert, and how
   many tokens before a given one name its expert. -/
module

public import proofs.«01_k».proof.Proof.Protocol
public import Idealize.ShloMosaic.PureOps.Ideal.Laws
public import Idealize.ShloMosaic.Lib.ValueLayout
public import Idealize.ShloMosaic.Lib.ValueLayoutCasts
public import Idealize.ShloMosaic.Lib.ValueIdx
public import Idealize.ShloMosaic.Lib.MatmulPlain
public import Idealize.ShloMosaic.Lib.WordCmp

@[expose] public section

noncomputable section

namespace Cert.KernelIdeal.Val

open Cert.KernelIdeal Cert.KernelIdeal.Gen Cert.KernelIdeal.Tidy
open Idealize.ShloMosaic Idealize.ShloMosaic.ValueIdx Idealize.ShloMosaic.WordCmp

/-- A bit widened and converted is one or zero. -/
theorem bit_val (p : BitVec 1) : (((p.setWidth 32).toInt : ℝ) : EReal) = if p = 1#1 then 1 else 0 := by
  rcases (by decide : ∀ p : BitVec 1, p = 0#1 ∨ p = 1#1) p with h | h <;> subst h <;> simp

/-- A comparison's bit is set where the comparison holds. -/
theorem cmpi_eq_one {w : ℕ} (a b : BitVec w) : IntOp.cmpi .eq a b = 1#1 ↔ a = b := by
  rw [cmpi_eq_eq, ofBool_decide_eq_one_iff]

/-- A word below 64 is the word of its value. -/
theorem word_eq (w : BitVec 32) (k : Fin 64) (hw : w.toNat < 64) : w = BitVec.ofNat 32 k.val ↔ k = ⟨w.toNat, hw⟩ := by
  constructor
  · intro h
    apply Fin.ext
    have := congrArg BitVec.toNat h
    rw [BitVec.toNat_ofNat] at this
    have := k.isLt
    show k.val = w.toNat
    omega
  · intro h
    subst h
    simp

/-- A sum against the one-hot row of a word below 64 is the term at its value. -/
theorem sum_onehot (A : Fin 64 → EReal) (w : BitVec 32) (hw : w.toNat < 64) :
    ∑ k : Fin 64, A k * (if w = BitVec.ofNat 32 k.val then 1 else 0) = A ⟨w.toNat, hw⟩ := by
  rw [Finset.sum_eq_single (⟨w.toNat, hw⟩ : Fin 64)]
  · rw [if_pos ((word_eq w _ hw).2 rfl), mul_one]
  · intro k _ hk
    rw [if_neg fun h => hk ((word_eq w k hw).1 h), mul_zero]
  · intro h
    exact absurd (Finset.mem_univ _) h

/-- A sum of ones where something holds counts where it holds. -/
theorem sum_ind {ι : Type} [Fintype ι] (p : ι → Prop) [DecidablePred p] :
    (∑ i, if p i then (1 : EReal) else 0) = (((Finset.univ.filter p).card : ℕ) : EReal) := Finset.sum_boole _ _

variable (e : Vec Ideal S512x1 .i32)

/-- How many tokens name expert `k`. -/
def cnt (k : ℕ) : ℕ := (Finset.univ.filter fun t : Fin 512 => e (ix2 t 0) = BitVec.ofNat 32 k).card
/-- How many tokens before `t` name its expert. -/
def lrank (t : Fin 512) : ℕ := (Finset.univ.filter fun t' : Fin 512 => t' < t ∧ e (ix2 t' 0) = e (ix2 t 0)).card

/-- The one-hot rows: one at the token's expert, zero elsewhere. -/
theorem onehot_apply (t : Fin 512) (k : Fin 64) :
    (k0_pay2 (F := Ideal) e) (ix2 t k) = if e (ix2 t 0) = BitVec.ofNat 32 k.val then (1 : EReal) else 0 := by
  unfold k0_pay2 k0_pay1
  show (((BitVec.setWidth 32 (IntOp.cmpi .eq (broadcastTo S512x64 (shapeCast S512x1 e shapeCasts_S512x1_S512x1) broadcasts_S512x1_S512x64 (ix2 t k)) (iota .tc S512x64 32 [1] iota_S512x64_d1_w32 (ix2 t k)))).toInt : ℝ) : EReal) = _
  have hi : iota .tc S512x64 32 [1] iota_S512x64_d1_w32 (ix2 t k) = BitVec.ofNat 32 k.val := by simp [iota]
  have hb : broadcastTo S512x64 (shapeCast S512x1 e shapeCasts_S512x1_S512x1) broadcasts_S512x1_S512x64 (ix2 t k) = e (ix2 t 0) := by
    rw [shapeCast_self]
    exact broadcastTo_apply _ _ _ (ix2 t 0) (fun a => by fin_cases a <;> rfl)
  rw [bit_val, hi, hb, if_congr (cmpi_eq_one _ _) rfl rfl]

/-- The counts the kernel sends. -/
theorem counts_apply (k : Fin 64) : (k0_pay3 (F := Ideal) e) (ix3 0 0 k) = (cnt e k.val : EReal) := by
  unfold k0_pay3
  dsimp only
  rw [shapeCast_ab_1ab_apply, shapeCast_a_1a_apply]
  refine (Ideal.multiReduction_add_single _ _ _ _ _ _).trans ?_
  unfold cnt
  rw [← sum_ind]
  refine Finset.sum_congr rfl fun t _ => ?_
  rw [show reduces_S512x64_S64.lift (ix1 k) t = ix2 t k from funext fun a => by fin_cases a <;> rfl]
  exact onehot_apply e t k

/-- The strictly lower triangle. -/
def below : FVec Ideal S512x512 .f32 :=
  sitofp .f32 (extui 32 (cmpi .sgt (iota .tc S512x512 32 [0] iota_S512x512_d0_w32) (iota .tc S512x512 32 [1] iota_S512x512_d1_w32)) natLt_1_32)

theorem below_apply (t t' : Fin 512) : below (ix2 t t') = if t' < t then (1 : EReal) else 0 := by
  unfold below
  refine (bit_val _).trans (if_congr ?_ rfl rfl)
  show IntOp.cmpi .sgt (iota .tc S512x512 32 [0] _ (ix2 t t')) (iota .tc S512x512 32 [1] _ (ix2 t t')) = 1#1 ↔ _
  rw [show iota .tc S512x512 32 [0] iota_S512x512_d0_w32 (ix2 t t') = BitVec.ofNat 32 t.val by simp [iota],
    show iota .tc S512x512 32 [1] iota_S512x512_d1_w32 (ix2 t t') = BitVec.ofNat 32 t'.val by simp [iota],
    cmpi_sgt_ofNat (by have := t.isLt; omega) (by have := t'.isLt; omega), ofBool_decide_eq_one_iff]
  exact Iff.rfl

/-- For each token and expert: how many earlier tokens name the expert. -/
def earlier : FVec Ideal S512x64 .f32 :=
  matmul dot_S512x512_S512x64_S512x64_1_0_0_1_n_n none below (k0_pay2 (F := Ideal) e) (constant S512x64 .f32 0x00000000#32)

theorem earlier_apply (t : Fin 512) (k : Fin 64) :
    earlier e (ix2 t k) = ∑ t' : Fin 512, if t' < t ∧ e (ix2 t' 0) = BitVec.ofNat 32 k.val then (1 : EReal) else 0 := by
  unfold earlier
  refine (Ideal.matmul_plain_apply (M := 512) (K := 512) (N := 64) none _ _ _ t k).trans ?_
  rw [constant_apply, Ideal.ofBits_zero_f32, zero_add]
  refine Finset.sum_congr rfl fun t' _ => ?_
  rw [onehot_apply, below_apply]
  by_cases h1 : t' < t <;> simp [h1]

/-- The rank of each token among its device's. -/
theorem rank_apply (he : ∀ t, (e (ix2 t 0)).toNat < 64) (t : Fin 512) :
    (k0_pay4 (F := Ideal) (k0_pay2 e)) (ix2 t 0) = (lrank e t : EReal) := by
  have h (k : Fin 64) : mulf (earlier e) (k0_pay2 (F := Ideal) e) (reduces_S512x64_S512.lift (ix1 t) k)
      = (∑ t' : Fin 512, if t' < t ∧ e (ix2 t' 0) = BitVec.ofNat 32 k.val then (1 : EReal) else 0)
        * (if e (ix2 t 0) = BitVec.ofNat 32 k.val then 1 else 0) := by
    rw [show reduces_S512x64_S512.lift (ix1 t) k = ix2 t k from funext fun a => by fin_cases a <;> rfl, mulf_apply, onehot_apply, earlier_apply]
  show shapeCast S512x1 (multiReduction .add [1] S512 (mulf (earlier e) (k0_pay2 (F := Ideal) e)) 0x00000000#32 reduces_S512x64_S512 (.inl rfl) rfl) shapeCasts_S512_S512x1 (ix2 t 0) = _
  rw [shapeCast_a_a1_apply]
  refine (Ideal.multiReduction_add_single _ _ _ _ _ _).trans ?_
  refine (Finset.sum_congr rfl fun k _ => h k).trans ?_
  refine (sum_onehot (fun k : Fin 64 => ∑ t' : Fin 512, if t' < t ∧ e (ix2 t' 0) = BitVec.ofNat 32 k.val then (1 : EReal) else 0) _ (he t)).trans ?_
  unfold lrank
  rw [← sum_ind]
  refine Finset.sum_congr rfl fun t' _ => if_congr (and_congr_right fun _ => ?_) rfl rfl
  rw [show BitVec.ofNat 32 (⟨(e (ix2 t 0)).toNat, he t⟩ : Fin 64).val = e (ix2 t 0) by simp]

end Cert.KernelIdeal.Val

end
-- ==== Proof.Place.lean ====
/- Which tokens the kernel keeps, and where it places each, at the ideal values and in plain numbers. -/
module

public import proofs.«01_k».proof.Proof.Counts

@[expose] public section

noncomputable section

namespace Cert.KernelIdeal.Val

open Cert.KernelIdeal Cert.KernelIdeal.Gen Cert.KernelIdeal.Tidy
open Idealize.ShloMosaic Idealize.ShloMosaic.ValueIdx Idealize.ShloMosaic.WordCmp

/-- A device's number among the 32. -/
theorem my_eq : ∀ c : Dev nD, my c = BitVec.ofNat 32 c.val := by decide +kernel

/-- The bound on a token's rank among all devices. -/
theorem bound_kept : Ideal.ofBits .f32 0x434C0000#32 = ((204 : ℕ) : EReal) := by
  rw [show ((204 : ℕ) : EReal) = ((204 : ℝ) : EReal) by norm_cast]
  simp [Ideal.ofBits, Ideal.ieee, -EReal.coe_mul]; norm_num
/-- The bound on a token's rank among its device's. -/
theorem bound_local : Ideal.ofBits .f32 0x42000000#32 = ((32 : ℕ) : EReal) := by
  rw [show ((32 : ℕ) : EReal) = ((32 : ℝ) : EReal) by norm_cast]
  simp [Ideal.ofBits, Ideal.ieee, -EReal.coe_mul]; norm_num

/-- The comparison of two counts. -/
theorem cmp_counts (a b : ℕ) : Ideal.cmp .olt (a : EReal) (b : EReal) = 1#1 ↔ a < b := by
  unfold Ideal.cmp
  rw [← Nat.cast_lt (α := EReal)]
  by_cases h : (a : EReal) < (b : EReal) <;> simp [h]

/-- A count converted to a word. -/
theorem fptosi_count (n : ℕ) (hn : n < 2 ^ 31) : Ideal.fptosi 32 (n : EReal) = BitVec.ofNat 32 n := by
  rw [← EReal.coe_natCast, Ideal.fptosi, Ideal.toIntClamped_coe]
  rw [if_pos (by positivity), Int.floor_natCast]
  norm_num
  first | rw [min_eq_right (by omega)] | skip
  exact BitVec.ofInt_natCast ..

variable (c : Dev nD) (e : Vec Ideal S512x1 .i32)

/-- How many tokens naming expert `k` the devices before `c` hold, of the counts `q j k` of the device `j` places before. -/
def prior (q : Fin 32 → ℕ) : ℕ := ∑ j : Fin 32, if 1 ≤ j.val ∧ j.val ≤ c.val then q j else 0

/-- Which rows of the counts the earlier devices sent. -/
def sentBy : FVec Ideal S32x1 .f32 :=
  sitofp .f32 (extui 32 (andi (cmpi .sge (iota .tc S32x1 32 [0] iota_S32x1_d0_w32) (broadcast S32x1 1#32))
    (cmpi .sle (iota .tc S32x1 32 [0] iota_S32x1_d0_w32) (broadcast S32x1 (my c)))) natLt_1_32)

theorem sentBy_apply (j : Fin 32) : sentBy c (ix2 j 0) = if 1 ≤ j.val ∧ j.val ≤ c.val then (1 : EReal) else 0 := by
  unfold sentBy
  refine (bit_val _).trans (if_congr ?_ rfl rfl)
  show IntOp.andi (IntOp.cmpi .sge (iota .tc S32x1 32 [0] iota_S32x1_d0_w32 (ix2 j 0)) 1#32)
    (IntOp.cmpi .sle (iota .tc S32x1 32 [0] iota_S32x1_d0_w32 (ix2 j 0)) (my c)) = 1#1 ↔ _
  rw [show iota .tc S32x1 32 [0] iota_S32x1_d0_w32 (ix2 j 0) = BitVec.ofNat 32 j.val by simp [iota], my_eq]
  revert j c
  decide +kernel

/-- The counts of the earlier devices, summed. -/
def sumPrior (C : Vec Ideal S32x1x64 .f32) : FVec Ideal S64 .f32 :=
  multiReduction .add [0] S64 (mulf (shapeCast S32x64 C shapeCasts_S32x1x64_S32x64) (broadcastTo S32x64 (sentBy c) broadcasts_S32x1_S32x64))
    0x00000000#32 reduces_S32x64_S64 (.inl rfl) rfl

theorem sumPrior_apply (C : Vec Ideal S32x1x64 .f32) (q : Fin 32 → Fin 64 → ℕ) (hC : ∀ j k, C (ix3 j 0 k) = ((q j k : ℕ) : EReal))
    (k : Fin 64) : sumPrior c C (ix1 k) = ((prior c fun j => q j k : ℕ) : EReal) := by
  unfold sumPrior prior
  refine (Ideal.multiReduction_add_single _ _ _ _ _ _).trans ?_
  rw [Nat.cast_sum]
  refine Finset.sum_congr rfl fun (j : Fin 32) _ => ?_
  rw [show reduces_S32x64_S64.lift (ix1 k) j = ix2 j k from funext fun a => by fin_cases a <;> rfl, mulf_apply,
    shapeCast_apply _ _ (ix2 j k) (ix3 j 0 k) (by
      rw [Shape.rowMajor_val_three, Shape.rowMajor_val_two]; show (j.val * 1 + 0) * 64 + k.val = j.val * 64 + k.val; omega), hC,
    broadcastTo_apply _ _ (ix2 j k) (ix2 j 0) (fun a => by fin_cases a <;> rfl), sentBy_apply]
  by_cases h : 1 ≤ j.val ∧ j.val ≤ c.val <;> simp [h]

/-- Each token's count of the tokens the earlier devices hold that name its expert. -/
def ahead204 (C : Vec Ideal S32x1x64 .f32) : FVec Ideal S512x1 .f32 :=
  shapeCast S512x1 (multiReduction .add [1] S512 (mulf (k0_pay2 (F := Ideal) e)
    (broadcastTo S512x64 (shapeCast S1x64 (sumPrior c C) shapeCasts_S64_S1x64) broadcasts_S1x64_S512x64))
    0x00000000#32 reduces_S512x64_S512 (.inl rfl) rfl) shapeCasts_S512_S512x1

theorem ahead204_apply (he : ∀ t, (e (ix2 t 0)).toNat < 64) (C : Vec Ideal S32x1x64 .f32) (q : Fin 32 → Fin 64 → ℕ)
    (hC : ∀ j k, C (ix3 j 0 k) = ((q j k : ℕ) : EReal)) (t : Fin 512) :
    ahead204 c e C (ix2 t 0) = ((prior c fun j => q j ⟨(e (ix2 t 0)).toNat, he t⟩ : ℕ) : EReal) := by
  unfold ahead204
  rw [shapeCast_a_a1_apply]
  refine (Ideal.multiReduction_add_single _ _ _ _ _ _).trans ?_
  refine Eq.trans (Finset.sum_congr rfl fun (k : Fin 64) _ => ?_)
    (sum_onehot (fun k => ((prior c fun j => q j k : ℕ) : EReal)) _ (he t))
  rw [show reduces_S512x64_S512.lift (ix1 t) k = ix2 t k from funext fun a => by fin_cases a <;> rfl, mulf_apply, onehot_apply,
    broadcastTo_1b_ab_apply, shapeCast_a_1a_apply, sumPrior_apply c C q hC]
  exact mul_comm _ _

/-- A token is kept where its ranks are below the bounds. -/
theorem keep_apply (he : ∀ t, (e (ix2 t 0)).toNat < 64) (C : Vec Ideal S32x1x64 .f32) (q : Fin 32 → Fin 64 → ℕ)
    (hC : ∀ j k, C (ix3 j 0 k) = ((q j k : ℕ) : EReal)) (t : Fin 512) :
    keep (F := Ideal) c e C (ix2 t 0) = 1#1
      ↔ (prior c fun j => q j ⟨(e (ix2 t 0)).toNat, he t⟩) + lrank e t < 204 ∧ lrank e t < 32 := by
  show IntOp.andi (Ideal.cmp .olt (ahead204 c e C (ix2 t 0) + k0_pay4 (F := Ideal) (k0_pay2 e) (ix2 t 0)) (Ideal.ofBits .f32 0x434C0000#32))
    (Ideal.cmp .olt (k0_pay4 (F := Ideal) (k0_pay2 e) (ix2 t 0)) (Ideal.ofBits .f32 0x42000000#32)) = 1#1 ↔ _
  rw [ahead204_apply c e he C q hC, rank_apply e he, bound_kept, bound_local, ← Nat.cast_add,
    show ∀ a b : BitVec 1, IntOp.andi a b = 1#1 ↔ a = 1#1 ∧ b = 1#1 by decide, cmp_counts, cmp_counts]

/-- The base of an expert's place, from device `c`. -/
theorem base_words : ∀ (k : Fin 64) (c : Dev nD),
    k0_pay11 (my c) (broadcast S512x1 (BitVec.ofNat 32 k.val)) (broadcast S512x1 0#32) (k0_pay7 (broadcast S512x1 (BitVec.ofNat 32 k.val)))
      (k0_pay8 (broadcast S512x1 (BitVec.ofNat 32 k.val))) (k0_pay9 (broadcast S512x1 (BitVec.ofNat 32 k.val))) k0_pay10 (ix2 0 0)
    = BitVec.ofNat 32 (64 * ((k.val / 2 + 32 - c.val) % 32) + 32 * (k.val % 2)) := by decide +kernel

/-- A place is a base plus the token's rank. -/
theorem base_split (m : BitVec 32) (e a : IVec S512x1 32) (b : IVec S512x1 1) (d z : IVec S512x1 32) :
    ∃ X : IVec S512x1 32, ∀ l, k0_pay11 m e l a b d z = addi X l := ⟨_, fun _ => rfl⟩

/-- The base at a token depends on the token's expert alone. -/
theorem base_local (m : BitVec 32) (t : Fin 512) :
    k0_pay11 m e (broadcast S512x1 0#32) (k0_pay7 e) (k0_pay8 e) (k0_pay9 e) k0_pay10 (ix2 t 0)
      = k0_pay11 m (broadcast S512x1 (e (ix2 t 0))) (broadcast S512x1 0#32) (k0_pay7 (broadcast S512x1 (e (ix2 t 0))))
        (k0_pay8 (broadcast S512x1 (e (ix2 t 0)))) (k0_pay9 (broadcast S512x1 (e (ix2 t 0)))) k0_pay10 (ix2 0 0) := by
  simp only [k0_pay11, k0_pay7, k0_pay8, k0_pay9, k0_pay10, addi, subi, muli, andi, xori, cmpi, remsi, divsi, extui, select, broadcast, broadcastTo]

theorem base_add (m : BitVec 32) (l : IVec S512x1 32) (t : Fin 512) :
    k0_pay11 m e l (k0_pay7 e) (k0_pay8 e) (k0_pay9 e) k0_pay10 (ix2 t 0)
      = k0_pay11 m (broadcast S512x1 (e (ix2 t 0))) (broadcast S512x1 0#32) (k0_pay7 (broadcast S512x1 (e (ix2 t 0))))
        (k0_pay8 (broadcast S512x1 (e (ix2 t 0)))) (k0_pay9 (broadcast S512x1 (e (ix2 t 0)))) k0_pay10 (ix2 0 0) + l (ix2 t 0) := by
  rw [← base_local]
  obtain ⟨X, hX⟩ := base_split m e (k0_pay7 e) (k0_pay8 e) (k0_pay9 e) k0_pay10
  rw [hX, hX]
  show X (ix2 t 0) + l (ix2 t 0) = (X (ix2 t 0) + 0#32) + l (ix2 t 0)
  rw [BitVec.add_zero]

/-- The row a token is placed at: 64 rows for each device ahead, 32 for each of its two experts, then the token's rank. -/
def row (t : Fin 512) : ℕ :=
  64 * (((e (ix2 t 0)).toNat / 2 + 32 - c.val) % 32) + 32 * ((e (ix2 t 0)).toNat % 2) + lrank e t

theorem lrank_lt (t : Fin 512) : lrank e t ≤ 512 := (Finset.card_le_univ _).trans (by simp)

theorem place_apply (he : ∀ t, (e (ix2 t 0)).toNat < 64) (t : Fin 512) :
    place (F := Ideal) c e (ix2 t 0) = BitVec.ofNat 32 (row c e t) := by
  have h := base_words ⟨(e (ix2 t 0)).toNat, he t⟩ c
  rw [show BitVec.ofNat 32 (⟨(e (ix2 t 0)).toNat, he t⟩ : Fin 64).val = e (ix2 t 0) by simp] at h
  have hp : k0_pay1 (F := Ideal) e = e := shapeCast_self _ _
  have h1 : k0_pay6 (F := Ideal) (k0_pay4 (F := Ideal) (k0_pay2 e)) (ix2 t 0) = Ideal.fptosi 32 (k0_pay4 (F := Ideal) (k0_pay2 e) (ix2 t 0)) := rfl
  unfold place
  rw [hp, base_add, h1, h, rank_apply e he, fptosi_count _ (lt_of_le_of_lt (lrank_lt e t) (by norm_num)), row, ← BitVec.ofNat_add]

end Cert.KernelIdeal.Val

end
-- ==== Proof.Rows.lean ====
/- What the kernel computes from its one-hot selection: each kept token's row times its expert's weights. -/
module

public import proofs.«01_k».proof.Proof.Place

@[expose] public section

noncomputable section

namespace Cert.KernelIdeal.Val

open Cert.KernelIdeal Cert.KernelIdeal.Gen Cert.KernelIdeal.Tidy Cert.KernelIdeal.Proto
open Idealize.ShloMosaic Idealize.ShloMosaic.ValueIdx Idealize.ShloMosaic.WordCmp

/-- The selection: one where the row is the kept token's place. -/
theorem sel_apply (K : IVec S512x1 1) (P : IVec S512x1 32) (t : Fin 512) (r : Fin 2048) :
    k0_pay12 (F := Ideal) K P (ix2 t r) = if BitVec.ofNat 32 r.val = P (ix2 t 0) ∧ K (ix2 t 0) = 1#1 then (1 : EReal) else 0 := by
  refine (bit_val _).trans (if_congr ?_ rfl rfl)
  show IntOp.andi (IntOp.cmpi .eq (iota .tc S512x2048 32 [1] iota_S512x2048_d1_w32 (ix2 t r)) (broadcastTo S512x2048 P broadcasts_S512x1_S512x2048 (ix2 t r)))
    (broadcastTo S512x2048 K broadcasts_S512x1_S512x2048 (ix2 t r)) = 1#1 ↔ _
  rw [show iota .tc S512x2048 32 [1] iota_S512x2048_d1_w32 (ix2 t r) = BitVec.ofNat 32 r.val by simp [iota],
    broadcastTo_apply _ _ (ix2 t r) (ix2 t 0) (fun a => by fin_cases a <;> rfl),
    broadcastTo_apply _ _ (ix2 t r) (ix2 t 0) (fun a => by fin_cases a <;> rfl),
    show ∀ a b : BitVec 1, IntOp.andi a b = 1#1 ↔ a = 1#1 ∧ b = 1#1 by decide, cmpi_eq_one]

/-- The gathered rows: the selection's columns times the tokens. -/
theorem gather_apply (K : IVec S512x1 1) (P : IVec S512x1 32) (x : Vec Ideal S512x256 .bf16) (r : Fin 2048) (d : Fin 256) :
    k0_pay13 (F := Ideal) K P x (ix2 r d) = ∑ t : Fin 512, k0_pay12 (F := Ideal) K P (ix2 t r) * x (ix2 t d) := by
  have h := Ideal.matmul_constant_zero_apply (φ₁ := .bf16) (φ₂ := .bf16) dot_S512x2048_S512x256_S2048x256_0_0_1_1_n_n none
    (k0_pay12 (F := Ideal) K P) (shapeCast S512x256 x shapeCasts_S512x256_S512x256) (ix2 r d)
  unfold k0_pay13
  rw [shapeCast_self, show ∀ y : FVec Ideal S2048x256 .f32, truncf .bf16 y bitsLt_bf16_f32 = y from fun _ => rfl]
  refine h.trans ?_
  rw [shapeCast_self]
  refine Fintype.sum_equiv (contrEquiv1 dot_S512x2048_S512x256_S2048x256_0_0_1_1_n_n 512 rfl rfl) _ _ fun k => ?_
  refine congrArg₂ (· * ·) (congrArg _ ?_) (congrArg _ ?_)
  · exact funext fun a => by fin_cases a <;> rfl
  · exact funext fun a => by fin_cases a <;> rfl

/-- The results: the selection times the rows that came back. -/
theorem spread_apply (S : FVec Ideal S512x2048 .bf16) (R : Vec Ideal S2048x512 .bf16) (t f : Fin 512) :
    k0_pay94 (F := Ideal) S R (ix2 t f) = ∑ r : Fin 2048, S (ix2 t r) * R (ix2 r f) := by
  unfold k0_pay94
  refine (Ideal.matmul_plain_apply (M := 512) (K := 2048) (N := 512) none _ _ _ t f).trans ?_
  rw [constant_apply, Ideal.ofBits_zero_f32, zero_add]

/-- 32 rows times one expert's weights. -/
theorem expert_apply (a : Vec Ideal S32x256 .bf16) (w : Vec Ideal S1x256x512 .bf16) (i : Fin 32) (f : Fin 512) :
    k0_pay15 (F := Ideal) a w (ix2 i f) = ∑ d : Fin 256, a (ix2 i d) * w (ix3 0 d f) := by
  unfold k0_pay15
  rw [shapeCast_self, show ∀ y : FVec Ideal S32x512 .f32, truncf .bf16 y bitsLt_bf16_f32 = y from fun _ => rfl]
  refine (Ideal.matmul_plain_apply (M := 32) (K := 256) (N := 512) none _ _ _ i f).trans ?_
  rw [constant_apply, Ideal.ofBits_zero_f32, zero_add]
  exact Finset.sum_congr rfl fun d _ => congrArg (a (ix2 i d) * ·) (shapeCast_1ab_ab_apply _ _ d f)

variable (m : (ℓ : Loc nD τ sig) → Buf (Elt Ideal) ℓ) (c : Dev nD)

/-- Two tokens of one device and expert with one rank are the same token. -/
theorem lrank_inj (e : Vec Ideal S512x1 .i32) (t t' : Fin 512) (h : e (ix2 t 0) = e (ix2 t' 0)) (hl : lrank e t = lrank e t') : t = t' := by
  have key (a b : Fin 512) (hab : e (ix2 a 0) = e (ix2 b 0)) (hlt : a < b) : lrank e a < lrank e b := by
    refine Finset.card_lt_card (Finset.ssubset_iff_subset_ne.2 ⟨fun s hs => ?_, fun hne => ?_⟩)
    · rw [Finset.mem_filter] at hs ⊢
      exact ⟨hs.1, hs.2.1.trans hlt, hs.2.2.trans hab⟩
    · have : a ∈ Finset.univ.filter fun s : Fin 512 => s < a ∧ e (ix2 s 0) = e (ix2 a 0) := by
        rw [hne, Finset.mem_filter]
        exact ⟨Finset.mem_univ _, hlt, hab⟩
      rw [Finset.mem_filter] at this
      exact lt_irrefl _ this.2.1
  rcases lt_trichotomy t t' with hlt | heq | hgt
  · exact absurd hl (key t t' h hlt).ne
  · exact heq
  · exact absurd hl.symm (key t' t h.symm hgt).ne

/-- Two tokens of one device with ranks below 32 and one place are the same token. -/
theorem row_inj (e : Vec Ideal S512x1 .i32) (he : ∀ t, (e (ix2 t 0)).toNat < 64) (t t' : Fin 512)
    (ht : lrank e t < 32) (ht' : lrank e t' < 32) (h : row c e t = row c e t') : t = t' := by
  have h1 := he t
  have h2 := he t'
  have h3 : c.val < 32 := c.isLt
  unfold row at h
  refine lrank_inj e t t' (BitVec.eq_of_toNat_eq ?_) ?_ <;> omega

/-- How many tokens naming expert `k` the devices before `c` hold. -/
def before (k : ℕ) : ℕ := prior c fun j => cnt (es m (back c j.val)) k

/-- Whether the kernel keeps token `t` of device `c`. -/
def Kept (t : Fin 512) : Prop := before m c (es m c (ix2 t 0)).toNat + lrank (es m c) t < 204 ∧ lrank (es m c) t < 32

theorem KEEP_apply (he : ∀ t, (es m c (ix2 t 0)).toNat < 64) (t : Fin 512) : KEEP m c (ix2 t 0) = 1#1 ↔ Kept m c t :=
  keep_apply c (es m c) he (CALL m c) (fun j k => cnt (es m (back c j.val)) k.val) (fun j k => counts_apply _ k) t

theorem row_lt (he : ∀ t, (es m c (ix2 t 0)).toNat < 64) (t : Fin 512) (ht : Kept m c t) : row c (es m c) t < 2048 := by
  have := ht.2
  have := he t
  unfold row
  omega

open Classical in
/-- The selection's entries. -/
theorem SEL_apply (he : ∀ t, (es m c (ix2 t 0)).toNat < 64) (t : Fin 512) (r : Fin 2048) :
    k0_pay12 (F := Ideal) (KEEP m c) (PLACE m c) (ix2 t r) = if row c (es m c) t = r.val ∧ Kept m c t then (1 : EReal) else 0 := by
  rw [sel_apply]
  refine if_congr ?_ rfl rfl
  rw [KEEP_apply m c he]
  refine and_congr_left fun hk => ?_
  rw [show PLACE m c (ix2 t 0) = BitVec.ofNat 32 (row c (es m c) t) from place_apply c (es m c) he t]
  have h1 := row_lt m c he t hk
  have h2 := r.isLt
  constructor
  · intro h
    have := congrArg BitVec.toNat h
    rw [BitVec.toNat_ofNat, BitVec.toNat_ofNat] at this
    omega
  · intro h
    rw [h]

/-- The gathered row at a kept token's place is the token's. -/
theorem SB_apply (he : ∀ t, (es m c (ix2 t 0)).toNat < 64) (t : Fin 512) (ht : Kept m c t) (d : Fin 256) :
    SB m c (ix2 ⟨row c (es m c) t, row_lt m c he t ht⟩ d) = xs m c (ix2 t d) := by
  unfold SB
  rw [gather_apply, Finset.sum_eq_single t]
  · rw [SEL_apply m c he, if_pos ⟨rfl, ht⟩, one_mul]
  · intro t' _ hne
    rw [SEL_apply m c he, if_neg, zero_mul]
    rintro ⟨hr, hk⟩
    exact hne (row_inj c (es m c) he t' t hk.2 ht.2 hr)
  · intro h
    exact absurd (Finset.mem_univ _) h

theorem back_ahead : ∀ (c : Dev nD) (n : Fin 32), back (ahead c n.val) n.val = c := by decide +kernel

/-- The device that holds expert `k`. -/
def home (k : ℕ) (hk : k < 64) : Dev nD := ⟨k / 2, by show k / 2 < 32; omega⟩

/-- The row that comes back for a row: the row times its expert's weights. -/
theorem RB_apply (r : Fin 2048) (f : Fin 512) :
    RB m c (ix2 r f) = ∑ d : Fin 256, SB m c (ix2 r d)
      * ws m (ahead c (r.val / 64)) (ix3 (⟨r.val / 32 % 2, by omega⟩ : Fin 2) d f) := by
  have hr := r.isLt
  show k0_pay15 (F := Ideal) _ _ (ix2 _ f) = _
  rw [expert_apply]
  refine Finset.sum_congr rfl fun d _ => congrArg (· * ws m (ahead c (r.val / 64)) (ix3 (⟨r.val / 32 % 2, by omega⟩ : Fin 2) d f)) ?_
  have hi : (ix2 (⟨32 * (r.val / 32) + r.val % 32, by omega⟩ : Fin 2048) d : S2048x256.Idx) = ix2 r d := by
    congr 1
    exact Fin.ext (by show 32 * (r.val / 32) + r.val % 32 = r.val; omega)
  refine Eq.trans (b := AB m (ahead c (r.val / 64)) (ix2 (⟨32 * (r.val / 32) + r.val % 32, by omega⟩ : Fin 2048) d)) rfl ?_
  rw [hi]
  show SB m (back (ahead c (r.val / 64)) (r.val / 64)) (ix2 r d) = SB m c (ix2 r d)
  rw [back_ahead c ⟨r.val / 64, by omega⟩]

/-- The kernel's result: each kept token times its expert's weights, zero for the others. -/
theorem OUT_apply (he : ∀ t, (es m c (ix2 t 0)).toNat < 64) (t f : Fin 512) [Decidable (Kept m c t)] :
    OUT m c (ix2 t f) = if Kept m c t then
      ∑ d : Fin 256, xs m c (ix2 t d) * ws m (home _ (he t)) (ix3 (⟨(es m c (ix2 t 0)).toNat % 2, by omega⟩ : Fin 2) d f) else 0 := by
  unfold OUT
  rw [spread_apply]
  split_ifs with ht
  · have hk := he t
    have hc : c.val < 32 := c.isLt
    have h64 : ahead c (row c (es m c) t / 64) = home _ (he t) := by
      refine Fin.ext ?_
      show (c.val + row c (es m c) t / 64) % 32 = (es m c (ix2 t 0)).toNat / 2
      have := ht.2
      unfold row
      omega
    have h32 : row c (es m c) t / 32 % 2 = (es m c (ix2 t 0)).toNat % 2 := by
      have := ht.2
      unfold row
      omega
    rw [Finset.sum_eq_single (⟨row c (es m c) t, row_lt m c he t ht⟩ : Fin 2048)]
    · rw [SEL_apply m c he, if_pos ⟨rfl, ht⟩, one_mul, RB_apply]
      refine Finset.sum_congr rfl fun d _ => ?_
      rw [SB_apply m c he t ht]
      refine congrArg (xs m c (ix2 t d) * ·) ?_
      rw [h64]
      exact congrArg (fun s => ws m (home _ (he t)) (ix3 s d f)) (Fin.ext h32)
    · intro r _ hne
      rw [SEL_apply m c he, if_neg, zero_mul]
      rintro ⟨hr, _⟩
      exact hne (Fin.ext hr.symm)
    · intro h
      exact absurd (Finset.mem_univ _) h
  · refine Finset.sum_eq_zero fun r _ => ?_
    rw [SEL_apply m c he, if_neg fun h => ht h.2, zero_mul]

end Cert.KernelIdeal.Val

end
-- ==== Proof.Ranks.lean ====
/- The rank of each entry of a column of words — how many entries before it hold its word — as a host program counts it:
   every pair compared, the bits widened and summed along the row. -/
module

public import Idealize.ShloMosaic.Lib.StableHlo
public import Idealize.ShloMosaic.PureOps.Reduce
public import Idealize.ShloMosaic.PureOps.Ideal.Laws
public import Idealize.ShloMosaic.Lib.IndicatorCount
public import Idealize.ShloMosaic.Lib.ValueLayout
public import Idealize.ShloMosaic.Lib.ValueIdx
public import Idealize.ShloMosaic.Lib.WordCmp

@[expose] public section

noncomputable section

namespace Cert.Ranks

open Idealize.ShloMosaic Idealize.ShloMosaic.ValueIdx Idealize.ShloMosaic.WordCmp

variable {n : ℕ}

/-- How many entries before `t` hold its word. -/
def rank (e : (⟨2, ![n, 1]⟩ : Shape).Idx → BitVec 32) (t : Fin n) : ℕ :=
  (Finset.univ.filter fun t' : Fin n => t' < t ∧ e (ix2 t' 0) = e (ix2 t 0)).card

theorem rank_le (e : (⟨2, ![n, 1]⟩ : Shape).Idx → BitVec 32) (t : Fin n) : rank e t ≤ n :=
  (Finset.card_le_univ _).trans (by simp)

/-- A column of more than one entry cast to a vector. -/
theorem column_apply {α : Type} (e : (⟨2, ![n, 1]⟩ : Shape).Idx → α) (h : (⟨2, ![n, 1]⟩ : Shape).ShapeCasts ⟨1, ![n]⟩) (t : Fin n) :
    shapeCast ⟨1, ![n]⟩ e h (ix1 t) = e (ix2 t 0) :=
  shapeCast_apply e h _ _ (by
    rw [Shape.rowMajor_val_two, Shape.rowMajor_val_one]
    show t.val * 1 + 0 = t.val
    omega)

/-- A vector spread along the columns of a square reads the row. -/
theorem rows_apply {α : Type} (hn : n ≠ 1) (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, n]⟩ (![0, 1] : Fin 2 → Fin 2)) (i j : Fin n) :
    broadcastInDim ⟨2, ![n, n]⟩ ![0, 1] h2 (broadcastInDim ⟨2, ![n, 1]⟩ ![0] h1 v) (ix2 i j) = v (ix1 i) := by
  rw [broadcastInDim_apply _ _ _ (ix2 i j) (ix2 i 0) (fun a => by fin_cases a <;> simp [hn]),
    broadcastInDim_apply _ _ _ (ix2 i 0) (ix1 i) (fun a => by fin_cases a; simp [hn])]

/-- A vector spread along the rows of a square reads the column. -/
theorem cols_apply {α : Type} (hn : n ≠ 1) (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![n, n]⟩ (![0, 1] : Fin 2 → Fin 2)) (i j : Fin n) :
    broadcastInDim ⟨2, ![n, n]⟩ ![0, 1] h2 (broadcastInDim ⟨2, ![1, n]⟩ ![1] h1 v) (ix2 i j) = v (ix1 j) := by
  rw [broadcastInDim_apply _ _ _ (ix2 i j) (ix2 0 j) (fun a => by fin_cases a <;> simp [hn]),
    broadcastInDim_apply _ _ _ (ix2 0 j) (ix1 j) (fun a => by fin_cases a; simp [hn])]

/-- Entry `t` of the summed comparisons is the rank of entry `t`. -/
theorem ranks_apply (hn : n ≠ 1) (hs : n < 2 ^ 31) (e : (⟨2, ![n, 1]⟩ : Shape).Idx → BitVec 32)
    (hc : (⟨2, ![n, 1]⟩ : Shape).ShapeCasts ⟨1, ![n]⟩)
    (h1 : (⟨1, ![n]⟩ : Shape).BroadcastsInDim ⟨2, ![n, 1]⟩ (![0] : Fin 1 → Fin 2))
    (h2 : (⟨2, ![n, 1]⟩ : Shape).BroadcastsInDim ⟨2, ![n, n]⟩ (![0, 1] : Fin 2 → Fin 2))
    (h3 : (⟨1, ![n]⟩ : Shape).BroadcastsInDim ⟨2, ![1, n]⟩ (![1] : Fin 1 → Fin 2))
    (h4 : (⟨2, ![1, n]⟩ : Shape).BroadcastsInDim ⟨2, ![n, n]⟩ (![0, 1] : Fin 2 → Fin 2))
    (hr : (⟨2, ![n, n]⟩ : Shape).ReducesTo [1] ⟨1, ![n]⟩) (hr' : (⟨2, ![n, n]⟩ : Shape).Reduces [1] ⟨1, ![n]⟩)
    (hu : 0 < (⟨0, ![]⟩ : Shape).numel) (hw : 1 < 32) (t : Fin n) :
    Host.reduce IntOp.addi (extui 32 (andi
      (cmpi .eq (broadcastInDim ⟨2, ![n, n]⟩ ![0, 1] h2 (broadcastInDim ⟨2, ![n, 1]⟩ ![0] h1 (shapeCast ⟨1, ![n]⟩ e hc)))
        (broadcastInDim ⟨2, ![n, n]⟩ ![0, 1] h4 (broadcastInDim ⟨2, ![1, n]⟩ ![1] h3 (shapeCast ⟨1, ![n]⟩ e hc))))
      (cmpi .slt (broadcastInDim ⟨2, ![n, n]⟩ ![0, 1] h4 (broadcastInDim ⟨2, ![1, n]⟩ ![1] h3 (iotaInDim ⟨1, ![n]⟩ 32 0)))
        (broadcastInDim ⟨2, ![n, n]⟩ ![0, 1] h2 (broadcastInDim ⟨2, ![n, 1]⟩ ![0] h1 (iotaInDim ⟨1, ![n]⟩ 32 0))))) hw)
      (constantI ⟨0, ![]⟩ 32 0#32) hr hu (ix1 t) = BitVec.ofNat 32 (rank e t) := by
  rw [Host.reduce_eq_fold_single _ _ _ hr hr' hu]
  refine (IndicatorCount.fold_addi_setWidth_eq_card (ι := Fin n) (w := 32) _ Finset.univ).trans ?_
  refine congrArg (fun S : Finset (Fin n) => BitVec.ofNat 32 S.card) (Finset.filter_congr fun t' _ => ?_)
  have hl : hr'.lift (ix1 t) t' = ix2 t t' := funext fun a => by fin_cases a <;> rfl
  show andi _ _ (hr'.lift (ix1 t) t') = 1#1 ↔ _
  rw [hl]
  show IntOp.andi (IntOp.cmpi .eq (broadcastInDim _ _ h2 _ (ix2 t t')) (broadcastInDim _ _ h4 _ (ix2 t t')))
    (IntOp.cmpi .slt (broadcastInDim _ _ h4 _ (ix2 t t')) (broadcastInDim _ _ h2 _ (ix2 t t'))) = 1#1 ↔ _
  rw [rows_apply hn, cols_apply hn, rows_apply hn, cols_apply hn, column_apply, column_apply]
  show IntOp.andi (IntOp.cmpi .eq _ _) (IntOp.cmpi .slt (BitVec.ofNat 32 t'.val) (BitVec.ofNat 32 t.val)) = 1#1 ↔ _
  have ht := t.isLt
  have ht' := t'.isLt
  rw [show ∀ a b : BitVec 1, IntOp.andi a b = 1#1 ↔ a = 1#1 ∧ b = 1#1 by decide, cmpi_eq_eq, ofBool_decide_eq_one_iff,
    cmpi_slt_ofNat_eq_one_iff (by omega) (by omega), and_comm, eq_comm]
  exact Iff.rfl

end Cert.Ranks

end
-- ==== Proof.Split.lean ====
/- The rank of a token among all devices' tokens: the tokens of the earlier devices that name its expert, then those
   before it on its own device. -/
module

public import proofs.«01_k».proof.Proof.Rows
public import proofs.«01_k».proof.Proof.Ranks

@[expose] public section

noncomputable section

namespace Cert.KernelIdeal.Val

open Cert.KernelIdeal Cert.KernelIdeal.Proto
open Idealize.ShloMosaic Idealize.ShloMosaic.ValueIdx

/-- The place in the whole array of token `t` of device `c`. -/
def glob (c : Fin 32) (t : Fin 512) : Fin 16384 := ⟨512 * c.val + t.val, by have := c.isLt; have := t.isLt; omega⟩

/-- Devices and their tokens are the whole array's tokens. -/
def globEquiv : Fin 32 × Fin 512 ≃ Fin 16384 where
  toFun p := glob p.1 p.2
  invFun T := (⟨T.val / 512, by have := T.isLt; omega⟩, ⟨T.val % 512, by omega⟩)
  left_inv p := by
    have h2 := p.2.isLt
    refine Prod.ext (Fin.ext ?_) (Fin.ext ?_)
    · show (512 * p.1.val + p.2.val) / 512 = p.1.val
      omega
    · show (512 * p.1.val + p.2.val) % 512 = p.2.val
      omega
  right_inv T := Fin.ext (by show 512 * (T.val / 512) + T.val % 512 = T.val; omega)

theorem glob_lt (d c : Fin 32) (s t : Fin 512) : glob d s < glob c t ↔ d < c ∨ d = c ∧ s < t := by
  have hs := s.isLt
  have ht := t.isLt
  show 512 * d.val + s.val < 512 * c.val + t.val ↔ d.val < c.val ∨ d = c ∧ s.val < t.val
  rw [Fin.ext_iff]
  omega

/-- A sum over the rows of counts a device received is the sum over the devices before it. -/
theorem sum_received (c : Fin 32) (F : Fin 32 → ℕ) :
    (∑ d : Fin 32, if d < c then F d else 0) = prior c fun j => F (back c j.val) := by
  unfold prior
  have inv : ∀ c j : Fin 32, (back c (back c j.val).val : Fin 32) = j := by decide +kernel
  have lt : ∀ c j : Fin 32, (back c j.val : Fin 32) < c ↔ 1 ≤ j.val ∧ j.val ≤ c.val := by decide +kernel
  symm
  refine Fintype.sum_equiv ⟨fun j : Fin 32 => (back c j.val : Fin 32), fun j : Fin 32 => (back c j.val : Fin 32), inv c, inv c⟩ _ _ fun j => ?_
  exact if_congr (lt c j).symm rfl rfl

/-- The rank of a token in the whole array is what the earlier devices hold of its expert, and its rank on its own device. -/
theorem rank_split (E : (⟨2, ![16384, 1]⟩ : Shape).Idx → BitVec 32) (e : Fin 32 → (⟨2, ![512, 1]⟩ : Shape).Idx → BitVec 32)
    (hE : ∀ d s, E (ix2 (glob d s) 0) = e d (ix2 s 0)) (c : Fin 32) (t : Fin 512) :
    Ranks.rank E (glob c t) = (prior c fun j => cnt (e (back c j.val)) (e c (ix2 t 0)).toNat) + lrank (e c) t := by
  rw [← sum_received c fun d => cnt (e d) (e c (ix2 t 0)).toNat]
  have hl : lrank (e c) t = ∑ d : Fin 32, if d = c then lrank (e c) t else 0 := by
    rw [Finset.sum_ite_eq' Finset.univ c, if_pos (Finset.mem_univ _)]
  rw [hl, ← Finset.sum_add_distrib]
  unfold Ranks.rank
  rw [Finset.card_filter, ← Equiv.sum_comp globEquiv, Fintype.sum_prod_type]
  refine Finset.sum_congr rfl fun d _ => ?_
  have hp (s : Fin 512) : (globEquiv (d, s) < glob c t ∧ E (ix2 (globEquiv (d, s)) 0) = E (ix2 (glob c t) 0))
      ↔ ((d < c ∨ d = c ∧ s < t) ∧ e d (ix2 s 0) = e c (ix2 t 0)) := by
    rw [hE c t]
    show (glob d s < glob c t ∧ E (ix2 (glob d s) 0) = _) ↔ _
    rw [hE d s, glob_lt]
  refine (Finset.sum_congr rfl fun s _ => if_congr (hp s) rfl rfl).trans ?_
  rw [← Finset.card_filter]
  rcases lt_trichotomy d c with h | h | h
  · rw [if_pos h, if_neg h.ne, Nat.add_zero]
    refine congrArg Finset.card (Finset.filter_congr fun s _ => ?_)
    rw [BitVec.ofNat_toNat, BitVec.setWidth_eq]
    exact and_iff_right (Or.inl h)
  · subst h
    rw [if_neg (lt_irrefl _), if_pos rfl, Nat.zero_add]
    refine congrArg Finset.card (Finset.filter_congr fun s _ => and_congr_left fun _ => ?_)
    simp
  · rw [if_neg h.not_gt, if_neg h.ne', Nat.add_zero, Finset.card_eq_zero, Finset.filter_eq_empty_iff]
    rintro s _ ⟨h1 | h1, _⟩
    · exact absurd h1 h.not_gt
    · exact absurd h1.1 h.ne'

end Cert.KernelIdeal.Val

end
-- ==== Proof.Capped.lean ====
/- The precondition of the value claim: its operations' shapes, and the claims on arguments and semaphores again from
   the inputs it admits. -/
module

public import proofs.«01_k».proof.Proof.Frames

@[expose] public section

noncomputable section

namespace Cert.Proof

open Idealize.ShloMosaic Idealize.SL.Sem

/-- The shapes the precondition's operations take fit, on one device's blocks. -/
theorem capped_facts : Cert.Pre_capped_KernelIdeal.Facts where
  shapeCasts_S512x1_S512 := by decide
  bcast_S512_S512x1_0 := by decide
  bcast_S512_S1x512_1 := by decide
  bcast_S512x1_S512x512_0_1 := by decide
  bcast_S1x512_S512x512_0_1 := by decide
  natLt_1_32 := by decide
  reducesTo_S512x512_S512_d1 := by decide
  h_S_ := by decide
  bcast_S_S512 := by decide

/-- The same on whole arrays. -/
theorem capped_ref_facts : Cert.Pre_capped_ReferenceIdeal.Facts where
  shapeCasts_S16384x1_S16384 := by decide
  bcast_S16384_S16384x1_0 := by decide
  bcast_S16384_S1x16384_1 := by decide
  bcast_S16384x1_S16384x16384_0_1 := by decide
  bcast_S1x16384_S16384x16384_0_1 := by decide
  natLt_1_32 := by decide
  reducesTo_S16384x16384_S16384_d1 := by decide
  h_S_ := by decide
  bcast_S_S16384 := by decide

attribute [local instance] capped_facts capped_ref_facts

/-- The idealization's claim on arguments and semaphores, from the inputs of the value claim. -/
theorem frame_ideal_capped : Cert.quiescent_KernelIdeal_pre_capped_KernelIdeal := fun m ρ _ => frame_ideal m ρ trivial

/-- The reference's, likewise. -/
theorem frame_ref_capped : Cert.quiescent_ReferenceIdeal_pre_capped_ReferenceIdeal := fun m ρ _ => frame_ref m ρ trivial

end Cert.Proof

end
-- ==== Proof.Reads.lean ====
/- What the precondition says of one device's tokens: each names one of the 64 experts, and fewer than 32 before it name
   the same. -/
module

public import proofs.«01_k».proof.Proof.Capped
public import proofs.«01_k».proof.Proof.Ranks

@[expose] public section

noncomputable section

namespace Cert.Proof

open Idealize.ShloMosaic Idealize.ShloMosaic.ValueIdx Idealize.ShloMosaic.WordCmp Cert.Pre_capped_KernelIdeal

attribute [local instance] capped_facts

/-- The precondition at a token. -/
theorem capped_reads (x : FVec Ideal S512x256 .bf16) (g : FVec Ideal S256x64 .bf16) (e : IVec S512x1 32) (w : FVec Ideal S2x256x512 .bf16)
    (t : Fin 512) (h : fn (F := Ideal) x g e w (ix1 t) = 1#1) : (e (ix2 t 0)).toNat < 64 ∧ Ranks.rank e t < 32 := by
  have hc : shapeCast S512 e Facts.shapeCasts_S512x1_S512 (ix1 t) = e (ix2 t 0) := Ranks.column_apply e _ t
  have hr := Ranks.ranks_apply (n := 512) (by decide) (by decide) e Facts.shapeCasts_S512x1_S512 Facts.bcast_S512_S512x1_0
    Facts.bcast_S512x1_S512x512_0_1 Facts.bcast_S512_S1x512_1 Facts.bcast_S1x512_S512x512_0_1 Facts.reducesTo_S512x512_S512_d1 (by decide)
    Facts.h_S_ Facts.natLt_1_32 t
  have hf : fn (F := Ideal) x g e w (ix1 t) = IntOp.andi (IntOp.andi
      (IntOp.cmpi .sge (shapeCast S512 e Facts.shapeCasts_S512x1_S512 (ix1 t)) 0#32)
      (IntOp.cmpi .slt (shapeCast S512 e Facts.shapeCasts_S512x1_S512 (ix1 t)) 64#32)) (IntOp.cmpi .slt (BitVec.ofNat 32 (Ranks.rank e t)) 32#32) := by
    rw [← hr]
    rfl
  have hand : ∀ a b : BitVec 1, IntOp.andi a b = 1#1 ↔ a = 1#1 ∧ b = 1#1 := by decide
  have hle := Ranks.rank_le e t
  rw [hf, hc, hand, hand, cmpi_sge_zero, ofBool_decide_eq_one_iff, cmpi_slt_eq, ofBool_decide_eq_one_iff,
    show (32#32 : BitVec 32) = BitVec.ofNat 32 32 from rfl, cmpi_slt_ofNat_eq_one_iff (by omega) (by omega)] at h
  obtain ⟨⟨h0, h1⟩, h2⟩ := h
  rw [toInt_eq_toNat_of_lt_half h0] at h1
  refine ⟨?_, h2⟩
  have : (64#32 : BitVec 32).toInt = 64 := by decide
  omega

end Cert.Proof

end
-- ==== Proof.RefValue.lean ====
/- What the reference computes, at the ideal values: each token whose rank is below the bound times its expert's weights, zero
   for the others. -/
module

public import proofs.«01_k».proof.Proof.Gen.ReferenceIdeal.Run
public import proofs.«01_k».proof.Proof.Ranks

@[expose] public section

noncomputable section

namespace Cert.ReferenceIdeal.Val

open Cert.ReferenceIdeal Cert.ReferenceIdeal.Gen Cert.Ranks
open Idealize.ShloMosaic Idealize.ShloMosaic.ValueIdx Idealize.ShloMosaic.WordCmp

/-- An expert's name as the lookup takes it: a negative one counted from the end. -/
def names (e : IVec S16384x1 32) : IVec S16384x1 32 :=
  broadcastInDim S16384x1 ![0] bcast_S16384_S16384x1_0 (select (cmpi .slt (shapeCast S16384 e shapeCasts_S16384x1_S16384) (broadcastInDim S16384 ![] bcast_S_S16384 (constantI S_ 32 0#32))) (addi (shapeCast S16384 e shapeCasts_S16384x1_S16384) (broadcastInDim S16384 ![] bcast_S_S16384 (constantI S_ 32 64#32))) (shapeCast S16384 e shapeCasts_S16384x1_S16384))

/-- Each token's expert's weights. -/
def looked (e : IVec S16384x1 32) (w : FVec Ideal S64x256x512 .bf16) : FVec Ideal S16384x256x512 .bf16 :=
  Host.gather gather_S64x256x512_S16384x1_S16384x256x512_12_0_n_n_0_1_1256512 w (names e)

/-- The ranks. -/
def ranks (e : IVec S16384x1 32) : IVec S16384 32 :=
  Host.reduce IntOp.addi (extui 32 (andi (cmpi .eq (broadcastInDim S16384x16384 ![0, 1] bcast_S16384x1_S16384x16384_0_1 (broadcastInDim S16384x1 ![0] bcast_S16384_S16384x1_0 (shapeCast S16384 e shapeCasts_S16384x1_S16384))) (broadcastInDim S16384x16384 ![0, 1] bcast_S1x16384_S16384x16384_0_1 (broadcastInDim S1x16384 ![1] bcast_S16384_S1x16384_1 (shapeCast S16384 e shapeCasts_S16384x1_S16384)))) (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) natLt_1_32) (constantI S_ 32 0#32) reducesTo_S16384x16384_S16384_d1 h_S_

/-- Each token times its expert's weights. -/
def products (x : FVec Ideal S16384x256 .bf16) (e : IVec S16384x1 32) (w : FVec Ideal S64x256x512 .bf16) : FVec Ideal S16384x512 .f32 :=
  Host.dotGeneral dot_S16384x256_S16384x256x512_S16384x512_1_1_n_2_0_0 none x (looked e w)

/-- The reference's result. -/
def refOut (x : FVec Ideal S16384x256 .bf16) (e : IVec S16384x1 32) (w : FVec Ideal S64x256x512 .bf16) : FVec Ideal S16384x512 .f32 :=
  select (broadcastInDim S16384x512 ![0, 1] bcast_S16384x1_S16384x512_0_1 (broadcastInDim S16384x1 ![0] bcast_S16384_S16384x1_0 (cmpi .slt (ranks e) (broadcastInDim S16384 ![] bcast_S_S16384 (constantI S_ 32 204#32))))) (products x e w) (broadcastInDim S16384x512 ![] bcast_S_S16384x512 (id (constant S_ .f32 0x00000000#32)))

variable (x : FVec Ideal S16384x256 .bf16) (e : IVec S16384x1 32) (w : FVec Ideal S64x256x512 .bf16)

theorem names_apply (he : ∀ t, (e (ix2 t 0)).toNat < 64) (t : Fin 16384) : names e (ix2 t 0) = e (ix2 t 0) := by
  unfold names
  rw [broadcastInDim_apply _ _ _ (ix2 t 0) (ix1 t) (fun a => by fin_cases a; rfl)]
  have hc : shapeCast S16384 e shapeCasts_S16384x1_S16384 (ix1 t) = e (ix2 t 0) := column_apply e _ t
  have h0 : IntOp.cmpi .slt (e (ix2 t 0)) 0#32 = 0#1 := by
    rw [cmpi_slt_zero, decide_eq_false (by have := he t; omega)]
    rfl
  show Scalar.select (IntOp.cmpi .slt (shapeCast S16384 e shapeCasts_S16384x1_S16384 (ix1 t)) 0#32) _
    (shapeCast S16384 e shapeCasts_S16384x1_S16384 (ix1 t)) = _
  rw [hc, h0, select_of_eq_zero rfl]

/-- The lookup at an index: the weights of the token's expert. -/
theorem looked_apply (he : ∀ t, (e (ix2 t 0)).toNat < 64) (t : Fin 16384) (d : Fin 256) (f : Fin 512) :
    looked e w (ix3 t d f) = w (ix3 (⟨(e (ix2 t 0)).toNat, he t⟩ : Fin 64) d f) := by
  unfold looked Host.gather
  refine congrArg w (funext fun a => Fin.ext ?_)
  have h0 : min (names e (ix2 t 0)).toInt.toNat 63 = (e (ix2 t 0)).toNat := by
    have := he t
    rw [names_apply e he, toInt_eq_toNat_of_lt_half (by omega)]
    omega
  match a with
  | ⟨0, _⟩ =>
    refine Eq.trans ?_ h0
    show gather_S64x256x512_S16384x1_S16384x256x512_12_0_n_n_0_1_1256512.start (ix3 t d f) (names e) 0 + 0 + 0 = _
    unfold GatherDims.start
    rw [dif_pos (show (0 : Fin 3) ∈ gather_S64x256x512_S16384x1_S16384x256x512_12_0_n_n_0_1_1256512.startIndexMap from List.mem_singleton.mpr rfl)]
    refine congrArg (fun i => min (names e i).toInt.toNat 63) (funext fun b => ?_)
    match b with
    | ⟨0, _⟩ => rfl
    | ⟨1, _⟩ => rfl
  | ⟨1, _⟩ => exact (Nat.zero_add _)
  | ⟨2, _⟩ => exact (Nat.zero_add _)

/-- A token's product is the sum over its features. -/
theorem products_apply (he : ∀ t, (e (ix2 t 0)).toNat < 64) (t : Fin 16384) (f : Fin 512) :
    products x e w (ix2 t f) = ∑ d : Fin 256, x (ix2 t d) * w (ix3 (⟨(e (ix2 t 0)).toNat, he t⟩ : Fin 64) d f) := by
  unfold products
  simp only [Host.dotGeneral]
  refine (Ideal.dotGeneral_apply dot_S16384x256_S16384x256x512_S16384x512_1_1_n_2_0_0 none .single x (looked e w) (ix2 t f)).trans ?_
  refine Fintype.sum_equiv (contrEquiv1 dot_S16384x256_S16384x256x512_S16384x512_1_1_n_2_0_0 256 rfl rfl) _ _ fun k => ?_
  rw [← looked_apply e w he]
  refine congrArg₂ (· * ·) (congrArg x ?_) (congrArg (looked e w) ?_)
  · exact funext fun a => by fin_cases a <;> rfl
  · exact funext fun a => by fin_cases a <;> rfl

theorem rank_word (t : Fin 16384) : ranks e (ix1 t) = BitVec.ofNat 32 (rank e t) :=
  ranks_apply (by decide) (by decide) e _ _ _ _ _ _ (by decide) _ _ t

/-- The reference's result at an index. -/
theorem refOut_apply (he : ∀ t, (e (ix2 t 0)).toNat < 64) (t : Fin 16384) (f : Fin 512) :
    refOut x e w (ix2 t f) = if rank e t < 204 then
      ∑ d : Fin 256, x (ix2 t d) * w (ix3 (⟨(e (ix2 t 0)).toNat, he t⟩ : Fin 64) d f) else 0 := by
  unfold refOut
  rw [← products_apply x e w he]
  show Scalar.select (broadcastInDim S16384x512 ![0, 1] bcast_S16384x1_S16384x512_0_1 (broadcastInDim S16384x1 ![0] bcast_S16384_S16384x1_0
      (cmpi .slt (ranks e) (broadcastInDim S16384 ![] bcast_S_S16384 (constantI S_ 32 204#32)))) (ix2 t f))
    (products x e w (ix2 t f)) (Ideal.ofBits .f32 0x00000000#32) = _
  rw [broadcastInDim_apply _ _ _ (ix2 t f) (ix2 t 0) (fun a => by fin_cases a <;> rfl),
    broadcastInDim_apply _ _ _ (ix2 t 0) (ix1 t) (fun a => by fin_cases a; rfl)]
  show Scalar.select (IntOp.cmpi .slt (ranks e (ix1 t)) (BitVec.ofNat 32 204)) _ _ = _
  have hr := rank_le e t
  rw [rank_word, Ideal.ofBits_zero_f32]
  split_ifs with h
  · rw [select_of_eq_one ((cmpi_slt_ofNat_eq_one_iff (by omega) (by omega)).2 h)]
  · rw [select_of_eq_zero ((cmpi_slt_ofNat_eq_zero_iff (by omega) (by omega)).2 (by omega))]

end Cert.ReferenceIdeal.Val

end
-- ==== Proof.Equation.lean ====
/- Every device's result is its block of the reference's, from inputs where no device holds more than 32 tokens of an
   expert. -/
module

public import proofs.«01_k».proof.Proof.Split
public import proofs.«01_k».proof.Proof.Reads
public import proofs.«01_k».proof.Proof.RefValue
public import Idealize.ShloMosaic.Lib.Layout

@[expose] public section

noncomputable section

namespace Cert.Proof

open Idealize.ShloMosaic Idealize.ShloMosaic.ValueIdx Idealize.SL.Sem
open Cert.KernelIdeal.Proto Cert.KernelIdeal.Val

attribute [local instance] capped_facts

/-- A block of rows read at an index. -/
theorem block_rows {α : Type} {w : ℕ} (h : Layout.Tiles ⟨2, ![512, w]⟩ ⟨2, ![16384, w]⟩ 0 32) (c : Fin 32)
    (v : (⟨2, ![16384, w]⟩ : Shape).Idx → α) (t : Fin 512) (j : Fin w) :
    Layout.block ⟨2, ![512, w]⟩ ⟨2, ![16384, w]⟩ 0 32 c v h (ix2 t j) = v (ix2 (glob c t) j) := by
  refine congrArg v (funext fun a => Fin.ext ?_)
  fin_cases a
  · show c.val * 512 + t.val = 512 * c.val + t.val
    omega
  · rfl

/-- A device's two experts' weights read at an index. -/
theorem block_experts {α : Type} (h : Layout.Tiles ⟨3, ![2, 256, 512]⟩ ⟨3, ![64, 256, 512]⟩ 0 32) (k : ℕ) (hk : k < 64)
    (v : (⟨3, ![64, 256, 512]⟩ : Shape).Idx → α) (d : Fin 256) (f : Fin 512) :
    Layout.block ⟨3, ![2, 256, 512]⟩ ⟨3, ![64, 256, 512]⟩ 0 32 (⟨k / 2, by omega⟩ : Fin 32) v h (ix3 (⟨k % 2, by omega⟩ : Fin 2) d f)
      = v (ix3 (⟨k, hk⟩ : Fin 64) d f) := by
  refine congrArg v (funext fun a => Fin.ext ?_)
  fin_cases a
  · show k / 2 * 2 + k % 2 = k
    omega
  · rfl
  · rfl

variable (m : (ℓ : Loc Cert.KernelIdeal.nD Cert.KernelIdeal.τ Cert.KernelIdeal.sig) → Buf (Elt Ideal) ℓ)

/-- The kernel's result on device `c` is block `c` of the reference's. -/
theorem out_block (x : FVec Ideal Cert.ReferenceIdeal.S16384x256 .bf16) (e : IVec Cert.ReferenceIdeal.S16384x1 32)
    (w : FVec Ideal Cert.ReferenceIdeal.S64x256x512 .bf16) (hpre : Cert.Pre_KernelIdeal_capped_KernelIdeal m)
    (hx : ∀ c : Fin 32, xs m c = Layout.block ⟨2, ![512, 256]⟩ ⟨2, ![16384, 256]⟩ 0 32 c x)
    (he : ∀ c : Fin 32, es m c = Layout.block ⟨2, ![512, 1]⟩ ⟨2, ![16384, 1]⟩ 0 32 c e)
    (hw : ∀ c : Fin 32, ws m c = Layout.block ⟨3, ![2, 256, 512]⟩ ⟨3, ![64, 256, 512]⟩ 0 32 c w) (c : Fin 32) :
    OUT m c = Layout.block ⟨2, ![512, 512]⟩ ⟨2, ![16384, 512]⟩ 0 32 c (Cert.ReferenceIdeal.Val.refOut x e w) := by
  have hr (c : Fin 32) (t : Fin 512) : (es m c (ix2 t 0)).toNat < 64 ∧ lrank (es m c) t < 32 := by
    rw [es_eq m c]
    exact capped_reads _ _ _ _ t (congrFun (hpre c) (ix1 t))
  have hE (d : Fin 32) (s : Fin 512) : e (ix2 (glob d s) 0) = es m d (ix2 s 0) := by
    rw [he d]
    exact (block_rows _ d e s 0).symm
  have hlt (T : Fin 16384) : (e (ix2 T 0)).toNat < 64 := by
    obtain ⟨⟨d, s⟩, rfl⟩ := globEquiv.surjective T
    show (e (ix2 (glob d s) 0)).toNat < 64
    rw [hE]
    exact (hr d s).1
  have key (t f : Fin 512) : OUT m c (ix2 t f) = Cert.ReferenceIdeal.Val.refOut x e w (ix2 (glob c t) f) := by
    classical
    rw [OUT_apply m c (fun t => (hr c t).1), Cert.ReferenceIdeal.Val.refOut_apply x e w hlt]
    refine if_congr ?_ (Finset.sum_congr rfl fun d _ => ?_) rfl
    · rw [rank_split e (fun d => es m d) hE c t]
      exact and_iff_left (hr c t).2
    · refine congrArg₂ (· * ·) ?_ ?_
      · rw [hx c]
        exact block_rows _ c x t d
      · rw [hw]
        refine (block_experts _ _ (hr c t).1 w d f).trans ?_
        exact congrArg (fun k : Fin 64 => w (ix3 k d f)) (Fin.ext (congrArg BitVec.toNat (hE c t).symm))
  funext i
  have hi : i = ix2 (i 0 : Fin 512) (i 1 : Fin 512) := funext fun a => by fin_cases a <;> rfl
  exact (congrArg (OUT m c) hi).trans ((key (i 0) (i 1)).trans
    ((block_rows _ c (Cert.ReferenceIdeal.Val.refOut x e w) (i 0) (i 1)).symm.trans (congrArg _ hi.symm)))

/-- The value claim. -/
theorem algebraic : Cert.algebraic_KernelIdeal_ReferenceIdeal_pre_capped_KernelIdeal := by
  intro m g m' g' hpre hargs
  refine ⟨Cert.ReferenceIdeal.Val.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨?_, (h.1 c).2⟩) (run_main (F := Ideal) m g)
    exact (h.1 c).1.trans (out_block m _ _ _ hpre (fun c => (xs_eq m c).trans (hargs c).1) (fun c => (es_eq m c).trans (hargs c).2.2.1)
      (fun c => (ws_eq m c).trans (hargs c).2.2.2) c)
  · exact (θ_run Cert.ReferenceIdeal.defs _ _).mono (fun r h => ⟨(h 0).1, (h 0).2⟩) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

/-- Everything claimed: the arguments and semaphores of the kernel, its idealization and the reference, that the
    idealization is the kernel's text, and the value of the kernel's result. -/
theorem claim : Cert.Claim :=
  ⟨Cert.Kernel.Gen.facts, Cert.KernelIdeal.Gen.facts, Cert.ReferenceIdeal.Gen.facts, capped_facts, capped_ref_facts,
    frame_kernel, frame_ideal, frame_ideal_capped, frame_ref, frame_ref_capped, trivial, algebraic⟩

end Cert.Proof

end
